-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v131) = v0 c
          ∧ r.2.mem ((c.tc : Thread Cert.Reference3Ideal.nD Cert.Reference3Ideal.τ).loc Cert.Reference3Ideal.main_v132) = v1 c
          ∧ r.2.mem ((c.tc : Thread Cert.Reference3Ideal.nD Cert.Reference3Ideal.τ).loc Cert.Reference3Ideal.main_v133) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v106) = v0 c
          ∧ r.2.mem ((c.tc : Thread Cert.Reference4Ideal.nD Cert.Reference4Ideal.τ).loc Cert.Reference4Ideal.main_v107) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_in_range.lean ====
abbrev S82 : Shape := ⟨1, ![82]⟩
abbrev S1 : Shape := ⟨1, ![1]⟩
abbrev S41984x1024 : Shape := ⟨2, ![41984, 1024]⟩
abbrev S2x16x1024x1024 : Shape := ⟨4, ![2, 16, 1024, 1024]⟩
abbrev S_ : Shape := ⟨0, ![]⟩

class Facts : Prop where
  bcast_S_S82 : S_.BroadcastsInDim S82 (![] : Fin 0 → Fin S82.rank)
  reducesTo_S82_S_d0 : S82.ReducesTo [0] S_
  h_S_ : 0 < S_.numel

variable [Facts]

def fn {F : FTy → Type} [FloatOps F] (main_arg0 : IVec S82 32) (main_arg1 : IVec S1 32) (main_arg2 : FVec F S41984x1024 .bf16) (main_arg3 : FVec F S2x16x1024x1024 .f32) (main_arg4 : FVec F S2x16x1024x1024 .f32) (main_arg5 : FVec F S2x16x1024x1024 .f32) : IVec S_ 1 :=
  let main_c : IVec S_ 32 := constantI S_ 32 0#32
  let main_v0 : IVec S82 32 := broadcastInDim S82 ![] bcast_S_S82 main_c
  let main_v1 : IVec S82 1 := cmpi .sge main_arg0 main_v0
  let main_c_0 : IVec S_ 32 := constantI S_ 32 16#32
  let main_v2 : IVec S82 32 := broadcastInDim S82 ![] bcast_S_S82 main_c_0
  let main_v3 : IVec S82 1 := cmpi .slt main_arg0 main_v2
  let main_v4 : IVec S82 1 := andi main_v1 main_v3
  let main_c_1 : IVec S_ 1 := constantI S_ 1 1#1
  let main_v5 : IVec S_ 1 := (fun x v => Host.reduce IntOp.andi x v reducesTo_S82_S_d0 h_S_) main_v4 main_c_1
  main_v5
-- ==== Kernel.lean ====
abbrev S82 : Shape := ⟨1, ![82]⟩
abbrev S1 : Shape := ⟨1, ![1]⟩
abbrev S41984x1024 : Shape := ⟨2, ![41984, 1024]⟩
abbrev S2x16x1024x1024 : Shape := ⟨4, ![2, 16, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 5
  | .vmem => 13
  | .smem => 2
  | _ => 0

abbrev bufTy : (tb : Table) → Fin (tcTables nBuf tb) → BufTy
  | .hbm, ⟨0, _⟩ => ⟨S41984x1024, .bf16⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S41984x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S82, .i32⟩
  | .local _ .smem, ⟨1, _⟩ => ⟨S1, .i32⟩
  | _, _ => ⟨S41984x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![82], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S82.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S82) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S82 : Shape := ⟨1, ![82]⟩
abbrev S1 : Shape := ⟨1, ![1]⟩
abbrev S41984x1024 : Shape := ⟨2, ![41984, 1024]⟩
abbrev S2x16x1024x1024 : Shape := ⟨4, ![2, 16, 1024, 1024]⟩
abbrev S82x512x1024 : Shape := ⟨3, ![82, 512, 1024]⟩
abbrev S1x16x1024x1024 : Shape := ⟨4, ![1, 16, 1024, 1024]⟩
abbrev S16x1024x1024 : Shape := ⟨3, ![16, 1024, 1024]⟩
abbrev S_ : Shape := ⟨0, ![]⟩
abbrev S82x1 : Shape := ⟨2, ![82, 1]⟩
abbrev S82x1024x1024 : Shape := ⟨3, ![82, 1024, 1024]⟩
abbrev S82x1x1 : Shape := ⟨3, ![82, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S82, .i32⟩
  | .hbm, ⟨1, _⟩ => ⟨S1, .i32⟩
  | .hbm, ⟨2, _⟩ => ⟨S41984x1024, .bf16⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S41984x1024, .f32⟩
  | .hbm, ⟨7, _⟩ => ⟨S82x512x1024, .f32⟩
  | .hbm, ⟨8, _⟩ => ⟨S1x16x1024x1024, .f32⟩
  | .hbm, ⟨9, _⟩ => ⟨S16x1024x1024, .f32⟩
  | .hbm, ⟨10, _⟩ => ⟨S_, .i32⟩
  | .hbm, ⟨11, _⟩ => ⟨S82, .i32⟩
  | .hbm, ⟨12, _⟩ => ⟨S82, .i1⟩
  | .hbm, ⟨13, _⟩ => ⟨S_, .i32⟩
  | .hbm, ⟨14, _⟩ => ⟨S82, .i32⟩
  | .hbm, ⟨15, _⟩ => ⟨S82, .i32⟩
  | .hbm, ⟨16, _⟩ => ⟨S82, .i32⟩
  | .hbm, ⟨17, _⟩ => ⟨S82x1, .i32⟩
  | .hbm, ⟨18, _⟩ => ⟨S82x1024x1024, .f32⟩
  | .hbm, ⟨19, _⟩ => ⟨S82x512x1024, .f32⟩
  | .hbm, ⟨20, _⟩ => ⟨S82x512x1024, .f32⟩
  | .hbm, ⟨21, _⟩ => ⟨S82x512x1024, .f32⟩
  | .hbm, ⟨22, _⟩ => ⟨S_, .f32⟩
  | .hbm, ⟨23, _⟩ => ⟨S82x512x1024, .f32⟩
  | .hbm, ⟨24, _⟩ => ⟨S82x512x1024, .f32⟩
  | .hbm, ⟨25, _⟩ => ⟨S_, .f32⟩
  | .hbm, ⟨26, _⟩ => ⟨S82x512x1024, .f32⟩
  | .hbm, ⟨27, _⟩ => ⟨S82x512x1024, .f32⟩
  | .hbm, ⟨28, _⟩ => ⟨S82x512x1024, .f32⟩
  | .hbm, ⟨29, _⟩ => ⟨S1x16x1024x1024, .f32⟩
  | .hbm, ⟨30, _⟩ => ⟨S16x1024x1024, .f32⟩
  | .hbm, ⟨31, _⟩ => ⟨S_, .i32⟩
  | .hbm, ⟨32, _⟩ => ⟨S82, .i32⟩
  | .hbm, ⟨33, _⟩ => ⟨S82, .i1⟩
  | .hbm, ⟨34, _⟩ => ⟨S_, .i32⟩
  | .hbm, ⟨35, _⟩ => ⟨S82, .i32⟩
  | .hbm, ⟨36, _⟩ => ⟨S82, .i32⟩
  | .hbm, ⟨37, _⟩ => ⟨S82, .i32⟩
  | .hbm, ⟨38, _⟩ => ⟨S82x1, .i32⟩
  | .hbm, ⟨39, _⟩ => ⟨S82x1024x1024, .f32⟩
  | .hbm, ⟨40, _⟩ => ⟨S82x512x1024, .f32⟩
  | .hbm, ⟨41, _⟩ => ⟨S82x512x1024, .f32⟩
  | .hbm, ⟨42, _⟩ => ⟨S1x16x1024x1024, .f32⟩
  | .hbm, ⟨43, _⟩ => ⟨S16x1024x1024, .f32⟩
  | .hbm, ⟨44, _⟩ => ⟨S_, .i32⟩
  | .hbm, ⟨45, _⟩ => ⟨S82, .i32⟩
  | .hbm, ⟨46, _⟩ => ⟨S82, .i1⟩
  | .hbm, ⟨47, _⟩ => ⟨S_, .i32⟩
  | .hbm, ⟨48, _⟩ => ⟨S82, .i32⟩
  | .hbm, ⟨49, _⟩ => ⟨S82, .i32⟩
  | .hbm, ⟨50, _⟩ => ⟨S82, .i32⟩
  | .hbm, ⟨51, _⟩ => ⟨S82x1, .i32⟩
  | .hbm, ⟨52, _⟩ => ⟨S82x1024x1024, .f32⟩
  | .hbm, ⟨53, _⟩ => ⟨S82x512x1024, .f32⟩
  | .hbm, ⟨54, _⟩ => ⟨S82, .i32⟩
  | .hbm, ⟨55, _⟩ => ⟨S82, .i32⟩
  | .hbm, ⟨56, _⟩ => ⟨S82, .i1⟩
  | .hbm, ⟨57, _⟩ => ⟨S82x1x1, .i1⟩
  | .hbm, ⟨58, _⟩ => ⟨S_, .f32⟩
  | .hbm, ⟨59, _⟩ => ⟨S_, .f32⟩
  | .hbm, ⟨60, _⟩ => ⟨S82x512x1024, .i1⟩
  | .hbm, ⟨61, _⟩ => ⟨S82x512x1024, .f32⟩
  | .hbm, ⟨62, _⟩ => ⟨S82x512x1024, .f32⟩
  | .hbm, ⟨63, _⟩ => ⟨S41984x1024, .f32⟩
  | .hbm, ⟨64, _⟩ => ⟨S41984x1024, .bf16⟩
  | _, _ => ⟨S82, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel2.lean ====
abbrev S2x256x1024 : Shape := ⟨3, ![2, 256, 1024]⟩
abbrev S2x8192x1024 : Shape := ⟨3, ![2, 8192, 1024]⟩
abbrev S1024 : Shape := ⟨1, ![1024]⟩
abbrev S2x2x1x1024 : Shape := ⟨4, ![2, 2, 1, 1024]⟩
abbrev S1024x4128 : Shape := ⟨2, ![1024, 4128]⟩
abbrev S1024x32 : Shape := ⟨2, ![1024, 32]⟩
abbrev S_ : Shape := ⟨0, ![]⟩
abbrev S1024x128 : Shape := ⟨2, ![1024, 128]⟩
abbrev S1024x512 : Shape := ⟨2, ![1024, 512]⟩
abbrev S1024x1536 : Shape := ⟨2, ![1024, 1536]⟩
abbrev S1x1024 : Shape := ⟨2, ![1, 1024]⟩
abbrev S2x8448x3200 : Shape := ⟨3, ![2, 8448, 3200]⟩
abbrev S2x8448x1024 : Shape := ⟨3, ![2, 8448, 1024]⟩
abbrev S1x256x1024 : Shape := ⟨3, ![1, 256, 1024]⟩
abbrev S1x1x1x1024 : Shape := ⟨4, ![1, 1, 1, 1024]⟩
abbrev S1x256x3200 : Shape := ⟨3, ![1, 256, 3200]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x1536 : Shape := ⟨2, ![256, 1536]⟩
abbrev S256x128 : Shape := ⟨2, ![256, 128]⟩
abbrev S256x3200 : Shape := ⟨2, ![256, 3200]⟩

abbrev nBuf : Space → Nat
  | .hbm => 26
  | .vmem => 20
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S1024, .f32⟩
  | .hbm, ⟨3, _⟩ => ⟨S2x2x1x1024, .f32⟩
  | .hbm, ⟨4, _⟩ => ⟨S2x2x1x1024, .f32⟩
  | .hbm, ⟨5, _⟩ => ⟨S1024x4128, .f32⟩
  | .hbm, ⟨6, _⟩ => ⟨S1024x32, .f32⟩
  | .hbm, ⟨7, _⟩ => ⟨S1024x32, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1024x512, .f32⟩
  | .hbm, ⟨12, _⟩ => ⟨S1024x512, .bf16⟩
  | .hbm, ⟨13, _⟩ => ⟨S1024x512, .f32⟩
  | .hbm, ⟨14, _⟩ => ⟨S1024x512, .bf16⟩
  | .hbm, ⟨15, _⟩ => ⟨S1024x1536, .f32⟩
  | .hbm, ⟨16, _⟩ => ⟨S1024x1536, .bf16⟩
  | .hbm, ⟨17, _⟩ => ⟨S1024x512, .f32⟩
  | .hbm, ⟨18, _⟩ => ⟨S1024x512, .bf16⟩
  | .hbm, ⟨19, _⟩ => ⟨S1024x512, .f32⟩
  | .hbm, ⟨20, _⟩ => ⟨S1024x512, .bf16⟩
  | .hbm, ⟨21, _⟩ => ⟨S1024x512, .f32⟩
  | .hbm, ⟨22, _⟩ => ⟨S1024x512, .bf16⟩
  | .hbm, ⟨23, _⟩ => ⟨S1x1024, .f32⟩
  | .hbm, ⟨24, _⟩ => ⟨S2x8448x3200, .f32⟩
  | .hbm, ⟨25, _⟩ => ⟨S2x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x512, .bf16⟩
  | .local _ .vmem, ⟨10, _⟩ => ⟨S1024x512, .bf16⟩
  | .local _ .vmem, ⟨11, _⟩ => ⟨S1024x1536, .bf16⟩
  | .local _ .vmem, ⟨12, _⟩ => ⟨S1024x512, .bf16⟩
  | .local _ .vmem, ⟨13, _⟩ => ⟨S1024x128, .bf16⟩
  | .local _ .vmem, ⟨14, _⟩ => ⟨S1024x512, .bf16⟩
  | .local _ .vmem, ⟨15, _⟩ => ⟨S1024x512, .bf16⟩
  | .local _ .vmem, ⟨16, _⟩ => ⟨S1x256x3200, .f32⟩
  | .local _ .vmem, ⟨17, _⟩ => ⟨S1x256x3200, .f32⟩
  | .local _ .vmem, ⟨18, _⟩ => ⟨S1x256x1024, .bf16⟩
  | .local _ .vmem, ⟨19, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![arg0.toNat, v2.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![arg0.toNat, v2.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x3200 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x256x1024 : Shape := ⟨3, ![2, 256, 1024]⟩
abbrev S2x8192x1024 : Shape := ⟨3, ![2, 8192, 1024]⟩
abbrev S1024 : Shape := ⟨1, ![1024]⟩
abbrev S2x2x1x1024 : Shape := ⟨4, ![2, 2, 1, 1024]⟩
abbrev S1024x4128 : Shape := ⟨2, ![1024, 4128]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S2x8448x1024 : Shape := ⟨3, ![2, 8448, 1024]⟩
abbrev S2x8448x4128 : Shape := ⟨3, ![2, 8448, 4128]⟩
abbrev S2x8448x256 : Shape := ⟨3, ![2, 8448, 256]⟩
abbrev S2x8448x512 : Shape := ⟨3, ![2, 8448, 512]⟩
abbrev S2x8448x16 : Shape := ⟨3, ![2, 8448, 16]⟩
abbrev S2x8448x96 : Shape := ⟨3, ![2, 8448, 96]⟩
abbrev S2x8448x3200 : Shape := ⟨3, ![2, 8448, 3200]⟩

abbrev nBuf : Space → Nat
  | .hbm => 78
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S1024, .f32⟩
  | .hbm, ⟨3, _⟩ => ⟨S2x2x1x1024, .f32⟩
  | .hbm, ⟨4, _⟩ => ⟨S2x2x1x1024, .f32⟩
  | .hbm, ⟨5, _⟩ => ⟨S1024x4128, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S2x1x1x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x256x1024, .f32⟩
  | .hbm, ⟨28, _⟩ => ⟨S2x256x1024, .f32⟩
  | .hbm, ⟨29, _⟩ => ⟨S2x1x1x1024, .f32⟩
  | .hbm, ⟨30, _⟩ => ⟨S2x1x1024, .f32⟩
  | .hbm, ⟨31, _⟩ => ⟨S2x256x1024, .f32⟩
  | .hbm, ⟨32, _⟩ => ⟨S2x256x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S2x1x1x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S2x1x1x1024, .f32⟩
  | .hbm, ⟨57, _⟩ => ⟨S2x1x1024, .f32⟩
  | .hbm, ⟨58, _⟩ => ⟨S2x8192x1024, .f32⟩
  | .hbm, ⟨59, _⟩ => ⟨S2x8192x1024, .f32⟩
  | .hbm, ⟨60, _⟩ => ⟨S2x8448x1024, .f32⟩
  | .hbm, ⟨61, _⟩ => ⟨S2x8448x4128, .f32⟩
  | .hbm, ⟨62, _⟩ => ⟨S2x8448x256, .f32⟩
  | .hbm, ⟨63, _⟩ => ⟨S2x8448x256, .f32⟩
  | .hbm, ⟨64, _⟩ => ⟨S2x8448x512, .f32⟩
  | .hbm, ⟨65, _⟩ => ⟨S2x8448x512, .f32⟩
  | .hbm, ⟨66, _⟩ => ⟨S2x8448x16, .f32⟩
  | .hbm, ⟨67, _⟩ => ⟨S2x8448x16, .f32⟩
  | .hbm, ⟨68, _⟩ => ⟨S2x8448x512, .f32⟩
  | .hbm, ⟨69, _⟩ => ⟨S2x8448x512, .f32⟩
  | .hbm, ⟨70, _⟩ => ⟨S2x8448x512, .f32⟩
  | .hbm, ⟨71, _⟩ => ⟨S2x8448x512, .f32⟩
  | .hbm, ⟨72, _⟩ => ⟨S2x8448x512, .f32⟩
  | .hbm, ⟨73, _⟩ => ⟨S_, .f32⟩
  | .hbm, ⟨74, _⟩ => ⟨S2x8448x96, .f32⟩
  | .hbm, ⟨75, _⟩ => ⟨S2x8448x3200, .f32⟩
  | .hbm, ⟨76, _⟩ => ⟨S2x8448x1024, .f32⟩
  | .hbm, ⟨77, _⟩ => ⟨S2x8448x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel3.lean ====
abbrev S2x8448x1024 : Shape := ⟨3, ![2, 8448, 1024]⟩
abbrev S1024 : Shape := ⟨1, ![1024]⟩
abbrev S2x2x1x1024 : Shape := ⟨4, ![2, 2, 1, 1024]⟩
abbrev S1024x3088 : Shape := ⟨2, ![1024, 3088]⟩
abbrev S1536x3 : Shape := ⟨2, ![1536, 3]⟩
abbrev S1536 : Shape := ⟨1, ![1536]⟩
abbrev S1024x3 : Shape := ⟨2, ![1024, 3]⟩
abbrev S2560x3 : Shape := ⟨2, ![2560, 3]⟩
abbrev S3x2560 : Shape := ⟨2, ![3, 2560]⟩
abbrev S2560 : Shape := ⟨1, ![2560]⟩
abbrev S1x2560 : Shape := ⟨2, ![1, 2560]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S1024x1536 : Shape := ⟨2, ![1024, 1536]⟩
abbrev S1024x1024 : Shape := ⟨2, ![1024, 1024]⟩
abbrev S1024x512 : Shape := ⟨2, ![1024, 512]⟩
abbrev S1x1024 : Shape := ⟨2, ![1, 1024]⟩
abbrev S2x8192x1536 : Shape := ⟨3, ![2, 8192, 1536]⟩
abbrev S2x8448x768 : Shape := ⟨3, ![2, 8448, 768]⟩
abbrev S1x256x1024 : Shape := ⟨3, ![1, 256, 1024]⟩
abbrev S1x8x1024 : Shape := ⟨3, ![1, 8, 1024]⟩
abbrev S1x1x1x1024 : Shape := ⟨4, ![1, 1, 1, 1024]⟩
abbrev S1x256x1536 : Shape := ⟨3, ![1, 256, 1536]⟩
abbrev S1x256x768 : Shape := ⟨3, ![1, 256, 768]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x1536 : Shape := ⟨2, ![272, 1536]⟩
abbrev S272x512 : Shape := ⟨2, ![272, 512]⟩
abbrev S272x256 : Shape := ⟨2, ![272, 256]⟩
abbrev S272x3328 : Shape := ⟨2, ![272, 3328]⟩
abbrev S272x2560 : Shape := ⟨2, ![272, 2560]⟩
abbrev S256x2560 : Shape := ⟨2, ![256, 2560]⟩
abbrev S256x1536 : Shape := ⟨2, ![256, 1536]⟩
abbrev S256x768 : Shape := ⟨2, ![256, 768]⟩

abbrev nBuf : Space → Nat
  | .hbm => 33
  | .vmem => 23
  | .smem => 0
  | _ => 0

abbrev bufTy : (tb : Table) → Fin (tcTables nBuf tb) → BufTy
  | .hbm, ⟨0, _⟩ => ⟨S2x8448x1024, .f32⟩
  | .hbm, ⟨1, _⟩ => ⟨S1024, .f32⟩
  | .hbm, ⟨2, _⟩ => ⟨S2x2x1x1024, .f32⟩
  | .hbm, ⟨3, _⟩ => ⟨S2x2x1x1024, .f32⟩
  | .hbm, ⟨4, _⟩ => ⟨S1024x3088, .f32⟩
  | .hbm, ⟨5, _⟩ => ⟨S1536x3, .f32⟩
  | .hbm, ⟨6, _⟩ => ⟨S1536, .f32⟩
  | .hbm, ⟨7, _⟩ => ⟨S1024x3, .f32⟩
  | .hbm, ⟨8, _⟩ => ⟨S1024, .f32⟩
  | .hbm, ⟨9, _⟩ => ⟨S2560x3, .f32⟩
  | .hbm, ⟨10, _⟩ => ⟨S3x2560, .f32⟩
  | .hbm, ⟨11, _⟩ => ⟨S2560, .f32⟩
  | .hbm, ⟨12, _⟩ => ⟨S1x2560, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x256, .f32⟩
  | .hbm, ⟨22, _⟩ => ⟨S1024x1536, .f32⟩
  | .hbm, ⟨23, _⟩ => ⟨S1024x1536, .bf16⟩
  | .hbm, ⟨24, _⟩ => ⟨S1024x1024, .f32⟩
  | .hbm, ⟨25, _⟩ => ⟨S1024x1024, .bf16⟩
  | .hbm, ⟨26, _⟩ => ⟨S1024x512, .f32⟩
  | .hbm, ⟨27, _⟩ => ⟨S1024x512, .bf16⟩
  | .hbm, ⟨28, _⟩ => ⟨S1024x256, .bf16⟩
  | .hbm, ⟨29, _⟩ => ⟨S1x1024, .f32⟩
  | .hbm, ⟨30, _⟩ => ⟨S2x8192x1536, .f32⟩
  | .hbm, ⟨31, _⟩ => ⟨S2x8448x1024, .f32⟩
  | .hbm, ⟨32, _⟩ => ⟨S2x8448x768, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S3x2560, .f32⟩
  | .local _ .vmem, ⟨12, _⟩ => ⟨S1x2560, .f32⟩
  | .local _ .vmem, ⟨13, _⟩ => ⟨S1024x1536, .bf16⟩
  | .local _ .vmem, ⟨14, _⟩ => ⟨S1024x1024, .bf16⟩
  | .local _ .vmem, ⟨15, _⟩ => ⟨S1024x512, .bf16⟩
  | .local _ .vmem, ⟨16, _⟩ => ⟨S1024x256, .bf16⟩
  | .local _ .vmem, ⟨17, _⟩ => ⟨S1x256x1536, .f32⟩
  | .local _ .vmem, ⟨18, _⟩ => ⟨S1x256x1536, .f32⟩
  | .local _ .vmem, ⟨19, _⟩ => ⟨S1x256x1024, .f32⟩
  | .local _ .vmem, ⟨20, _⟩ => ⟨S1x256x1024, .f32⟩
  | .local _ .vmem, ⟨21, _⟩ => ⟨S1x256x768, .f32⟩
  | .local _ .vmem, ⟨22, _⟩ => ⟨S1x256x768, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S2x8448x1024 : Shape := ⟨3, ![2, 8448, 1024]⟩
abbrev S1024 : Shape := ⟨1, ![1024]⟩
abbrev S2x2x1x1024 : Shape := ⟨4, ![2, 2, 1, 1024]⟩
abbrev S1024x3088 : Shape := ⟨2, ![1024, 3088]⟩
abbrev S1536x3 : Shape := ⟨2, ![1536, 3]⟩
abbrev S1536 : Shape := ⟨1, ![1536]⟩
abbrev S1024x3 : Shape := ⟨2, ![1024, 3]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x8192x1024 : Shape := ⟨3, ![2, 8192, 1024]⟩
abbrev S2x8192 : Shape := ⟨2, ![2, 8192]⟩
abbrev S2x8192x1 : Shape := ⟨3, ![2, 8192, 1]⟩
abbrev S2x8448x3088 : Shape := ⟨3, ![2, 8448, 3088]⟩
abbrev S2x8448x1536 : Shape := ⟨3, ![2, 8448, 1536]⟩
abbrev S2x8448x512 : Shape := ⟨3, ![2, 8448, 512]⟩
abbrev S2x8448x8 : Shape := ⟨3, ![2, 8448, 8]⟩
abbrev S2x258x1024 : Shape := ⟨3, ![2, 258, 1024]⟩
abbrev S1024x1 : Shape := ⟨2, ![1024, 1]⟩
abbrev S2x8194x1024 : Shape := ⟨3, ![2, 8194, 1024]⟩
abbrev S2x8448x120 : Shape := ⟨3, ![2, 8448, 120]⟩
abbrev S2x8192x1536 : Shape := ⟨3, ![2, 8192, 1536]⟩
abbrev S2x8194x1536 : Shape := ⟨3, ![2, 8194, 1536]⟩
abbrev S1536x1 : Shape := ⟨2, ![1536, 1]⟩
abbrev S1x1x1536 : Shape := ⟨3, ![1, 1, 1536]⟩
abbrev S2x8448x768 : Shape := ⟨3, ![2, 8448, 768]⟩

abbrev nBuf : Space → Nat
  | .hbm => 166
  | .vmem => 0
  | .smem => 0
  | _ => 0

abbrev hbmTy0_0 (i : Nat) : BufTy := match i % 128 with
  | 0 => ⟨S2x8448x1024, .f32⟩
  | 1 => ⟨S1024, .f32⟩
  | 2 => ⟨S2x2x1x1024, .f32⟩
  | 3 => ⟨S2x2x1x1024, .f32⟩
  | 4 => ⟨S1024x3088, .f32⟩
  | 5 => ⟨S1536x3, .f32⟩
  | 6 => ⟨S1536, .f32⟩
  | 7 => ⟨S1024x3, .f32⟩
  | 8 => ⟨S1024, .f32⟩
  | 9 => ⟨S2x256x1024, .f32⟩
  | 10 => ⟨S2x256x1024, .f32⟩
  | 11 => ⟨S_, .f32⟩
  | 12 => ⟨S2x256, .f32⟩
  | 13 => ⟨S2x256x1, .f32⟩
  | 14 => ⟨S_, .f32⟩
  | 15 => ⟨S2x256x1, .f32⟩
  | 16 => ⟨S2x256x1, .f32⟩
  | 17 => ⟨S_, .f32⟩
  | 18 => ⟨S2x256x1, .f32⟩
  | 19 => ⟨S2x256x1, .f32⟩
  | 20 => ⟨S2x256x1, .f32⟩
  | 21 => ⟨S2x256x1024, .f32⟩
  | 22 => ⟨S2x256x1024, .f32⟩
  | 23 => ⟨S1x1x1024, .f32⟩
  | 24 => ⟨S2x256x1024, .f32⟩
  | 25 => ⟨S2x256x1024, .f32⟩
  | 26 => ⟨S2x1x1x1024, .f32⟩
  | 27 => ⟨S2x1x1024, .f32⟩
  | 28 => ⟨S_, .f32⟩
  | 29 => ⟨S2x1x1024, .f32⟩
  | 30 => ⟨S2x1x1024, .f32⟩
  | 31 => ⟨S2x256x1024, .f32⟩
  | 32 => ⟨S2x256x1024, .f32⟩
  | 33 => ⟨S2x1x1x1024, .f32⟩
  | 34 => ⟨S2x1x1024, .f32⟩
  | 35 => ⟨S2x256x1024, .f32⟩
  | 36 => ⟨S2x256x1024, .f32⟩
  | 37 => ⟨S2x8192x1024, .f32⟩
  | 38 => ⟨S2x8192x1024, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x1024, .f32⟩
  | 50 => ⟨S2x8192x1024, .f32⟩
  | 51 => ⟨S1x1x1024, .f32⟩
  | 52 => ⟨S2x8192x1024, .f32⟩
  | 53 => ⟨S2x8192x1024, .f32⟩
  | 54 => ⟨S2x1x1x1024, .f32⟩
  | 55 => ⟨S2x1x1024, .f32⟩
  | 56 => ⟨S_, .f32⟩
  | 57 => ⟨S2x1x1024, .f32⟩
  | 58 => ⟨S2x1x1024, .f32⟩
  | 59 => ⟨S2x8192x1024, .f32⟩
  | 60 => ⟨S2x8192x1024, .f32⟩
  | 61 => ⟨S2x1x1x1024, .f32⟩
  | 62 => ⟨S2x1x1024, .f32⟩
  | 63 => ⟨S2x8192x1024, .f32⟩
  | 64 => ⟨S2x8192x1024, .f32⟩
  | 65 => ⟨S2x8448x1024, .f32⟩
  | 66 => ⟨S2x8448x3088, .f32⟩
  | 67 => ⟨S2x8448x1536, .f32⟩
  | 68 => ⟨S2x8448x512, .f32⟩
  | 69 => ⟨S2x8448x1024, .f32⟩
  | 70 => ⟨S2x8448x8, .f32⟩
  | 71 => ⟨S2x8448x8, .f32⟩
  | 72 => ⟨S2x256x1024, .f32⟩
  | 73 => ⟨S_, .i32⟩
  | 74 => ⟨S_, .f32⟩
  | 75 => ⟨S2x258x1024, .f32⟩
  | 76 => ⟨S2x256x1024, .f32⟩
  | 77 => ⟨S1024x1, .f32⟩
  | 78 => ⟨S1024, .f32⟩
  | 79 => ⟨S1x1x1024, .f32⟩
  | 80 => ⟨S2x256x1024, .f32⟩
  | 81 => ⟨S2x256x1024, .f32⟩
  | 82 => ⟨S2x256x1024, .f32⟩
  | 83 => ⟨S1024x1, .f32⟩
  | 84 => ⟨S1024, .f32⟩
  | 85 => ⟨S1x1x1024, .f32⟩
  | 86 => ⟨S2x256x1024, .f32⟩
  | 87 => ⟨S2x256x1024, .f32⟩
  | 88 => ⟨S2x256x1024, .f32⟩
  | 89 => ⟨S2x256x1024, .f32⟩
  | 90 => ⟨S1024x1, .f32⟩
  | 91 => ⟨S1024, .f32⟩
  | 92 => ⟨S1x1x1024, .f32⟩
  | 93 => ⟨S2x256x1024, .f32⟩
  | 94 => ⟨S2x256x1024, .f32⟩
  | 95 => ⟨S2x256x1024, .f32⟩
  | 96 => ⟨S1x1x1024, .f32⟩
  | 97 => ⟨S2x256x1024, .f32⟩
  | 98 => ⟨S2x256x1024, .f32⟩
  | 99 => ⟨S2x8192x1024, .f32⟩
  | 100 => ⟨S_, .i32⟩
  | 101 => ⟨S_, .f32⟩
  | 102 => ⟨S2x8194x1024, .f32⟩
  | 103 => ⟨S2x8192x1024, .f32⟩
  | 104 => ⟨S1024x1, .f32⟩
  | 105 => ⟨S1024, .f32⟩
  | 106 => ⟨S1x1x1024, .f32⟩
  | 107 => ⟨S2x8192x1024, .f32⟩
  | 108 => ⟨S2x8192x1024, .f32⟩
  | 109 => ⟨S2x8192x1024, .f32⟩
  | 110 => ⟨S1024x1, .f32⟩
  | 111 => ⟨S1024, .f32⟩
  | 112 => ⟨S1x1x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S1024x1, .f32⟩
  | 118 => ⟨S1024, .f32⟩
  | 119 => ⟨S1x1x1024, .f32⟩
  | 120 => ⟨S2x8192x1024, .f32⟩
  | 121 => ⟨S2x8192x1024, .f32⟩
  | 122 => ⟨S2x8192x1024, .f32⟩
  | 123 => ⟨S1x1x1024, .f32⟩
  | 124 => ⟨S2x8192x1024, .f32⟩
  | 125 => ⟨S2x8192x1024, .f32⟩
  | 126 => ⟨S2x8448x1024, .f32⟩
  | 127 => ⟨S_, .f32⟩
  | _ => ⟨S2x8448x1024, .f32⟩

abbrev hbmTy0_1 (i : Nat) : BufTy := match i % 128 with
  | 0 => ⟨S2x8448x120, .f32⟩
  | 1 => ⟨S2x8192x1536, .f32⟩
  | 2 => ⟨S_, .i32⟩
  | 3 => ⟨S_, .f32⟩
  | 4 => ⟨S2x8194x1536, .f32⟩
  | 5 => ⟨S2x8192x1536, .f32⟩
  | 6 => ⟨S1536x1, .f32⟩
  | 7 => ⟨S1536, .f32⟩
  | 8 => ⟨S1x1x1536, .f32⟩
  | 9 => ⟨S2x8192x1536, .f32⟩
  | 10 => ⟨S2x8192x1536, .f32⟩
  | 11 => ⟨S2x8192x1536, .f32⟩
  | 12 => ⟨S1536x1, .f32⟩
  | 13 => ⟨S1536, .f32⟩
  | 14 => ⟨S1x1x1536, .f32⟩
  | 15 => ⟨S2x8192x1536, .f32⟩
  | 16 => ⟨S2x8192x1536, .f32⟩
  | 17 => ⟨S2x8192x1536, .f32⟩
  | 18 => ⟨S2x8192x1536, .f32⟩
  | 19 => ⟨S1536x1, .f32⟩
  | 20 => ⟨S1536, .f32⟩
  | 21 => ⟨S1x1x1536, .f32⟩
  | 22 => ⟨S2x8192x1536, .f32⟩
  | 23 => ⟨S2x8192x1536, .f32⟩
  | 24 => ⟨S2x8192x1536, .f32⟩
  | 25 => ⟨S1x1x1536, .f32⟩
  | 26 => ⟨S2x8192x1536, .f32⟩
  | 27 => ⟨S2x8192x1536, .f32⟩
  | 28 => ⟨S2x8448x1024, .f32⟩
  | 29 => ⟨S2x8448x1024, .f32⟩
  | 30 => ⟨S_, .f32⟩
  | 31 => ⟨S2x8448x1024, .f32⟩
  | 32 => ⟨S2x8448x1024, .f32⟩
  | 33 => ⟨S_, .f32⟩
  | 34 => ⟨S2x8448x1024, .f32⟩
  | 35 => ⟨S2x8448x1024, .f32⟩
  | 36 => ⟨S2x8448x1024, .f32⟩
  | 37 => ⟨S2x8448x768, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_7 : Ref sig .tc := ⟨.hbm, 100, rfl⟩
abbrev main_call1_v0 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_8 : Ref sig .tc := ⟨.hbm, 127, rfl⟩
abbrev main_v106 : Ref sig .tc := ⟨.hbm, 128, rfl⟩
abbrev main_v107 : Ref sig .tc := ⟨.hbm, 129, rfl⟩
abbrev main_c_9 : Ref sig .tc := ⟨.hbm, 130, rfl⟩
abbrev main_call2_v0 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_call3_v0 : Ref sig .tc := ⟨.hbm, 156, rfl⟩
abbrev main_call3_v1 : Ref sig .tc := ⟨.hbm, 157, rfl⟩
abbrev main_call3_cst : Ref sig .tc := ⟨.hbm, 158, rfl⟩
abbrev main_call3_v2 : Ref sig .tc := ⟨.hbm, 159, rfl⟩
abbrev main_call3_v3 : Ref sig .tc := ⟨.hbm, 160, rfl⟩
abbrev main_call3_cst_0 : Ref sig .tc := ⟨.hbm, 161, rfl⟩
abbrev main_call3_v4 : Ref sig .tc := ⟨.hbm, 162, rfl⟩
abbrev main_call3_v5 : Ref sig .tc := ⟨.hbm, 163, rfl⟩
abbrev main_v132 : Ref sig .tc := ⟨.hbm, 164, rfl⟩
abbrev main_v133 : Ref sig .tc := ⟨.hbm, 165, rfl⟩

abbrev nD : Nat := 1
abbrev τ : Topo := Topo.v7x

variable {F : FTy → Type} [FloatOps F]
-- ==== Kernel4.lean ====
abbrev S2x256x1024 : Shape := ⟨3, ![2, 256, 1024]⟩
abbrev S2x8192x1024 : Shape := ⟨3, ![2, 8192, 1024]⟩
abbrev S2x8448x512 : Shape := ⟨3, ![2, 8448, 512]⟩
abbrev S2x8448x3200 : Shape := ⟨3, ![2, 8448, 3200]⟩
abbrev S128 : Shape := ⟨1, ![128]⟩
abbrev S1024x1024 : Shape := ⟨2, ![1024, 1024]⟩
abbrev S2x2x1x1024 : Shape := ⟨4, ![2, 2, 1, 1024]⟩
abbrev S1024 : Shape := ⟨1, ![1024]⟩
abbrev S1024x16 : Shape := ⟨2, ![1024, 16]⟩
abbrev S16 : Shape := ⟨1, ![16]⟩
abbrev S256x256 : Shape := ⟨2, ![256, 256]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S16x1 : Shape := ⟨2, ![16, 1]⟩
abbrev S1x128 : Shape := ⟨2, ![1, 128]⟩
abbrev S2x8448x1024 : Shape := ⟨3, ![2, 8448, 1024]⟩
abbrev S2x8x8448 : Shape := ⟨3, ![2, 8, 8448]⟩
abbrev S2x8448x128 : Shape := ⟨3, ![2, 8448, 128]⟩
abbrev S16x128 : Shape := ⟨2, ![16, 128]⟩
abbrev S1x256x1024 : Shape := ⟨3, ![1, 256, 1024]⟩
abbrev S1x256x512 : Shape := ⟨3, ![1, 256, 512]⟩
abbrev S1x1x1x1024 : Shape := ⟨4, ![1, 1, 1, 1024]⟩
abbrev S1x8x256 : Shape := ⟨3, ![1, 8, 256]⟩
abbrev S1x256x128 : Shape := ⟨3, ![1, 256, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S128x256 : Shape := ⟨2, ![128, 256]⟩
abbrev S16x256 : Shape := ⟨2, ![16, 256]⟩
abbrev S1x256 : Shape := ⟨2, ![1, 256]⟩
abbrev S1x1x256 : Shape := ⟨3, ![1, 1, 256]⟩
abbrev S4x256 : Shape := ⟨2, ![4, 256]⟩
abbrev S1x4x256 : Shape := ⟨3, ![1, 4, 256]⟩

abbrev nBuf : Space → Nat
  | .hbm => 32
  | .vmem => 39
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S2x8448x512, .bf16⟩
  | .hbm, ⟨3, _⟩ => ⟨S2x8448x512, .bf16⟩
  | .hbm, ⟨4, _⟩ => ⟨S2x8448x512, .bf16⟩
  | .hbm, ⟨5, _⟩ => ⟨S2x8448x512, .bf16⟩
  | .hbm, ⟨6, _⟩ => ⟨S2x8448x3200, .f32⟩
  | .hbm, ⟨7, _⟩ => ⟨S128, .f32⟩
  | .hbm, ⟨8, _⟩ => ⟨S128, .f32⟩
  | .hbm, ⟨9, _⟩ => ⟨S1024x1024, .f32⟩
  | .hbm, ⟨10, _⟩ => ⟨S2x2x1x1024, .f32⟩
  | .hbm, ⟨11, _⟩ => ⟨S1024, .f32⟩
  | .hbm, ⟨12, _⟩ => ⟨S2x2x1x1024, .f32⟩
  | .hbm, ⟨13, _⟩ => ⟨S2x2x1x1024, .f32⟩
  | .hbm, ⟨14, _⟩ => ⟨S1024x16, .f32⟩
  | .hbm, ⟨15, _⟩ => ⟨S16, .f32⟩
  | .hbm, ⟨16, _⟩ => ⟨S256x256, .bf16⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S1024x1024, .bf16⟩
  | .hbm, ⟨23, _⟩ => ⟨S1x1024, .f32⟩
  | .hbm, ⟨24, _⟩ => ⟨S16x1, .f32⟩
  | .hbm, ⟨25, _⟩ => ⟨S1x128, .f32⟩
  | .hbm, ⟨26, _⟩ => ⟨S1x128, .f32⟩
  | .hbm, ⟨27, _⟩ => ⟨S2x8448x1024, .f32⟩
  | .hbm, ⟨28, _⟩ => ⟨S2x8448x1024, .bf16⟩
  | .hbm, ⟨29, _⟩ => ⟨S2x8x8448, .i32⟩
  | .hbm, ⟨30, _⟩ => ⟨S2x8448x128, .f32⟩
  | .hbm, ⟨31, _⟩ => ⟨S16x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x128, .f32⟩
  | .local _ .vmem, ⟨17, _⟩ => ⟨S1x128, .f32⟩
  | .local _ .vmem, ⟨18, _⟩ => ⟨S1024x1024, .bf16⟩
  | .local _ .vmem, ⟨19, _⟩ => ⟨S1x1x1x1024, .f32⟩
  | .local _ .vmem, ⟨20, _⟩ => ⟨S1x1x1x1024, .f32⟩
  | .local _ .vmem, ⟨21, _⟩ => ⟨S1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1024x128, .f32⟩
  | .local _ .vmem, ⟨27, _⟩ => ⟨S16x1, .f32⟩
  | .local _ .vmem, ⟨28, _⟩ => ⟨S256x256, .bf16⟩
  | .local _ .vmem, ⟨29, _⟩ => ⟨S1x256x1024, .f32⟩
  | .local _ .vmem, ⟨30, _⟩ => ⟨S1x256x1024, .f32⟩
  | .local _ .vmem, ⟨31, _⟩ => ⟨S1x256x1024, .bf16⟩
  | .local _ .vmem, ⟨32, _⟩ => ⟨S1x256x1024, .bf16⟩
  | .local _ .vmem, ⟨33, _⟩ => ⟨S1x8x256, .i32⟩
  | .local _ .vmem, ⟨34, _⟩ => ⟨S1x8x256, .i32⟩
  | .local _ .vmem, ⟨35, _⟩ => ⟨S1x256x128, .f32⟩
  | .local _ .vmem, ⟨36, _⟩ => ⟨S1x256x128, .f32⟩
  | .local _ .vmem, ⟨37, _⟩ => ⟨S16x128, .f32⟩
  | .local _ .vmem, ⟨38, _⟩ => ⟨S16x128, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev main_v8_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![arg0.toNat, v2.toNat, c0_i32.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![arg0.toNat, v2.toNat, c0_i32.toNat, c0_i32_1.toNat]

def cc0_transform_14 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .sge v0 c256_i32_0
  let v2 : BitVec 32 := Scalar.extui v1
  let c0_i32 : BitVec 32 := 0#32
  let c0_i32_1 : BitVec 32 := 0#32
  let c0_i32_2 : BitVec 32 := 0#32
  ![arg0.toNat, v2.toNat, c0_i32.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x256 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== Reference4Ideal.lean ====
abbrev S2x256x1024 : Shape := ⟨3, ![2, 256, 1024]⟩
abbrev S2x8192x1024 : Shape := ⟨3, ![2, 8192, 1024]⟩
abbrev S2x8448x512 : Shape := ⟨3, ![2, 8448, 512]⟩
abbrev S2x8448x3200 : Shape := ⟨3, ![2, 8448, 3200]⟩
abbrev S128 : Shape := ⟨1, ![128]⟩
abbrev S1024x1024 : Shape := ⟨2, ![1024, 1024]⟩
abbrev S2x2x1x1024 : Shape := ⟨4, ![2, 2, 1, 1024]⟩
abbrev S1024 : Shape := ⟨1, ![1024]⟩
abbrev S1024x16 : Shape := ⟨2, ![1024, 16]⟩
abbrev S16 : Shape := ⟨1, ![16]⟩
abbrev S2x8448x4x128 : Shape := ⟨4, ![2, 8448, 4, 128]⟩
abbrev S_ : Shape := ⟨0, ![]⟩
abbrev S2x8448x4 : Shape := ⟨3, ![2, 8448, 4]⟩
abbrev S2x8448x4x1 : Shape := ⟨4, ![2, 8448, 4, 1]⟩
abbrev S1x1x1x128 : Shape := ⟨4, ![1, 1, 1, 128]⟩
abbrev S2x8448x1024 : Shape := ⟨3, ![2, 8448, 1024]⟩
abbrev S2x1x1x1024 : Shape := ⟨4, ![2, 1, 1, 1024]⟩
abbrev S2x1x1024 : Shape := ⟨3, ![2, 1, 1024]⟩
abbrev S2x256 : Shape := ⟨2, ![2, 256]⟩
abbrev S2x256x1 : Shape := ⟨3, ![2, 256, 1]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 154
  | .vmem => 0
  | .smem => 0
  | _ => 0

abbrev hbmTy0_0 (i : Nat) : BufTy := match i % 128 with
  | 0 => ⟨S2x256x1024, .f32⟩
  | 1 => ⟨S2x8192x1024, .f32⟩
  | 2 => ⟨S2x8448x512, .bf16⟩
  | 3 => ⟨S2x8448x512, .bf16⟩
  | 4 => ⟨S2x8448x512, .bf16⟩
  | 5 => ⟨S2x8448x512, .bf16⟩
  | 6 => ⟨S2x8448x3200, .f32⟩
  | 7 => ⟨S128, .f32⟩
  | 8 => ⟨S128, .f32⟩
  | 9 => ⟨S1024x1024, .f32⟩
  | 10 => ⟨S2x2x1x1024, .f32⟩
  | 11 => ⟨S1024, .f32⟩
  | 12 => ⟨S2x2x1x1024, .f32⟩
  | 13 => ⟨S2x2x1x1024, .f32⟩
  | 14 => ⟨S1024x16, .f32⟩
  | 15 => ⟨S16, .f32⟩
  | 16 => ⟨S2x8448x512, .f32⟩
  | 17 => ⟨S2x8448x512, .f32⟩
  | 18 => ⟨S2x8448x512, .f32⟩
  | 19 => ⟨S2x8448x512, .f32⟩
  | 20 => ⟨S2x8448x4x128, .f32⟩
  | 21 => ⟨S2x8448x4x128, .f32⟩
  | 22 => ⟨S_, .f32⟩
  | 23 => ⟨S2x8448x4, .f32⟩
  | 24 => ⟨S2x8448x4x1, .f32⟩
  | 25 => ⟨S_, .f32⟩
  | 26 => ⟨S2x8448x4x1, .f32⟩
  | 27 => ⟨S2x8448x4x1, .f32⟩
  | 28 => ⟨S_, .f32⟩
  | 29 => ⟨S2x8448x4x1, .f32⟩
  | 30 => ⟨S2x8448x4x1, .f32⟩
  | 31 => ⟨S2x8448x4x1, .f32⟩
  | 32 => ⟨S2x8448x4x128, .f32⟩
  | 33 => ⟨S2x8448x4x128, .f32⟩
  | 34 => ⟨S1x1x1x128, .f32⟩
  | 35 => ⟨S2x8448x4x128, .f32⟩
  | 36 => ⟨S2x8448x4x128, .f32⟩
  | 37 => ⟨S2x8448x4x128, .f32⟩
  | 38 => ⟨S2x8448x4x128, .f32⟩
  | 39 => ⟨S2x8448x4x128, .f32⟩
  | 40 => ⟨S_, .f32⟩
  | 41 => ⟨S2x8448x4x128, .f32⟩
  | 42 => ⟨S2x8448x4x128, .f32⟩
  | 43 => ⟨S_, .f32⟩
  | 44 => ⟨S2x8448x4x128, .f32⟩
  | 45 => ⟨S2x8448x4x128, .f32⟩
  | 46 => ⟨S2x8448x4x128, .f32⟩
  | 47 => ⟨S2x8448x4x128, .f32⟩
  | 48 => ⟨S2x8448x512, .f32⟩
  | 49 => ⟨S2x8448x512, .f32⟩
  | 50 => ⟨S2x8448x512, .f32⟩
  | 51 => ⟨S2x8448x512, .f32⟩
  | 52 => ⟨S2x8448x512, .f32⟩
  | 53 => ⟨S2x8448x4x128, .f32⟩
  | 54 => ⟨S2x8448x4x128, .f32⟩
  | 55 => ⟨S_, .f32⟩
  | 56 => ⟨S2x8448x4, .f32⟩
  | 57 => ⟨S2x8448x4x1, .f32⟩
  | 58 => ⟨S_, .f32⟩
  | 59 => ⟨S2x8448x4x1, .f32⟩
  | 60 => ⟨S2x8448x4x1, .f32⟩
  | 61 => ⟨S_, .f32⟩
  | 62 => ⟨S2x8448x4x1, .f32⟩
  | 63 => ⟨S2x8448x4x1, .f32⟩
  | 64 => ⟨S2x8448x4x1, .f32⟩
  | 65 => ⟨S2x8448x4x128, .f32⟩
  | 66 => ⟨S2x8448x4x128, .f32⟩
  | 67 => ⟨S1x1x1x128, .f32⟩
  | 68 => ⟨S2x8448x4x128, .f32⟩
  | 69 => ⟨S2x8448x4x128, .f32⟩
  | 70 => ⟨S2x8448x4x128, .f32⟩
  | 71 => ⟨S2x8448x4x128, .f32⟩
  | 72 => ⟨S2x8448x4x128, .f32⟩
  | 73 => ⟨S_, .f32⟩
  | 74 => ⟨S2x8448x4x128, .f32⟩
  | 75 => ⟨S2x8448x4x128, .f32⟩
  | 76 => ⟨S_, .f32⟩
  | 77 => ⟨S2x8448x4x128, .f32⟩
  | 78 => ⟨S2x8448x4x128, .f32⟩
  | 79 => ⟨S2x8448x4x128, .f32⟩
  | 80 => ⟨S2x8448x4x128, .f32⟩
  | 81 => ⟨S2x8448x512, .f32⟩
  | 82 => ⟨S2x8448x1024, .f32⟩
  | 83 => ⟨S2x1x1x1024, .f32⟩
  | 84 => ⟨S2x1x1024, .f32⟩
  | 85 => ⟨S2x256x1024, .f32⟩
  | 86 => ⟨S2x256x1024, .f32⟩
  | 87 => ⟨S2x256x1024, .f32⟩
  | 88 => ⟨S2x256x1024, .f32⟩
  | 89 => ⟨S2x256x1024, .f32⟩
  | 90 => ⟨S2x1x1x1024, .f32⟩
  | 91 => ⟨S2x1x1024, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S2x256x1024, .f32⟩
  | 98 => ⟨S_, .f32⟩
  | 99 => ⟨S2x256, .f32⟩
  | 100 => ⟨S2x256x1, .f32⟩
  | 101 => ⟨S_, .f32⟩
  | 102 => ⟨S2x256x1, .f32⟩
  | 103 => ⟨S2x256x1, .f32⟩
  | 104 => ⟨S_, .f32⟩
  | 105 => ⟨S2x256x1, .f32⟩
  | 106 => ⟨S2x256x1, .f32⟩
  | 107 => ⟨S2x256x1, .f32⟩
  | 108 => ⟨S2x256x1024, .f32⟩
  | 109 => ⟨S2x256x1024, .f32⟩
  | 110 => ⟨S1x1x1024, .f32⟩
  | 111 => ⟨S2x256x1024, .f32⟩
  | 112 => ⟨S2x256x1024, .f32⟩
  | 113 => ⟨S2x1x1x1024, .f32⟩
  | 114 => ⟨S2x1x1024, .f32⟩
  | 115 => ⟨S_, .f32⟩
  | 116 => ⟨S2x1x1024, .f32⟩
  | 117 => ⟨S2x1x1024, .f32⟩
  | 118 => ⟨S2x256x1024, .f32⟩
  | 119 => ⟨S2x256x1024, .f32⟩
  | 120 => ⟨S2x1x1x1024, .f32⟩
  | 121 => ⟨S2x1x1024, .f32⟩
  | 122 => ⟨S2x256x1024, .f32⟩
  | 123 => ⟨S2x256x1024, .f32⟩
  | 124 => ⟨S2x8192x1024, .f32⟩
  | 125 => ⟨S_, .f32⟩
  | 126 => ⟨S2x8192, .f32⟩
  | 127 => ⟨S2x8192x1, .f32⟩
  | _ => ⟨S2x256x1024, .f32⟩

abbrev hbmTy0_1 (i : Nat) : BufTy := match i % 128 with
  | 0 => ⟨S_, .f32⟩
  | 1 => ⟨S2x8192x1, .f32⟩
  | 2 => ⟨S2x8192x1, .f32⟩
  | 3 => ⟨S_, .f32⟩
  | 4 => ⟨S2x8192x1, .f32⟩
  | 5 => ⟨S2x8192x1, .f32⟩
  | 6 => ⟨S2x8192x1, .f32⟩
  | 7 => ⟨S2x8192x1024, .f32⟩
  | 8 => ⟨S2x8192x1024, .f32⟩
  | 9 => ⟨S1x1x1024, .f32⟩
  | 10 => ⟨S2x8192x1024, .f32⟩
  | 11 => ⟨S2x8192x1024, .f32⟩
  | 12 => ⟨S2x1x1x1024, .f32⟩
  | 13 => ⟨S2x1x1024, .f32⟩
  | 14 => ⟨S_, .f32⟩
  | 15 => ⟨S2x1x1024, .f32⟩
  | 16 => ⟨S2x1x1024, .f32⟩
  | 17 => ⟨S2x8192x1024, .f32⟩
  | 18 => ⟨S2x8192x1024, .f32⟩
  | 19 => ⟨S2x1x1x1024, .f32⟩
  | 20 => ⟨S2x1x1024, .f32⟩
  | 21 => ⟨S2x8192x1024, .f32⟩
  | 22 => ⟨S2x8192x1024, .f32⟩
  | 23 => ⟨S2x8448x1024, .f32⟩
  | 24 => ⟨S2x8448x1024, .f32⟩
  | 25 => ⟨S2x8448x1024, .bf16⟩
  | _ => ⟨S2x256x1024, .f32⟩

abbrev hbmTy (i : Nat) : BufTy := match i / 128 with
  | 0 => hbmTy0_0 i
  | 1 => hbmTy0_1 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_cst_3 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_5 : Ref sig .tc := ⟨.hbm, 98, rfl⟩
abbrev main_v60 : Ref sig .tc := ⟨.hbm, 99, rfl⟩
abbrev main_v61 : Ref sig .tc := ⟨.hbm, 100, rfl⟩
abbrev main_cst_6 : Ref sig .tc := ⟨.hbm, 101, rfl⟩
abbrev main_v62 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_8 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_9 : Ref sig .tc := ⟨.hbm, 125, rfl⟩
abbrev main_v83 : Ref sig .tc := ⟨.hbm, 126, rfl⟩
abbrev main_v84 : Ref sig .tc := ⟨.hbm, 127, rfl⟩
abbrev main_cst_10 : Ref sig .tc := ⟨.hbm, 128, rfl⟩
abbrev main_v85 : Ref sig .tc := ⟨.hbm, 129, rfl⟩
abbrev main_v86 : Ref sig .tc := ⟨.hbm, 130, rfl⟩
abbrev main_cst_11 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_12 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]
-- ==== Kernel5.lean ====
abbrev S2x8448x1024 : Shape := ⟨3, ![2, 8448, 1024]⟩
abbrev S2x8192x512 : Shape := ⟨3, ![2, 8192, 512]⟩
abbrev S2x8448x512 : Shape := ⟨3, ![2, 8448, 512]⟩
abbrev S2x8448x768 : Shape := ⟨3, ![2, 8448, 768]⟩
abbrev S8 : Shape := ⟨1, ![8]⟩
abbrev S512 : Shape := ⟨1, ![512]⟩
abbrev S1024x1024 : Shape := ⟨2, ![1024, 1024]⟩
abbrev S2x2x1x1024 : Shape := ⟨4, ![2, 2, 1, 1024]⟩
abbrev S1024 : Shape := ⟨1, ![1024]⟩
abbrev S1024x16 : Shape := ⟨2, ![1024, 16]⟩
abbrev S16 : Shape := ⟨1, ![16]⟩
abbrev S256x256 : Shape := ⟨2, ![256, 256]⟩
abbrev S_ : Shape := ⟨0, ![]⟩
abbrev S1024x128 : Shape := ⟨2, ![1024, 128]⟩
abbrev S1 : Shape := ⟨1, ![1]⟩
abbrev S8x64 : Shape := ⟨2, ![8, 64]⟩
abbrev S1x512 : Shape := ⟨2, ![1, 512]⟩
abbrev S1x1024 : Shape := ⟨2, ![1, 1024]⟩
abbrev S16x1 : Shape := ⟨2, ![16, 1]⟩
abbrev S2x8192x1024 : Shape := ⟨3, ![2, 8192, 1024]⟩
abbrev S2x8x8192 : Shape := ⟨3, ![2, 8, 8192]⟩
abbrev S2x8192x128 : Shape := ⟨3, ![2, 8192, 128]⟩
abbrev S16x128 : Shape := ⟨2, ![16, 128]⟩
abbrev S1x256x1024 : Shape := ⟨3, ![1, 256, 1024]⟩
abbrev S1x256x512 : Shape := ⟨3, ![1, 256, 512]⟩
abbrev S1x1x1x1024 : Shape := ⟨4, ![1, 1, 1, 1024]⟩
abbrev S1x8x256 : Shape := ⟨3, ![1, 8, 256]⟩
abbrev S1x256x128 : Shape := ⟨3, ![1, 256, 128]⟩
abbrev S256x512 : Shape := ⟨2, ![256, 512]⟩
abbrev S1x256 : Shape := ⟨2, ![1, 256]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S128x256 : Shape := ⟨2, ![128, 256]⟩
abbrev S16x256 : Shape := ⟨2, ![16, 256]⟩
abbrev S1x1x256 : Shape := ⟨3, ![1, 1, 256]⟩
abbrev S4x256 : Shape := ⟨2, ![4, 256]⟩
abbrev S1x4x256 : Shape := ⟨3, ![1, 4, 256]⟩

abbrev nBuf : Space → Nat
  | .hbm => 33
  | .vmem => 35
  | .smem => 0
  | _ => 0

abbrev bufTy : (tb : Table) → Fin (tcTables nBuf tb) → BufTy
  | .hbm, ⟨0, _⟩ => ⟨S2x8448x1024, .f32⟩
  | .hbm, ⟨1, _⟩ => ⟨S2x8192x512, .f32⟩
  | .hbm, ⟨2, _⟩ => ⟨S2x8448x512, .bf16⟩
  | .hbm, ⟨3, _⟩ => ⟨S2x8448x512, .bf16⟩
  | .hbm, ⟨4, _⟩ => ⟨S2x8448x1024, .f32⟩
  | .hbm, ⟨5, _⟩ => ⟨S2x8448x768, .f32⟩
  | .hbm, ⟨6, _⟩ => ⟨S8, .f32⟩
  | .hbm, ⟨7, _⟩ => ⟨S512, .f32⟩
  | .hbm, ⟨8, _⟩ => ⟨S1024x1024, .f32⟩
  | .hbm, ⟨9, _⟩ => ⟨S2x2x1x1024, .f32⟩
  | .hbm, ⟨10, _⟩ => ⟨S1024, .f32⟩
  | .hbm, ⟨11, _⟩ => ⟨S2x2x1x1024, .f32⟩
  | .hbm, ⟨12, _⟩ => ⟨S2x2x1x1024, .f32⟩
  | .hbm, ⟨13, _⟩ => ⟨S1024x16, .f32⟩
  | .hbm, ⟨14, _⟩ => ⟨S16, .f32⟩
  | .hbm, ⟨15, _⟩ => ⟨S256x256, .bf16⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1024x1024, .bf16⟩
  | .hbm, ⟨25, _⟩ => ⟨S1x1024, .f32⟩
  | .hbm, ⟨26, _⟩ => ⟨S16x1, .f32⟩
  | .hbm, ⟨27, _⟩ => ⟨S1x512, .f32⟩
  | .hbm, ⟨28, _⟩ => ⟨S2x8192x1024, .f32⟩
  | .hbm, ⟨29, _⟩ => ⟨S2x8192x1024, .bf16⟩
  | .hbm, ⟨30, _⟩ => ⟨S2x8x8192, .i32⟩
  | .hbm, ⟨31, _⟩ => ⟨S2x8192x128, .f32⟩
  | .hbm, ⟨32, _⟩ => ⟨S16x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1x1x1024, .f32⟩
  | .local _ .vmem, ⟨16, _⟩ => ⟨S1x1x1x1024, .f32⟩
  | .local _ .vmem, ⟨17, _⟩ => ⟨S1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1024x128, .f32⟩
  | .local _ .vmem, ⟨23, _⟩ => ⟨S16x1, .f32⟩
  | .local _ .vmem, ⟨24, _⟩ => ⟨S256x256, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x8x256, .i32⟩
  | .local _ .vmem, ⟨30, _⟩ => ⟨S1x8x256, .i32⟩
  | .local _ .vmem, ⟨31, _⟩ => ⟨S1x256x128, .f32⟩
  | .local _ .vmem, ⟨32, _⟩ => ⟨S1x256x128, .f32⟩
  | .local _ .vmem, ⟨33, _⟩ => ⟨S16x128, .f32⟩
  | .local _ .vmem, ⟨34, _⟩ => ⟨S16x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev main_v10_3 : Ref sig .tc := ⟨.hbm, 31, rfl⟩
abbrev main_v10_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S16x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference5Ideal.lean ====
abbrev S2x8448x1024 : Shape := ⟨3, ![2, 8448, 1024]⟩
abbrev S2x8192x512 : Shape := ⟨3, ![2, 8192, 512]⟩
abbrev S2x8448x512 : Shape := ⟨3, ![2, 8448, 512]⟩
abbrev S2x8448x768 : Shape := ⟨3, ![2, 8448, 768]⟩
abbrev S8 : Shape := ⟨1, ![8]⟩
abbrev S512 : Shape := ⟨1, ![512]⟩
abbrev S1024x1024 : Shape := ⟨2, ![1024, 1024]⟩
abbrev S2x2x1x1024 : Shape := ⟨4, ![2, 2, 1, 1024]⟩
abbrev S1024 : Shape := ⟨1, ![1024]⟩
abbrev S1024x16 : Shape := ⟨2, ![1024, 16]⟩
abbrev S16 : Shape := ⟨1, ![16]⟩
abbrev S8x1 : Shape := ⟨2, ![8, 1]⟩
abbrev S2x8192x8x64 : Shape := ⟨4, ![2, 8192, 8, 64]⟩
abbrev S1x1x8x1 : Shape := ⟨4, ![1, 1, 8, 1]⟩
abbrev S_ : Shape := ⟨0, ![]⟩
abbrev S2x8192x2x256 : Shape := ⟨4, ![2, 8192, 2, 256]⟩
abbrev S2x256 : Shape := ⟨2, ![2, 256]⟩
abbrev S2x8192x2 : Shape := ⟨3, ![2, 8192, 2]⟩
abbrev S2x8192x2x1 : Shape := ⟨4, ![2, 8192, 2, 1]⟩
abbrev S1x1x2x256 : Shape := ⟨4, ![1, 1, 2, 256]⟩
abbrev S2x8192x1024 : Shape := ⟨3, ![2, 8192, 1024]⟩
abbrev S2x1x1x1024 : Shape := ⟨4, ![2, 1, 1, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8192x512, .f32⟩
  | .hbm, ⟨2, _⟩ => ⟨S2x8448x512, .bf16⟩
  | .hbm, ⟨3, _⟩ => ⟨S2x8448x512, .bf16⟩
  | .hbm, ⟨4, _⟩ => ⟨S2x8448x1024, .f32⟩
  | .hbm, ⟨5, _⟩ => ⟨S2x8448x768, .f32⟩
  | .hbm, ⟨6, _⟩ => ⟨S8, .f32⟩
  | .hbm, ⟨7, _⟩ => ⟨S512, .f32⟩
  | .hbm, ⟨8, _⟩ => ⟨S1024x1024, .f32⟩
  | .hbm, ⟨9, _⟩ => ⟨S2x2x1x1024, .f32⟩
  | .hbm, ⟨10, _⟩ => ⟨S1024, .f32⟩
  | .hbm, ⟨11, _⟩ => ⟨S2x2x1x1024, .f32⟩
  | .hbm, ⟨12, _⟩ => ⟨S2x2x1x1024, .f32⟩
  | .hbm, ⟨13, _⟩ => ⟨S1024x16, .f32⟩
  | .hbm, ⟨14, _⟩ => ⟨S16, .f32⟩
  | .hbm, ⟨15, _⟩ => ⟨S8x1, .f32⟩
  | .hbm, ⟨16, _⟩ => ⟨S2x8448x512, .f32⟩
  | .hbm, ⟨17, _⟩ => ⟨S2x8192x512, .f32⟩
  | .hbm, ⟨18, _⟩ => ⟨S2x8192x8x64, .f32⟩
  | .hbm, ⟨19, _⟩ => ⟨S1x1x8x1, .f32⟩
  | .hbm, ⟨20, _⟩ => ⟨S2x8192x8x64, .f32⟩
  | .hbm, ⟨21, _⟩ => ⟨S2x8192x8x64, .f32⟩
  | .hbm, ⟨22, _⟩ => ⟨S2x8448x512, .f32⟩
  | .hbm, ⟨23, _⟩ => ⟨S2x8192x512, .f32⟩
  | .hbm, ⟨24, _⟩ => ⟨S2x8192x8x64, .f32⟩
  | .hbm, ⟨25, _⟩ => ⟨S2x8192x8x64, .f32⟩
  | .hbm, ⟨26, _⟩ => ⟨S2x8448x512, .f32⟩
  | .hbm, ⟨27, _⟩ => ⟨S2x8192x512, .f32⟩
  | .hbm, ⟨28, _⟩ => ⟨S2x8192x8x64, .f32⟩
  | .hbm, ⟨29, _⟩ => ⟨S2x8192x8x64, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S_, .f32⟩
  | .hbm, ⟨35, _⟩ => ⟨S2x8192x512, .f32⟩
  | .hbm, ⟨36, _⟩ => ⟨S2x8192x512, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x2x256, .f32⟩
  | .hbm, ⟨43, _⟩ => ⟨S2x256, .f32⟩
  | .hbm, ⟨44, _⟩ => ⟨S2x8192x2x256, .f32⟩
  | .hbm, ⟨45, _⟩ => ⟨S_, .f32⟩
  | .hbm, ⟨46, _⟩ => ⟨S2x8192x2, .f32⟩
  | .hbm, ⟨47, _⟩ => ⟨S2x8192x2x1, .f32⟩
  | .hbm, ⟨48, _⟩ => ⟨S_, .f32⟩
  | .hbm, ⟨49, _⟩ => ⟨S2x8192x2x1, .f32⟩
  | .hbm, ⟨50, _⟩ => ⟨S2x8192x2x1, .f32⟩
  | .hbm, ⟨51, _⟩ => ⟨S_, .f32⟩
  | .hbm, ⟨52, _⟩ => ⟨S2x8192x2x1, .f32⟩
  | .hbm, ⟨53, _⟩ => ⟨S2x8192x2x1, .f32⟩
  | .hbm, ⟨54, _⟩ => ⟨S2x8192x2x1, .f32⟩
  | .hbm, ⟨55, _⟩ => ⟨S2x8192x2x256, .f32⟩
  | .hbm, ⟨56, _⟩ => ⟨S2x8192x2x256, .f32⟩
  | .hbm, ⟨57, _⟩ => ⟨S1x1x2x256, .f32⟩
  | .hbm, ⟨58, _⟩ => ⟨S2x8192x2x256, .f32⟩
  | .hbm, ⟨59, _⟩ => ⟨S2x8192x2x256, .f32⟩
  | .hbm, ⟨60, _⟩ => ⟨S2x8192x512, .f32⟩
  | .hbm, ⟨61, _⟩ => ⟨S2x8192x1024, .f32⟩
  | .hbm, ⟨62, _⟩ => ⟨S2x1x1x1024, .f32⟩
  | .hbm, ⟨63, _⟩ => ⟨S2x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x1024, .f32⟩
  | .hbm, ⟨81, _⟩ => ⟨S2x8192x1024, .f32⟩
  | .hbm, ⟨82, _⟩ => ⟨S1x1x1024, .f32⟩
  | .hbm, ⟨83, _⟩ => ⟨S2x8192x1024, .f32⟩
  | .hbm, ⟨84, _⟩ => ⟨S2x8192x1024, .f32⟩
  | .hbm, ⟨85, _⟩ => ⟨S2x1x1x1024, .f32⟩
  | .hbm, ⟨86, _⟩ => ⟨S2x1x1024, .f32⟩
  | .hbm, ⟨87, _⟩ => ⟨S_, .f32⟩
  | .hbm, ⟨88, _⟩ => ⟨S2x1x1024, .f32⟩
  | .hbm, ⟨89, _⟩ => ⟨S2x1x1024, .f32⟩
  | .hbm, ⟨90, _⟩ => ⟨S2x8192x1024, .f32⟩
  | .hbm, ⟨91, _⟩ => ⟨S2x8192x1024, .f32⟩
  | .hbm, ⟨92, _⟩ => ⟨S2x1x1x1024, .f32⟩
  | .hbm, ⟨93, _⟩ => ⟨S2x1x1024, .f32⟩
  | .hbm, ⟨94, _⟩ => ⟨S2x8192x1024, .f32⟩
  | .hbm, ⟨95, _⟩ => ⟨S2x8192x1024, .f32⟩
  | .hbm, ⟨96, _⟩ => ⟨S2x8192x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_2 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== Proof.ExpertsBody.lean ====
/- The routed experts' body at one grid point, at any contents of the two control tables: which branch each test takes,
   and what the three held weight matrices and the output block are after it. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block table, the count of blocks in use, and the three held weight matrices, as the body is handed them. -/
abbrev tbl : Memref sig .tc .smem S82 .i32 := Memref.whole main_arg0
abbrev cnt : Memref sig .tc .smem S1 .i32 := Memref.whole main_arg1
abbrev gateM : Memref sig .tc .vmem S1024x1024 .bf16 := Memref.whole cc0_scratch0
abbrev upM : Memref sig .tc .vmem S1024x1024 .bf16 := Memref.whole cc0_scratch1
abbrev downM : Memref sig .tc .vmem S1024x1024 .bf16 := Memref.whole cc0_scratch2

/-- The table's word for this block, the one for the block before it, and the count, as the body loads them. -/
abbrev thisWord (T0 : S82.Idx → Elt F .i32) (i : grid0.Coords) : BitVec 32 :=
  View.readAt (Elt F) tbl.view (Rect.unit (s := S82) (k0_off1 i) S1.size (k0_off1_inb i)).toLoadRect T0 (Shape.Idx.first (numel1_S1.symm ▸ Nat.one_pos))
abbrev prevWord (T0 : S82.Idx → Elt F .i32) (i : grid0.Coords) : BitVec 32 :=
  View.readAt (Elt F) tbl.view (Rect.unit (s := S82) (k0_off2 i) S1.size (k0_off2_inb i)).toLoadRect T0 (Shape.Idx.first (numel1_S1.symm ▸ Nat.one_pos))
abbrev cntWord (T1 : S1.Idx → Elt F .i32) : BitVec 32 :=
  View.readAt (Elt F) cnt.view (Rect.unit (s := S1) ![0] S1.size inb_S1_S1_0).toLoadRect T1 (Shape.Idx.first (numel1_S1.symm ▸ Nat.one_pos))

/-- The body takes the point's own weight blocks: at the first point, and where the table's word changed. -/
abbrev Reloads (T0 : S82.Idx → Elt F .i32) (i : grid0.Coords) : Prop :=
  Scalar.cmpi .ne (Scalar.extui (Scalar.ori (Scalar.cmpi .eq (BitVec.ofNat 32 (i 0).val) 0#32) (Scalar.cmpi .ne (thisWord (F := F) T0 i) (prevWord (F := F) T0 i)))) 0#32 = 1#1

/-- The two tests on the count are each other's negation: exactly one of the two stores happens. -/
theorem cond3_iff (i : grid0.Coords) (v : BitVec 32) : k0_cond3 i v = 1#1 ↔ ¬ k0_cond2 i v = 1#1 := by
  have key : ∀ a b : BitVec 32, (Scalar.cmpi .ne (Scalar.extui (Scalar.cmpi .sge a b)) (0#32 : BitVec 32) = 1#1)
      ↔ ¬ (Scalar.cmpi .ne (Scalar.extui (Scalar.cmpi .slt a b)) (0#32 : BitVec 32) = 1#1) := by
    intro a b
    have h : Scalar.cmpi .sge a b = ~~~ Scalar.cmpi .slt a b := by
      simp only [Scalar.cmpi, IntOp.cmpi, BitVec.sle_eq_not_slt]
      cases a.slt b <;> rfl
    rw [h]
    generalize Scalar.cmpi .slt a b = p
    revert p; decide
  exact key _ _

section Whole

variable {Val : EltTy → Type} [∀ e, Nonempty (Val e)] {Ix Name U Lvl : Type} [DecidableEq Ix] [DecidableEq Name] [URA U]
variable {sp : Space} {S : Shape} {e : EltTy}

/-- A load of the whole buffer at offsets zero reads what it holds. -/
theorem load_whole (v : View sig .tc sp S e) (x : S.Idx → Val e) {off : Fin S.rank → ℕ} (h : off = fun _ => 0)
    (inb : ∀ a, off a + S.size a ≤ S.size a) : v.readAt Val (Rect.unit off S.size inb).toLoadRect (v.rep x) = x := by
  rw [View.readAt_rep]; exact View.ld_unit_zero h inb x

/-- One store of the whole buffer leaves its payload. -/
theorem rep_of_store (c : Dev nD) (m : Memref sig .tc sp S e) {off : Fin S.rank → ℕ} (h : off = fun _ => 0)
    (inb : ∀ a, off a + S.size a ≤ S.size a) (w y : S.Idx → Val e) (L : List (View.Piece Val S e))
    (hL : L = [⟨Rect.unit off S.size inb, w⟩]) (hw : w = y) :
    (m.view.loc (c : Thread nD τ) ↦[m.view.set]{fullShare} m.view.writes Val m.view.junk L)
      ⊢ (m.view.loc (c : Thread nD τ) ↦[m.view.set]{fullShare} m.view.rep y : sProp (MT nD τ sig Ix Val Name U Lvl)) := by
  subst hL hw
  refine .trans ?_ (rep_of_owns (c : Thread nD τ) m fullShare w)
  unfold owns
  iintro H; iexists _; isplitr; swap
  · iexact H
  · ipureintro
    rw [View.read_writes_eq_canon _ _ _ (fun i => ⟨_, List.mem_singleton_self _, View.mem_set_unit_zero h inb i⟩)]
    exact View.canon_unit_zero h inb w

end Whole

theorem zero2 : (![0, 0] : Fin 2 → ℕ) = fun _ => 0 := by decide
theorem zero4 : (![0, 0, 0, 0] : Fin 4 → ℕ) = fun _ => 0 := by decide

set_option maxHeartbeats 8000000 in
/-- ONE POINT OF THE BODY. From the point's blocks `x0` (rows), `x1`, `x2`, `x3` (weights), the tables and the held
    matrices `a0`, `a1`, `a2`: it ends with the blocks and tables as they were, the held matrices the point's own where it
    reloads and unchanged where it does not, and the output block the experts' rows (or zeros past the count). -/
theorem body_run (c : Dev nD) (i : grid0.Coords) (arg3 : Memref sig .tc .vmem S512x1024 .bf16) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .bf16) (harg7 : arg7.IsWhole)
    (T0 : S82.Idx → Elt F .i32) (T1 : S1.Idx → Elt F .i32)
    (x0 : S512x1024.Idx → Elt F .bf16) (x1 x2 x3 : S1x1x1024x1024.Idx → Elt F .f32)
    (a0 a1 a2 b0 b1 b2 : S1024x1024.Idx → Elt F .bf16) (y : S512x1024.Idx → Elt F .bf16)
    (hb : (Reloads (F := F) T0 i → b0 = k0_pay1 x1 ∧ b1 = k0_pay2 x2 ∧ b2 = k0_pay3 x3)
      ∧ (¬ Reloads (F := F) T0 i → b0 = a0 ∧ b1 = a1 ∧ b2 = a2))
    (hy : (k0_cond2 i (cntWord (F := F) T1) = 1#1 → y = k0_pay4 x0 b0 b1 b2) ∧ (¬ k0_cond2 i (cntWord (F := F) T1) = 1#1 → y = k0_pay5))
    (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (tbl.view.loc (c : Thread nD τ) ↦{fullShare.right} T0) ∗ (cnt.view.loc (c : Thread nD τ) ↦{fullShare.right} T1)
        ∗ (∃ d, owns (c : Thread nD τ) arg7 fullShare d)
        ∗ owns (c : Thread nD τ) gateM fullShare a0 ∗ owns (c : Thread nD τ) upM fullShare a1 ∗ owns (c : Thread nD τ) downM fullShare a2
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ (tbl.view.loc (c : Thread nD τ) ↦{fullShare.right} T0) ∗ (cnt.view.loc (c : Thread nD τ) ↦{fullShare.right} T1)
            ∗ owns (c : Thread nD τ) arg7 fullShare y
            ∗ owns (c : Thread nD τ) gateM fullShare b0 ∗ owns (c : Thread nD τ) upM fullShare b1 ∗ owns (c : Thread nD τ) downM fullShare b2) -∗ K ⟨⟩))
      ⊢ wp frame (wpE (defs₀ (F := F)) Variants.none c none) Set.univ (cc0_moe_experts i tbl (Memref.isWhole_whole _) cnt (Memref.isWhole_whole _) arg3 harg3 arg4 harg4 arg5 harg5 arg6 harg6 arg7 harg7 gateM (Memref.isWhole_whole _) upM (Memref.isWhole_whole _) downM (Memref.isWhole_whole _)) K := by
  simp (config := { proj := false, dsimp := false }) only [owns_eq_rep]
  rw [cc0_moe_experts_eq_skeleton]; unfold cc0_moe_experts_skel
  have hS0 : gateM.IsWhole := Memref.isWhole_whole _
  have hS1 : upM.IsWhole := Memref.isWhole_whole _
  have hS2 : downM.IsWhole := Memref.isWhole_whole _
  have hT0 : tbl.IsWhole := Memref.isWhole_whole _
  have hT1 : cnt.IsWhole := Memref.isWhole_whole _
  by_cases hc0 : Reloads (F := F) T0 i
  · obtain ⟨rfl, rfl, rfl⟩ := hb.1 hc0
    by_cases k0_h2 : k0_cond2 i (cntWord (F := F) T1) = 1#1
    · have k0_h3 : ¬ k0_cond3 i (cntWord (F := F) T1) = 1#1 := fun h => (cond3_iff _ _).1 h k0_h2
      obtain rfl := hy.1 k0_h2
      iintro ⟨H0, H1, H2, H3, HT0, HT1, ⟨%d4, HO4⟩, HS0, HS1, HS2, Hk⟩
      sl_exec! (disch := first | (guard_target = Scalar.cmpi = _; exact hc0) | (guard_target = k0_cond2 _ _ = _; exact k0_h2) | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      have e0 : body_run.sl.v19 c arg4 x1 = x1 := load_whole _ _ zero4 _
      have e1 : body_run.sl.v20 c arg4 x1 = k0_pay1 x1 :=
        (View.readCov_unit_zero gateM.view zero2 _ _).trans (congrArg k0_pay1 (load_whole _ _ zero4 _))
      have e2 : body_run.sl.v30 c arg5 x2 = k0_pay2 x2 :=
        (View.readCov_unit_zero upM.view zero2 _ _).trans (congrArg k0_pay2 (load_whole _ _ zero4 _))
      have e3 : body_run.sl.v34 c arg6 x3 = k0_pay3 x3 :=
        (View.readCov_unit_zero downM.view zero2 _ _).trans (congrArg k0_pay3 (load_whole _ _ zero4 _))
      isplitl [HO4]
      · iapply (rep_of_store c arg7 zero2 inb_S512x1024_S512x1024_0_0 _ (k0_pay4 x0 (k0_pay1 x1) (k0_pay2 x2) (k0_pay3 x3))
          (body_run.sl.HO4_1 c arg3 arg4 arg5 arg6 x0 x1 x2 x3) rfl
          (by rw [e1, e2, e3, load_whole _ x0 zero2])); iexact HO4
      isplitl [HS0]
      · iapply (rep_of_store c gateM zero2 inb_S1024x1024_S1024x1024_0_0 _ (k0_pay1 x1) (body_run.sl.HS0_1 c arg4 x1) rfl
          (congrArg k0_pay1 (load_whole _ _ zero4 _))); iexact HS0
      isplitl [HS1]
      · iapply (rep_of_store c upM zero2 inb_S1024x1024_S1024x1024_0_0 _ (k0_pay2 x2) (body_run.sl.HS1_1 c arg5 x2) rfl
          (congrArg k0_pay2 (load_whole _ _ zero4 _))); iexact HS1
      iapply (rep_of_store c downM zero2 inb_S1024x1024_S1024x1024_0_0 _ (k0_pay3 x3) (body_run.sl.HS2_1 c arg6 x3) rfl
          (congrArg k0_pay3 (load_whole _ _ zero4 _))); iexact HS2
    · have k0_h3 : k0_cond3 i (cntWord (F := F) T1) = 1#1 := (cond3_iff _ _).2 k0_h2
      obtain rfl := hy.2 k0_h2
      iintro ⟨H0, H1, H2, H3, HT0, HT1, ⟨%d4, HO4⟩, HS0, HS1, HS2, Hk⟩
      sl_exec! (disch := first | (guard_target = Scalar.cmpi = _; exact hc0) | (guard_target = ¬(k0_cond2 _ _ = _); exact k0_h2) | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · iapply (rep_of_store c arg7 zero2 inb_S512x1024_S512x1024_0_0 _ k0_pay5 body_run.sl.HO4_1_1 rfl rfl); iexact HO4
      isplitl [HS0]
      · iapply (rep_of_store c gateM zero2 inb_S1024x1024_S1024x1024_0_0 _ (k0_pay1 x1) (body_run.sl.HS0_1_1 c arg4 x1) rfl
          (congrArg k0_pay1 (load_whole _ _ zero4 _))); iexact HS0
      isplitl [HS1]
      · iapply (rep_of_store c upM zero2 inb_S1024x1024_S1024x1024_0_0 _ (k0_pay2 x2) (body_run.sl.HS1_1_1 c arg5 x2) rfl
          (congrArg k0_pay2 (load_whole _ _ zero4 _))); iexact HS1
      iapply (rep_of_store c downM zero2 inb_S1024x1024_S1024x1024_0_0 _ (k0_pay3 x3) (body_run.sl.HS2_1_1 c arg6 x3) rfl
          (congrArg k0_pay3 (load_whole _ _ zero4 _))); iexact HS2
  · obtain ⟨rfl, rfl, rfl⟩ := hb.2 hc0
    by_cases k0_h2 : k0_cond2 i (cntWord (F := F) T1) = 1#1
    · have k0_h3 : ¬ k0_cond3 i (cntWord (F := F) T1) = 1#1 := fun h => (cond3_iff _ _).1 h k0_h2
      obtain rfl := hy.1 k0_h2
      iintro ⟨H0, H1, H2, H3, HT0, HT1, ⟨%d4, HO4⟩, HS0, HS1, HS2, Hk⟩
      sl_exec! (disch := first | (guard_target = ¬(Scalar.cmpi = _); exact hc0) | (guard_target = k0_cond2 _ _ = _; exact k0_h2) | (guard_target = ¬(k0_cond3 _ _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · iapply (rep_of_store c arg7 zero2 inb_S512x1024_S512x1024_0_0 _ (k0_pay4 x0 b0 b1 b2) (body_run.sl.HO4_1_2 c arg3 x0 b0 b1 b2) rfl
          (by rw [load_whole _ x0 zero2, load_whole _ b0 zero2, load_whole _ b1 zero2, load_whole _ b2 zero2])); iexact HO4
      isplitl [HS0]; · iexact HS0
      isplitl [HS1]; · iexact HS1
      iexact HS2
    · have k0_h3 : k0_cond3 i (cntWord (F := F) T1) = 1#1 := (cond3_iff _ _).2 k0_h2
      obtain rfl := hy.2 k0_h2
      iintro ⟨H0, H1, H2, H3, HT0, HT1, ⟨%d4, HO4⟩, HS0, HS1, HS2, Hk⟩
      sl_exec! (disch := first | (guard_target = ¬(Scalar.cmpi = _); exact hc0) | (guard_target = ¬(k0_cond2 _ _ = _); exact k0_h2) | (guard_target = k0_cond3 _ _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · iapply (rep_of_store c arg7 zero2 inb_S512x1024_S512x1024_0_0 _ k0_pay5 body_run.sl.HO4_1_3 rfl rfl); iexact HO4
      isplitl [HS0]; · iexact HS0
      isplitl [HS1]; · iexact HS1
      iexact HS2

end Cert.Experts

end
-- ==== Proof.ExpertsFrame.lean ====
/- The routed experts' launch at any admissible contents of the two control tables: what the pipeline's buffers hold
   before each point, that each point of the body keeps it, and the run it gives. -/
module

public import proofs.«01_k».proof.Proof.ExpertsBody

@[expose] public section

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The pipeline at the tables' contents `a`, as @main's one. -/
abbrev cfgA : Pipeline.Cfg sig Λ₀ := cfg0 (F := F) a
abbrev pcs : Fin 1 → Pipeline.Cfg sig Λ₀ := Pipeline.pin (pcfgs (F := F)) fun _ => a

/-- The two tables, at their literal types. -/
abbrev tab0 : S82.Idx → Elt F .i32 := a.1 0
abbrev tab1 : S1.Idx → Elt F .i32 := a.1 1

/-- The initial state. -/
abbrev s₀ : MemSt nD τ sig (Elt F) := ⟨m, fun _ => 0, ρ⟩

/-- Point `t`'s coordinates and each window's current staging buffer there. -/
abbrev crd (t : Fin (cfgA a).N) : grid0.Coords := (cfgA a).grid.coords t
abbrev st0 (t : Fin (cfgA a).N) : Memref sig .tc .vmem S512x1024 .bf16 := spec0_0.stage ((cfgA a).slots t (0 : Fin 5))
abbrev st1 (t : Fin (cfgA a).N) : Memref sig .tc .vmem S1x1x1024x1024 .f32 := spec0_1.stage ((cfgA a).slots t (1 : Fin 5))
abbrev st2 (t : Fin (cfgA a).N) : Memref sig .tc .vmem S1x1x1024x1024 .f32 := spec0_2.stage ((cfgA a).slots t (2 : Fin 5))
abbrev st3 (t : Fin (cfgA a).N) : Memref sig .tc .vmem S1x1x1024x1024 .f32 := spec0_3.stage ((cfgA a).slots t (3 : Fin 5))
abbrev st4 (t : Fin (cfgA a).N) : Memref sig .tc .vmem S512x1024 .bf16 := spec0_4.stage ((cfgA a).slots t (4 : Fin 5))

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The three weight matrices the body holds after point `t`: the point's own blocks, converted. -/
def held0 (c : Dev nD) (t : Fin (cfgA a).N) : S1024x1024.Idx → Elt F .bf16 := k0_pay1 (iblk a m c (1 : Fin 5) t)
def held1 (c : Dev nD) (t : Fin (cfgA a).N) : S1024x1024.Idx → Elt F .bf16 := k0_pay2 (iblk a m c (2 : Fin 5) t)
def held2 (c : Dev nD) (t : Fin (cfgA a).N) : S1024x1024.Idx → Elt F .bf16 := k0_pay3 (iblk a m c (3 : Fin 5) t)

/-- The output block after point `t`: the experts' rows below the count, zeros past it. -/
def outBlk (c : Dev nD) (t : Fin (cfgA a).N) : S512x1024.Idx → Elt F .bf16 :=
  if k0_cond2 (crd a t) (cntWord (F := F) (tab1 a)) = 1#1 then
    k0_pay4 (iblk a m c (0 : Fin 5) t) (held0 a m c t) (held1 a m c t) (held2 a m c t)
  else k0_pay5

/-- The invariant before position `t`: past the first, the held matrices are the last point's; the body's halves of the
    tables. -/
def Inv (c : Dev nD) (t : Fin ((cfgA a).N + 1)) : sProp 𝕄 :=
  iprop(∃ x0, ∃ x1, ∃ x2, ⌜∀ s : Fin (cfgA a).N, s.val + 1 = t.val → x0 = held0 a m c s ∧ x1 = held1 a m c s ∧ x2 = held2 a m c s⌝
    ∗ owns (c : Thread nD τ) gateM fullShare x0 ∗ owns (c : Thread nD τ) upM fullShare x1 ∗ owns (c : Thread nD τ) downM fullShare x2
    ∗ (tbl.view.loc (c : Thread nD τ) ↦{fullShare.right} tab0 a) ∗ (cnt.view.loc (c : Thread nD τ) ↦{fullShare.right} tab1 a))

/-- The proof data of the one pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outBlk a m c t
  Φ t := Inv a m c t
  q _ := fullShare
  owed _ := 0

theorem fetched_eq (c : Dev nD) (t : Fin (cfgA a).N) :
    (∀ d, (dats a m 0 c).fetched (0 : Fin 5) t d = iblk a m c (0 : Fin 5) t)
    ∧ (∀ d, (dats a m 0 c).fetched (1 : Fin 5) t d = iblk a m c (1 : Fin 5) t)
    ∧ (∀ d, (dats a m 0 c).fetched (2 : Fin 5) t d = iblk a m c (2 : Fin 5) t)
    ∧ (∀ d, (dats a m 0 c).fetched (3 : Fin 5) t d = iblk a m c (3 : Fin 5) t) := by
  refine ⟨fun d => ?_, fun d => ?_, fun d => ?_, fun d => ?_⟩ <;> (unfold Dat.fetched Dat.blockOf iblk; rfl)

/-- Each input window holds its point's block when the body runs, fetched there or not. -/
theorem before_eq (c : Dev nD) (t : Fin (cfgA a).N) :
    (∀ d, (dats a m 0 c).before (0 : Fin 5) t d = iblk a m c (0 : Fin 5) t)
    ∧ (∀ d, (dats a m 0 c).before (1 : Fin 5) t d = iblk a m c (1 : Fin 5) t)
    ∧ (∀ d, (dats a m 0 c).before (2 : Fin 5) t d = iblk a m c (2 : Fin 5) t)
    ∧ (∀ d, (dats a m 0 c).before (3 : Fin 5) t d = iblk a m c (3 : Fin 5) t) := by
  have f := fetched_eq a m c t
  refine ⟨fun d => (Dat.before_in_eq_fetched _ _ rfl (fun _ => rfl) (fun _ _ _ => rfl) (fun t => ?_) t d).trans (f.1 d),
    fun d => (Dat.before_in_eq_fetched _ _ rfl (fun _ => rfl) (fun _ _ _ => rfl) (fun t => ?_) t d).trans (f.2.1 d),
    fun d => (Dat.before_in_eq_fetched _ _ rfl (fun _ => rfl) (fun _ _ _ => rfl) (fun t => ?_) t d).trans (f.2.2.1 d),
    fun d => (Dat.before_in_eq_fetched _ _ rfl (fun _ => rfl) (fun _ _ _ => rfl) (fun t => ?_) t d).trans (f.2.2.2 d)⟩ <;>
    (unfold dats Dat.blockOf iblk; rfl)

/-! ## What the tests on the tables tell -/

/-- Point `t`'s one coordinate is `t`. -/
theorem crd_val (t : Fin (cfgA a).N) : (crd a t 0).val = t.val := by
  have h : t.val < 82 := lt_of_lt_of_eq t.isLt N_0
  rw [show (crd a t 0).val = (grid0.coords t 0).val from rfl, Pipeline.Grid.coords_val (G := grid0) t 0 (S := 1) (B := 82) (by decide) rfl]
  omega

/-- The offset of a coordinate's own word, and of the word before it. -/
theorem off1_eq (i : grid0.Coords) : k0_off1 i = ![(i 0).val] := by
  have key : ∀ n : Fin 82, (Scalar.indexCast (BitVec.ofNat 32 n.val)).toNat = n.val := by decide
  exact congrArg (fun n => ![n]) (key (i 0))
theorem off2_eq (i : grid0.Coords) (h : (i 0).val ≠ 0) : k0_off2 i = ![(i 0).val - 1] := by
  have key : ∀ n : Fin 82, n.val ≠ 0 →
      (Scalar.indexCast (Scalar.maxsi (Scalar.subi (BitVec.ofNat 32 n.val) 1#32) 0#32)).toNat = n.val - 1 := by decide
  exact congrArg (fun n => ![n]) (key (i 0) h)

/-- Where the body does not reload, there is a point before and the table's word there is this point's. -/
theorem word_eq_of_keep (T0 : S82.Idx → Elt F .i32) (i : grid0.Coords) (h : ¬ Reloads (F := F) T0 i) :
    (i 0).val ≠ 0 ∧ thisWord (F := F) T0 i = prevWord (F := F) T0 i := by
  have key : ∀ p q : BitVec 1, ¬ (Scalar.cmpi .ne (Scalar.extui (Scalar.ori p q)) (0#32 : BitVec 32) = 1#1) → ¬ p = 1#1 ∧ ¬ q = 1#1 := by decide
  obtain ⟨hp, hq⟩ := key _ _ h
  constructor
  · intro h0
    rw [h0] at hp
    exact hp (by decide)
  · generalize thisWord (F := F) T0 i = x at hq ⊢
    generalize prevWord (F := F) T0 i = y at hq ⊢
    by_contra hne
    refine hq ?_
    show BitVec.ofBool (x != y) = 1#1
    rw [bne_iff_ne.2 hne]; rfl

/-- The table's word before `t` is the word of the point before. -/
theorem prevWord_eq (T0 : S82.Idx → Elt F .i32) (i i' : grid0.Coords) (h : (i' 0).val + 1 = (i 0).val) :
    prevWord (F := F) T0 i = thisWord (F := F) T0 i' := by
  have key : ∀ (f f' : Fin 1 → ℕ) (hf : ∀ x, f x + S1.size x ≤ S82.size x) (hf' : ∀ x, f' x + S1.size x ≤ S82.size x), f = f' →
      View.readAt (Elt F) tbl.view (Rect.unit (s := S82) f S1.size hf).toLoadRect T0 (Shape.Idx.first (numel1_S1.symm ▸ Nat.one_pos))
        = View.readAt (Elt F) tbl.view (Rect.unit (s := S82) f' S1.size hf').toLoadRect T0 (Shape.Idx.first (numel1_S1.symm ▸ Nat.one_pos)) := by
    rintro f _ hf hf' rfl; rfl
  refine key _ _ _ _ ?_
  rw [off1_eq, off2_eq i (by omega)]
  exact congrArg (fun n => ![n]) (by omega)

/-- The weight windows' block index at a coordinate is the table's word there, in the layer's first slot. -/
theorem weight_index (i : grid0.Coords) (pf : pre0.Contents (Elt F)) :
    cc0_transform_1 k0_off1_inb numel1_S1 pf i = ![0, (thisWord (F := F) (pf 0) i).toNat, 0, 0]
    ∧ cc0_transform_2 k0_off1_inb numel1_S1 pf i = ![0, (thisWord (F := F) (pf 0) i).toNat, 0, 0]
    ∧ cc0_transform_3 k0_off1_inb numel1_S1 pf i = ![0, (thisWord (F := F) (pf 0) i).toNat, 0, 0] := ⟨rfl, rfl, rfl⟩

/-- Where the body does not reload, the three held matrices after the point before are this point's. -/
theorem held_eq_of_keep (c : Dev nD) (t : Fin (cfgA a).N) (h : ¬ Reloads (F := F) (tab0 a) (crd a t)) :
    ∃ s : Fin (cfgA a).N, s.val + 1 = t.val ∧ held0 a m c s = held0 a m c t ∧ held1 a m c s = held1 a m c t ∧ held2 a m c s = held2 a m c t := by
  obtain ⟨h0, hw⟩ := word_eq_of_keep _ _ h
  rw [crd_val] at h0
  have hs : t.val - 1 < (cfgA a).N := lt_of_le_of_lt (Nat.sub_le _ _) t.isLt
  have h1 : (⟨t.val - 1, hs⟩ : Fin (cfgA a).N).val + 1 = t.val := by show t.val - 1 + 1 = t.val; omega
  refine ⟨⟨t.val - 1, hs⟩, h1, ?_⟩
  generalize (⟨t.val - 1, hs⟩ : Fin (cfgA a).N) = s at h1
  rw [prevWord_eq (tab0 a) (crd a t) (crd a s) (by rw [crd_val, crd_val]; exact h1)] at hw
  have fs := fetched_eq a m c s
  have ft := fetched_eq a m c t
  have w := weight_index (crd a s) a.1
  have w' := weight_index (crd a t) a.1
  have e : (![0, (thisWord (F := F) (a.1 0) (crd a s)).toNat, 0, 0] : Fin 4 → ℕ) = ![0, (thisWord (F := F) (a.1 0) (crd a t)).toNat, 0, 0] :=
    congrArg (fun x : BitVec 32 => (![0, x.toNat, 0, 0] : Fin 4 → ℕ)) hw.symm
  have b1 : iblk a m c (1 : Fin 5) s = iblk a m c (1 : Fin 5) t :=
    (fs.2.1 (fun _ => default)).symm.trans (((dats a m 0 c).fetched_congr (1 : Fin 5) (w.1.trans (e.trans w'.1.symm)) rfl _).trans (ft.2.1 _))
  have b2 : iblk a m c (2 : Fin 5) s = iblk a m c (2 : Fin 5) t :=
    (fs.2.2.1 (fun _ => default)).symm.trans (((dats a m 0 c).fetched_congr (2 : Fin 5) (w.2.1.trans (e.trans w'.2.1.symm)) rfl _).trans (ft.2.2.1 _))
  have b3 : iblk a m c (3 : Fin 5) s = iblk a m c (3 : Fin 5) t :=
    (fs.2.2.2 (fun _ => default)).symm.trans (((dats a m 0 c).fetched_congr (3 : Fin 5) (w.2.2.trans (e.trans w'.2.2.symm)) rfl _).trans (ft.2.2.2 _))
  exact ⟨congrArg k0_pay1 b1, congrArg k0_pay2 b2, congrArg k0_pay3 b3⟩

/-- The output window is stored at every point: one of the two tests on the count holds. -/
theorem idle4 (t : Fin (cfgA a).N) : (cfgA a).idle (4 : Fin 5) ((cfgA a).grid.coords t) = false := by
  show (!(k0_cond2 (crd a t) _ == 1#1) && !(k0_cond3 (crd a t) _ == 1#1)) = false
  generalize a.1.atD 1 ![0] = v
  have h := cond3_iff (crd a t) v
  by_cases h2 : k0_cond2 (crd a t) v = 1#1
  · simp [h2]
  · simp [h.2 h2]

/-! ## The body obligation -/

/-- The body at point `t` on its staging buffers, as the pipeline calls it. -/
abbrev bodyAt (t : Fin (cfgA a).N) : Prog (TpuEff nD τ sig (Elt F) Λ₀ .tc) PUnit :=
  cc0_moe_experts (crd a t) tbl (Memref.isWhole_whole _) cnt (Memref.isWhole_whole _)
    (st0 a t) (hstage0_0 (((cfgA a).slots t (0 : Fin 5)).cast nbuf0_0)) (st1 a t) (hstage0_1 (((cfgA a).slots t (1 : Fin 5)).cast nbuf0_1))
    (st2 a t) (hstage0_2 (((cfgA a).slots t (2 : Fin 5)).cast nbuf0_2)) (st3 a t) (hstage0_3 (((cfgA a).slots t (3 : Fin 5)).cast nbuf0_3))
    (st4 a t) (hstage0_4 (((cfgA a).slots t (4 : Fin 5)).cast nbuf0_4))
    gateM (Memref.isWhole_whole _) upM (Memref.isWhole_whole _) downM (Memref.isWhole_whole _)

set_option maxHeartbeats 4000000 in
theorem sound_body (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 5) t d))
        ∗ (∃ d, owns (c : Thread nD τ) (st1 a t) fullShare ((dats a m 0 c).before (1 : Fin 5) t d))
        ∗ (∃ d, owns (c : Thread nD τ) (st2 a t) fullShare ((dats a m 0 c).before (2 : Fin 5) t d))
        ∗ (∃ d, owns (c : Thread nD τ) (st3 a t) fullShare ((dats a m 0 c).before (3 : Fin 5) t d))
        ∗ (∃ d, owns (c : Thread nD τ) (st4 a t) fullShare ((dats a m 0 c).before (4 : Fin 5) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle4 a t]
  obtain ⟨e0, e1, e2, e3⟩ := before_eq a m c t
  simp only [e0, e1, e2, e3]
  rewrite [show (dats a m 0 c).Φ t.succ = Inv a m c t.succ from rfl, show (dats a m 0 c).Φ t.castSucc = Inv a m c t.castSucc from rfl,
    show (dats a m 0 c).owesAt () t.succ = (dats a m 0 c).owesAt () t.castSucc from rfl]
  unfold Inv
  iintro ⟨⟨%x0, %x1, %x2, %hx, HS0, HS1, HS2, HT0, HT1⟩, Ho, ⟨%d0, H0⟩, ⟨%d1, H1⟩, ⟨%d2, H2⟩, ⟨%d3, H3⟩, ⟨%d4, H4⟩⟩
  have hb : (Reloads (F := F) (tab0 a) (crd a t) → held0 a m c t = k0_pay1 (iblk a m c (1 : Fin 5) t) ∧ held1 a m c t = k0_pay2 (iblk a m c (2 : Fin 5) t) ∧ held2 a m c t = k0_pay3 (iblk a m c (3 : Fin 5) t))
      ∧ (¬ Reloads (F := F) (tab0 a) (crd a t) → held0 a m c t = x0 ∧ held1 a m c t = x1 ∧ held2 a m c t = x2) := by
    refine ⟨fun _ => ⟨rfl, rfl, rfl⟩, fun h => ?_⟩
    obtain ⟨s, hs, k0, k1, k2⟩ := held_eq_of_keep a m c t h
    obtain ⟨rfl, rfl, rfl⟩ := hx s hs
    exact ⟨k0.symm, k1.symm, k2.symm⟩
  iapply (body_run c (crd a t) (st0 a t) _ (st1 a t) _ (st2 a t) _ (st3 a t) _ (st4 a t) _ (tab0 a) (tab1 a)
    (iblk a m c (0 : Fin 5) t) (iblk a m c (1 : Fin 5) t) (iblk a m c (2 : Fin 5) t) (iblk a m c (3 : Fin 5) t) x0 x1 x2
    (held0 a m c t) (held1 a m c t) (held2 a m c t) (outBlk a m c t) hb
    ⟨fun h => if_pos h, fun h => if_neg h⟩ _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · iexists _; iexists _; iexists _
    isplitr; swap
    · isplitl [HS0]; · iexact HS0
      isplitl [HS1]; · iexact HS1
      isplitl [HS2]; · iexact HS2
      isplitl [HT0]; · iexact HT0
      iexact HT1
    · ipureintro
      intro s hs
      obtain rfl : s = t := Fin.ext (by rw [Fin.val_succ] at hs; omega)
      exact ⟨rfl, rfl, rfl⟩
  isplitl [Ho]; · iexact Ho
  isplitl [H0]; · iexact H0
  isplitl [H1]; · iexact H1
  isplitl [H2]; · iexact H2
  isplitl [H3]; · iexact H3
  iexact H4

theorem body_obligation (c : Dev nD) : BodyObligation (dats a m 0 c) (defs₀ (F := F)) Variants.none () Set.univ := fun t => by
  rw [bigSep_W0]
  exact sound_body a m c t

/-! ## The launch -/

abbrev EP : Emb (UR sig nD τ) 𝕄 := emb₁

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A scratch matrix whole at some contents, either spelling. -/
theorem scratch_owns (c : Dev nD) (x : S1024x1024.Idx → Elt F .bf16) :
    (owns (c : Thread nD τ) gateM fullShare x : sProp 𝕄) = iprop(((c : Thread nD τ).loc cc0_scratch0) ↦{fullShare} x)
    ∧ (owns (c : Thread nD τ) upM fullShare x : sProp 𝕄) = iprop(((c : Thread nD τ).loc cc0_scratch1) ↦{fullShare} x)
    ∧ (owns (c : Thread nD τ) downM fullShare x : sProp 𝕄) = iprop(((c : Thread nD τ).loc cc0_scratch2) ↦{fullShare} x) :=
  ⟨owns_whole _ _ _ _, owns_whole _ _ _ _, owns_whole _ _ _ _⟩

theorem inv_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Inv a m c 0 from rfl]
  unfold Inv
  iintro ⟨-, ⟨HT0, HT1⟩, ⟨%y0, HS0⟩, ⟨%y1, HS1⟩, ⟨%y2, HS2⟩⟩
  iexists y0; iexists y1; iexists y2
  isplitr; swap
  · rw [(scratch_owns c y0).1, (scratch_owns c y1).2.1, (scratch_owns c y2).2.2]
    isplitl [HS0]; · iexact HS0
    isplitl [HS1]; · iexact HS1
    isplitl [HS2]; · iexact HS2
    isplitl [HT0]; · iexact HT0
    iexact HT1
  · ipureintro
    intro s hs
    exact absurd hs (Nat.succ_ne_zero _)

theorem inv_exit (c : Dev nD) : (dats a m 0 c).Φ (Fin.last (cfgA a).N) ⊢ iprop(BI.emp ∗ Pipeline.scopedRest spec0 c) := by
  rw [scopedRest0_eq, show (dats a m 0 c).Φ (Fin.last (cfgA a).N) = Inv a m c (Fin.last _) from rfl]
  unfold Inv
  iintro ⟨%x0, %x1, %x2, -, HS0, HS1, HS2, -, -⟩
  isplitr; · iempintro
  isplitl [HS0]
  · iexists x0; rw [← (scratch_owns c x0).1]; iexact HS0
  isplitl [HS1]
  · iexists x1; rw [← (scratch_owns c x1).2.1]; iexact HS1
  iexists x2; rw [← (scratch_owns c x2).2.2]; iexact HS2

/-- The physical post: every array at what the library computes, every table as it was. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`'s, with zero counters: every weakly fair execution of @main terminates, each array
    ends at the computed contents and every semaphore counter of the machine at zero. -/
theorem run_main (hp : ∀ (c : Dev nD) (j : Fin 2), m ((c : Thread nD τ).loc (pre0.ref j)) = a.1 j) :
    θ_run (defs (F := F)) (onTc (τ := τ) (main (F := F))) (s₀ m ρ) (fun r => Post a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_intro a m)
    (hout := inv_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run keeps and computes: the arguments unchanged, the output array at its blocks' write-backs. -/
theorem run_out (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((dats a m 0 c).arrAt_in (0 : Fin 5) rfl _), ((h.1 c).1 (1 : Fin 5)).trans ((dats a m 0 c).arrAt_in (1 : Fin 5) rfl _),
    ((h.1 c).1 (2 : Fin 5)).trans ((dats a m 0 c).arrAt_in (2 : Fin 5) rfl _), ((h.1 c).1 (3 : Fin 5)).trans ((dats a m 0 c).arrAt_in (3 : Fin 5) rfl _)⟩, h.2⟩)
    (run_main a m ρ hp)

end Cert.Experts

end
-- ==== Proof.ExpertsRun.lean ====
/- From the precondition, every word of the block table names an expert; with it both programs of the routed experts run
   and end clean. -/
module

public import proofs.«01_k».proof.Defs
public import proofs.«01_k».proof.Proof.Gen.Kernel
public import proofs.«01_k».proof.Proof.Gen.Pre_in_range
public import proofs.«01_k».proof.Proof.ExpertsFrame
public import Idealize.ShloMosaic.Lib.ReduceAll

@[expose] public section

noncomputable section

namespace Cert.Experts

open Cert.KernelIdeal Cert.KernelIdeal.Gen
open Idealize.ShloMosaic
open Idealize.ShloMosaic.TcCoe
open Idealize.SL.Sem

variable {F : FTy → Type} [FloatOps F]

/-- The precondition says each word of the table is an expert's number. -/
theorem word_lt (T0 : IVec S82 32) (T1 : IVec S1 32) (x : FVec F S41984x1024 .bf16) (wg wu wd : FVec F S2x16x1024x1024 .f32)
    (h : Cert.Pre_in_range.fn (F := F) T0 T1 x wg wu wd = fun _ => 1#1) (i : S82.Idx) : (T0 i).toNat < 16 := by
  have e := Host.reduce_andi_all _ _ _ _ _ (congrFun h (fun d => d.elim0)) i
  have key : ∀ w : BitVec 32, IntOp.andi (IntOp.cmpi .sge w 0#32) (IntOp.cmpi .slt w 16#32) = 1#1 → w.toNat < 16 := by
    intro w hw
    change BitVec.ofBool ((0#32).sle w) &&& BitVec.ofBool (w.slt 16#32) = 1#1 at hw
    have : (0#32).sle w = true ∧ w.slt 16#32 = true := by
      generalize (0#32).sle w = p at hw ⊢; generalize w.slt 16#32 = q at hw ⊢
      revert p q; decide
    have h1 := BitVec.sle_iff_toInt_le.1 this.1
    have h2 := BitVec.slt_iff_toInt_lt.1 this.2
    have h3 : (0#32 : BitVec 32).toInt = 0 := rfl
    have h4 : (16#32 : BitVec 32).toInt = 16 := rfl
    rw [h3] at h1
    rw [h4] at h2
    rw [BitVec.toInt_eq_toNat_cond] at h1 h2
    have := w.isLt
    split at h1 <;> omega
  exact key _ e

/-- Where every word names an expert, every weight block lies inside its array. -/
theorem ok_of_words (pf : pre0.Contents (Elt F)) (h : ∀ i : S82.Idx, (show BitVec 32 from pf 0 i).toNat < 16) : ok0 (F := F) pf := by
  have key : ∀ i : grid0.Coords, ∀ x : Fin 4, ((![0, (thisWord (F := F) (pf 0) i).toNat, 0, 0] : Fin 4 → ℕ) x + 1) * S1x1x1024x1024.size x ≤ S2x16x1024x1024.size x := by
    intro i x
    have hw : (thisWord (F := F) (pf 0) i).toNat < 16 := h _
    generalize (thisWord (F := F) (pf 0) i).toNat = n at hw
    fin_cases x
    · show (0 + 1) * 1 ≤ 2; omega
    · show (n + 1) * 1 ≤ 16; omega
    · show (0 + 1) * 1024 ≤ 1024; omega
    · show (0 + 1) * 1024 ≤ 1024; omega
  exact ⟨fun i => ⟨key i, .inl rfl⟩, fun i => ⟨key i, .inl rfl⟩, fun i => ⟨key i, .inl rfl⟩⟩

/-- The tables as memory `m` holds them on the one device, admissible where every word names an expert. -/
def tables (m : (ℓ : Loc nD τ sig) → Buf (Elt F) ℓ) (h : ∀ i : S82.Idx, (show BitVec 32 from m (((0 : Dev nD) : Thread nD τ).loc main_arg0) i).toNat < 16) :
    (pcfg0 (F := F)).Adm := ⟨fun j => m (((0 : Dev nD) : Thread nD τ).loc (pre0.ref j)), ok_of_words _ h⟩

theorem tables_eq (m : (ℓ : Loc nD τ sig) → Buf (Elt F) ℓ) (h : ∀ i : S82.Idx, (show BitVec 32 from m (((0 : Dev nD) : Thread nD τ).loc main_arg0) i).toNat < 16)
    (c : Dev nD) (j : Fin 2) : m ((c : Thread nD τ).loc (pre0.ref j)) = (tables m h).1 j := by
  obtain rfl : c = 0 := Subsingleton.elim _ _
  rfl

/-- The program runs and ends clean from any memory whose table's words name experts. -/
theorem frame (m : (ℓ : Loc nD τ sig) → Buf (Elt F) ℓ) (ρ : Dev nD → PrngReg)
    (h : ∀ i : S82.Idx, (show BitVec 32 from m (((0 : Dev nD) : Thread nD τ).loc main_arg0) i).toNat < 16) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ k => ⟨fun c => (k.1 c).2, k.2⟩) (run_out (tables m h) m ρ (tables_eq m h))

theorem kernelIdeal_frame : quiescent_KernelIdeal := fun m g h =>
  frame (F := Ideal) m g fun i => word_lt _ _ _ _ _ _ (h 0) i

/-! ## The program as taken: the same text as the one read at the ideal instance -/

set_option maxHeartbeats 800000 in
theorem body_same : @Cert.Kernel.cc0_moe_experts F _ _ = @Cert.KernelIdeal.cc0_moe_experts F _ _ := by
  unfold Cert.Kernel.cc0_moe_experts Cert.KernelIdeal.cc0_moe_experts
  rfl

set_option maxHeartbeats 800000 in
theorem bodies_same : @Cert.Kernel.defs₀ F _ _ = @Cert.KernelIdeal.defs₀ F _ _ := by
  unfold Cert.Kernel.defs₀ Cert.KernelIdeal.defs₀
  rw [body_same]
  refine congrArg Defs.onTc ?_
  funext l x
  match l, x with
  | 0, (t, s) => rfl

theorem defs_same : @Cert.Kernel.defs F _ _ = @Cert.KernelIdeal.defs F _ _ :=
  congrArg (Pipeline.defs (pcfgs (F := F))) bodies_same

set_option maxHeartbeats 800000 in
theorem kernel_frame : quiescent_Kernel := by
  intro m g h
  rw [defs_same]
  exact frame (F := Bits) m g fun i => word_lt _ _ _ _ _ _ (h 0) i

end Cert.Experts

end
-- ==== Proof.ExpertsMath.lean ====
/- The routed experts' arithmetic at the ideal instance: one block of the kernel, and the reference at one row, are the
   same sums. -/
module

public import proofs.«01_k».proof.Defs
public import proofs.«01_k».proof.Proof.Gen.KernelIdeal
public import proofs.«01_k».proof.Proof.Gen.KernelIdeal.Skeleton
public import proofs.«01_k».proof.Proof.Gen.ReferenceIdeal
public import Idealize.ShloMosaic.Lib.StackMember
public import Idealize.ShloMosaic.Lib.ValueIdx
public import Idealize.ShloMosaic.Lib.Pipeline.Value
public import Idealize.ShloMosaic.Lib.Routing.OpsPair

@[expose] public section

noncomputable section

namespace Cert.Experts

open Idealize.ShloMosaic
open Idealize.ShloMosaic.ValueIdx Idealize.ShloMosaic.StackMember

/-- x · σ(x), spelled as both programs spell it. -/
def act (x : Ideal .f32) : Ideal .f32 :=
  FloatOps.mulf x (FloatOps.hostDivf (Scalar.ofBits .f32 0x3F800000#32)
    (FloatOps.addf (Scalar.ofBits .f32 0x3F800000#32) (FloatOps.hostUnary .exp (FloatOps.hostNegf x))))

/-- One expert applied to one row `x`, read at output column `b`. -/
def expertRow (x : Fin 1024 → EReal) (wg wu wd : Fin 1024 → Fin 1024 → EReal) (b : Fin 1024) : EReal :=
  ∑ k : Fin 1024, act (∑ c : Fin 1024, x c * wg c k) * (∑ c : Fin 1024, x c * wu c k) * wd k b

section KernelSide
open Cert.KernelIdeal Cert.KernelIdeal.Gen

theorem prod_apply {φ₁ φ₂ : FTy} (A : FVec Ideal S512x1024 φ₁) (B : FVec Ideal S1024x1024 φ₂) (r : Fin 512) (b : Fin 1024) :
    matmul dot_S512x1024_S1024x1024_S512x1024_1_0_0_1_n_n none A B (constant S512x1024 .f32 0x00000000#32) (ix2 r b)
      = ∑ c : Fin 1024, A (ix2 r c) * B (ix2 c b) := by
  rw [matmul_zero_eq_dotGeneral]
  exact dotGeneral_plain_apply none A B r b

/-- One block of the kernel, at a row and a column. -/
theorem block_apply (x : FVec Ideal S512x1024 .bf16) (wg wu wd : FVec Ideal S1024x1024 .bf16) (r : Fin 512) (b : Fin 1024) :
    k0_pay4 (F := Ideal) x wg wu wd (ix2 r b)
      = expertRow (fun c => x (ix2 r c)) (fun c k => wg (ix2 c k)) (fun c k => wu (ix2 c k)) (fun c k => wd (ix2 c k)) b := by
  unfold k0_pay4 expertRow
  refine (prod_apply _ _ r b).trans (Finset.sum_congr rfl fun k _ => ?_)
  refine congrArg (· * wd (ix2 k b)) ?_
  have e1 := prod_apply x wg r k
  have e2 := prod_apply x wu r k
  unfold act
  rw [← e1, ← e2, ← Ideal.subf_zero_eq_hostNegf]
  rfl

end KernelSide

section ReferenceSide
open Cert.ReferenceIdeal Cert.ReferenceIdeal.Gen

theorem stack_apply {φ₁ φ₂ : FTy} (A : FVec Ideal S82x512x1024 φ₁) (B : FVec Ideal S82x1024x1024 φ₂) (t : Fin 82) (r : Fin 512) (b : Fin 1024) :
    Host.dotGeneral dot_S82x512x1024_S82x1024x1024_S82x512x1024_2_1_1_2_0_0 none A B (ix3 t r b)
      = ∑ c : Fin 1024, A (ix3 t r c) * B (ix3 t c b) :=
  dotGeneral_stack_apply _ none A B t r b

/-- The table as the reference's gathers are handed it: a negative word would count from the end. -/
abbrev startOf (T0 : IVec S82 32) : IVec S82x1 32 :=
  broadcastInDim S82x1 ![0] bcast_S82_S82x1_0 (select (cmpi .slt T0 (broadcastInDim S82 ![] bcast_S_S82 (constantI S_ 32 0#32)))
    (addi T0 (broadcastInDim S82 ![] bcast_S_S82 (constantI S_ 32 16#32))) T0)

/-- Each block's expert's matrix. -/
abbrev pick (T0 : IVec S82 32) (w : FVec Ideal S2x16x1024x1024 .f32) : FVec Ideal S82x1024x1024 .f32 :=
  Host.gather gather_S16x1024x1024_S82x1_S82x1024x1024_12_0_n_n_0_1_110241024
    (shapeCast _ (extractStridedSlice S1x16x1024x1024 ![0, 0, 0, 0] w slices_S2x16x1024x1024_S1x16x1024x1024_0_0_0_0) shapeCasts_S1x16x1024x1024_S16x1024x1024) (startOf T0)

theorem startOf_apply (T0 : IVec S82 32) (t : Fin 82) (h : (T0 (ix1 t)).toNat < 16) : startOf T0 (ix2 t (0 : Fin 1)) = T0 (ix1 t) := by
  have key : ∀ j : S82.Idx, j = ix1 t → Scalar.select (IntOp.cmpi .slt (T0 j) 0#32) (IntOp.addi (T0 j) 16#32) (T0 j) = T0 (ix1 t) := by
    rintro _ rfl
    exact Routing.wrap_of_lt (T0 (ix1 t)) _ (by omega)
  refine key _ (funext fun d => Fin.ext ?_)
  match d with
  | ⟨0, _⟩ => rfl

theorem gather_apply (x : FVec Ideal S16x1024x1024 .f32) (idx : IVec S82x1 32) (t : Fin 82) (p q : Fin 1024) (e : Fin 16)
    (h : idx (ix2 t (0 : Fin 1)) = BitVec.ofNat 32 e.val) :
    Host.gather gather_S16x1024x1024_S82x1_S82x1024x1024_12_0_n_n_0_1_110241024 x idx (ix3 t p q) = x (ix3 e p q) := by
  have key : ∀ j : S82x1.Idx, j = ix2 t (0 : Fin 1) → min (idx j).toInt.toNat 15 + 0 + 0 = e.val := by
    rintro _ rfl
    have he := e.isLt
    rw [h, BitVec.toInt_eq_toNat_cond, BitVec.toNat_ofNat]
    split <;> omega
  unfold Host.gather
  refine congrArg x (funext fun a => Fin.ext ?_)
  match a with
  | ⟨0, _⟩ =>
    refine key _ (funext fun d => Fin.ext ?_)
    match d with
    | ⟨0, _⟩ => rfl
    | ⟨1, _⟩ => rfl
  | ⟨1, _⟩ =>
    show 0 + 0 + p.val = p.val
    omega
  | ⟨2, _⟩ =>
    show 0 + 0 + q.val = q.val
    omega

theorem pick_apply (T0 : IVec S82 32) (w : FVec Ideal S2x16x1024x1024 .f32) (t : Fin 82) (p q : Fin 1024) (h : (T0 (ix1 t)).toNat < 16) :
    pick T0 w (ix3 t p q) = w (ix4 (0 : Fin 2) ⟨(T0 (ix1 t)).toNat, h⟩ p q) := by
  refine (gather_apply _ _ t p q ⟨(T0 (ix1 t)).toNat, h⟩ ?_).trans ?_
  · rw [startOf_apply T0 t h]
    simp
  · refine (shapeCast_apply _ _ _ (ix4 (0 : Fin 1) (⟨(T0 (ix1 t)).toNat, h⟩ : Fin 16) p q) ?_).trans ?_
    · rw [Shape.rowMajor_val_four, Shape.rowMajor_val_three]
      show ((0 * 16 + _) * 1024 + _) * 1024 + _ = _
      rw [Nat.zero_mul, Nat.zero_add]
      rfl
    · refine congrArg w (funext fun d => Fin.ext ?_)
      match d with
      | ⟨0, _⟩ => rfl
      | ⟨1, _⟩ => exact Nat.zero_add _
      | ⟨2, _⟩ => exact Nat.zero_add _
      | ⟨3, _⟩ => exact Nat.zero_add _

/-- The stacked product the reference takes, and its activation. -/
abbrev prod (A : FVec Ideal S82x512x1024 .f32) (B : FVec Ideal S82x1024x1024 .f32) : FVec Ideal S82x512x1024 .f32 :=
  Host.dotGeneral dot_S82x512x1024_S82x1024x1024_S82x512x1024_2_1_1_2_0_0 none A B
abbrev silu (g : FVec Ideal S82x512x1024 .f32) : FVec Ideal S82x512x1024 .f32 :=
  mulf g (Host.divf (broadcastInDim S82x512x1024 ![] bcast_S_S82x512x1024 (constant S_ .f32 0x3F800000#32))
    (addf (broadcastInDim S82x512x1024 ![] bcast_S_S82x512x1024 (constant S_ .f32 0x3F800000#32)) (Host.exp (Host.negf g))))

/-- The slot rows, block by block. -/
abbrev blocks (x : FVec Ideal S41984x1024 .bf16) : FVec Ideal S82x512x1024 .f32 :=
  shapeCast _ (extf .f32 x bitsLt_bf16_f32) shapeCasts_S41984x1024_S82x512x1024

/-- Every block through its expert. -/
abbrev experts (T0 : IVec S82 32) (x : FVec Ideal S41984x1024 .bf16) (wg wu wd : FVec Ideal S2x16x1024x1024 .f32) : FVec Ideal S82x512x1024 .f32 :=
  prod (mulf (silu (prod (blocks x) (pick T0 wg))) (prod (blocks x) (pick T0 wu))) (pick T0 wd)

/-- What the reference returns: the blocks in use through their experts, and zero in the rest. -/
def refOut (T0 : IVec S82 32) (T1 : IVec S1 32) (x : FVec Ideal S41984x1024 .bf16) (wg wu wd : FVec Ideal S2x16x1024x1024 .f32) :
    FVec Ideal S41984x1024 .bf16 :=
  truncf .bf16 (shapeCast _ (select (broadcastInDim S82x512x1024 ![0, 1, 2] bcast_S82x1x1_S82x512x1024_0_1_2 (broadcastInDim S82x1x1 ![0] bcast_S82_S82x1x1_0
      (cmpi .slt (iotaInDim S82 32 0) (broadcastInDim S82 ![0] bcast_S1_S82_0 T1))))
    (experts T0 x wg wu wd)
    (broadcastInDim S82x512x1024 ![] bcast_S_S82x512x1024 (id (constant S_ .f32 0x00000000#32)))) shapeCasts_S82x512x1024_S41984x1024) bitsLt_bf16_f32

/-- Row `r` of block `t` among all the slot rows. -/
def rowOf (t : Fin 82) (r : Fin 512) : Fin 41984 := ⟨512 * t.val + r.val, by omega⟩

theorem blocks_apply (x : FVec Ideal S41984x1024 .bf16) (t : Fin 82) (r : Fin 512) (c : Fin 1024) :
    blocks x (ix3 t r c) = x (ix2 (rowOf t r) c) := by
  refine (shapeCast_apply _ _ _ (ix2 (rowOf t r) c) ?_).trans rfl
  rw [Shape.rowMajor_val_two, Shape.rowMajor_val_three]
  show (512 * t.val + r.val) * 1024 + c.val = (t.val * 512 + r.val) * 1024 + c.val
  omega

theorem experts_apply (T0 : IVec S82 32) (x : FVec Ideal S41984x1024 .bf16) (wg wu wd : FVec Ideal S2x16x1024x1024 .f32)
    (t : Fin 82) (r : Fin 512) (b : Fin 1024) (h : (T0 (ix1 t)).toNat < 16) :
    experts T0 x wg wu wd (ix3 t r b) = expertRow (fun c => x (ix2 (rowOf t r) c))
      (fun c k => wg (ix4 (0 : Fin 2) ⟨(T0 (ix1 t)).toNat, h⟩ c k)) (fun c k => wu (ix4 (0 : Fin 2) ⟨(T0 (ix1 t)).toNat, h⟩ c k))
      (fun c k => wd (ix4 (0 : Fin 2) ⟨(T0 (ix1 t)).toNat, h⟩ c k)) b := by
  have e : ∀ (w : FVec Ideal S2x16x1024x1024 .f32) (k : Fin 1024), prod (blocks x) (pick T0 w) (ix3 t r k)
      = ∑ c : Fin 1024, x (ix2 (rowOf t r) c) * w (ix4 (0 : Fin 2) ⟨(T0 (ix1 t)).toNat, h⟩ c k) := fun w k =>
    (stack_apply _ _ t r k).trans (Finset.sum_congr rfl fun c _ => congrArg₂ (· * ·) (blocks_apply x t r c) (pick_apply T0 w t c k h))
  refine (stack_apply _ _ t r b).trans (Finset.sum_congr rfl fun k _ => ?_)
  refine congrArg₂ (· * ·) ?_ (pick_apply T0 wd t k b h)
  rw [← e wg k, ← e wu k]
  rfl

/-- Row `r` of block `t`: through the block's expert where the block is in use, else zero. -/
theorem refOut_apply (T0 : IVec S82 32) (T1 : IVec S1 32) (x : FVec Ideal S41984x1024 .bf16) (wg wu wd : FVec Ideal S2x16x1024x1024 .f32)
    (t : Fin 82) (r : Fin 512) (b : Fin 1024) (h : (T0 (ix1 t)).toNat < 16) :
    refOut T0 T1 x wg wu wd (ix2 (rowOf t r) b)
      = Scalar.select (IntOp.cmpi .slt (BitVec.ofNat 32 t.val) (T1 (ix1 (0 : Fin 1)))) (expertRow (fun c => x (ix2 (rowOf t r) c))
          (fun c k => wg (ix4 (0 : Fin 2) ⟨(T0 (ix1 t)).toNat, h⟩ c k)) (fun c k => wu (ix4 (0 : Fin 2) ⟨(T0 (ix1 t)).toNat, h⟩ c k))
          (fun c k => wd (ix4 (0 : Fin 2) ⟨(T0 (ix1 t)).toNat, h⟩ c k)) b) (Ideal.ofBits .f32 0x00000000#32) := by
  rw [← experts_apply T0 x wg wu wd t r b h]
  unfold refOut
  generalize experts T0 x wg wu wd = y
  have tr : ∀ (z : FVec Ideal S41984x1024 .f32) (i : S41984x1024.Idx), truncf .bf16 z bitsLt_bf16_f32 i = z i := fun _ _ => rfl
  refine (tr _ _).trans ((shapeCast_apply _ _ _ (ix3 t r b) ?_).trans ?_)
  · rw [Shape.rowMajor_val_two, Shape.rowMajor_val_three]
    show (t.val * 512 + r.val) * 1024 + b.val = (512 * t.val + r.val) * 1024 + b.val
    omega
  · have key : ∀ (i : Fin 82) (j : S1.Idx), i = t → j = ix1 (0 : Fin 1) →
        Scalar.select (IntOp.cmpi .slt (BitVec.ofNat 32 i.val) (T1 j)) (y (ix3 t r b)) (Ideal.ofBits .f32 0x00000000#32)
          = Scalar.select (IntOp.cmpi .slt (BitVec.ofNat 32 t.val) (T1 (ix1 (0 : Fin 1)))) (y (ix3 t r b)) (Ideal.ofBits .f32 0x00000000#32) := by
      rintro _ _ rfl rfl
      rfl
    refine key _ _ (Fin.ext ?_) (funext fun d => Fin.ext ?_)
    · rfl
    · match d with
      | ⟨0, _⟩ => rfl

end ReferenceSide

end Cert.Experts

end
-- ==== Proof.ExpertsValue.lean ====
/- The routed experts' value: the rows the kernel leaves are the reference's. -/
module

public import proofs.«01_k».proof.Proof.ExpertsRun
public import proofs.«01_k».proof.Proof.ExpertsMath
public import proofs.«01_k».proof.Proof.Gen.ReferenceIdeal.Run
public import Idealize.ShloMosaic.Lib.Pipeline.ValueKit.Geometry
public import Idealize.ShloMosaic.Lib.IdealHost

@[expose] public section

noncomputable section

namespace Cert.Experts

open Cert.KernelIdeal Cert.KernelIdeal.Gen
open Idealize.ShloMosaic Idealize.ShloMosaic.ValueIdx
open Idealize.ShloMosaic.TcCoe
open Idealize.SL.Sem
open Idealize.ShloMosaic.Pipeline (Dat Cfg Window)

variable (a : (pcfg0 (F := Ideal)).Adm) (m : (ℓ : Loc nD τ sig) → Buf (Elt Ideal) ℓ)

theorem point_lt (t : Fin (cfgA a).N) : t.val < 82 := lt_of_lt_of_eq t.isLt N_0

/-- The point's word of the block table, and the count, at their places. -/
theorem thisWord_apply (t : Fin (cfgA a).N) : thisWord (F := Ideal) (tab0 a) (crd a t) = tab0 a (ix1 ⟨t.val, point_lt a t⟩) := by
  have h := crd_val a t
  refine congrArg (tab0 a) (funext fun d => Fin.ext ?_)
  match d with
  | ⟨0, _⟩ =>
    show k0_off1 (crd a t) 0 + 1 * 0 = t.val
    rw [off1_eq]
    show (crd a t 0).val + 1 * 0 = t.val
    omega

theorem cntWord_apply : cntWord (F := Ideal) (tab1 a) = tab1 a (ix1 (0 : Fin 1)) := by
  refine congrArg (tab1 a) (funext fun d => Fin.ext ?_)
  match d with
  | ⟨0, _⟩ => rfl

/-- The rows of a point's block, as the row windows index them. -/
theorem row_index (t : Fin (cfgA a).N) : cc0_transform_0 (crd a t) = ![t.val, 0] := by
  have ht := point_lt a t
  show ![(BitVec.ofNat 32 (crd a t 0).val).toNat, 0] = _
  rw [crd_val, BitVec.toNat_ofNat, Nat.mod_eq_of_lt (by omega)]

theorem xblk_apply (c : Dev nD) (t : Fin (cfgA a).N) (r : Fin 512) (k : Fin 1024) :
    iblk a m c (0 : Fin 5) t (ix2 r k) = m ((c : Thread nD τ).loc main_arg2) (ix2 (rowOf ⟨t.val, point_lt a t⟩ r) k) := by
  refine congrArg (m ((c : Thread nD τ).loc main_arg2)) (funext fun d => Fin.ext ?_)
  refine (Window.rect_emb_val ((cfgA a).win (0 : Fin 5)) t (ix2 r k) d).trans ?_
  have e : ((cfgA a).win (0 : Fin 5)).index t = ![t.val, 0] := row_index a t
  rw [e]
  match d with
  | ⟨0, _⟩ => exact congrArg (· + r.val) (Nat.mul_comm t.val 512)
  | ⟨1, _⟩ => exact Nat.zero_add _

/-- A weight block as it is held: its two leading axes dropped. -/
theorem held_apply (v : FVec Ideal S1x1x1024x1024 .f32) (p q : Fin 1024) :
    k0_pay1 (F := Ideal) v (ix2 p q) = v (ix4 (0 : Fin 1) (0 : Fin 1) p q) := by
  have tr : ∀ (z : FVec Ideal S1024x1024 .f32) (i : S1024x1024.Idx), truncf .bf16 z bitsLt_bf16_f32 i = z i := fun _ _ => rfl
  unfold k0_pay1
  refine (shapeCast_apply _ _ _ (ix2 p q) rfl).trans ((tr _ _).trans (shapeCast_apply _ _ _ (ix4 (0 : Fin 1) (0 : Fin 1) p q) ?_))
  rw [Shape.rowMajor_val_four, Shape.rowMajor_val_two]
  show ((0 * 1 + 0) * 1024 + p.val) * 1024 + q.val = p.val * 1024 + q.val
  omega

/-- Where an element of expert `n`'s block lies in the whole array of weights. -/
theorem weight_coord (n : ℕ) (h : n < 16) (p q : Fin 1024) (d : Fin 4) :
    (![0, n, 0, 0] : Fin 4 → ℕ) d * S1x1x1024x1024.size d + (ix4 (0 : Fin 1) (0 : Fin 1) p q d).val = (ix4 (0 : Fin 2) (⟨n, h⟩ : Fin 16) p q d).val := by
  match d with
  | ⟨0, _⟩ => rfl
  | ⟨1, _⟩ => exact Nat.mul_one _
  | ⟨2, _⟩ => exact Nat.zero_add _
  | ⟨3, _⟩ => exact Nat.zero_add _

section Weights
variable (c : Dev nD) (t : Fin (cfgA a).N) (h : (tab0 a (ix1 ⟨t.val, point_lt a t⟩)).toNat < 16) (p q : Fin 1024)

/-- The block index of the three weight windows at a point: the expert the table names there. -/
theorem weight_at : (![0, (thisWord (F := Ideal) (a.1 0) (crd a t)).toNat, 0, 0] : Fin 4 → ℕ) = ![0, (tab0 a (ix1 ⟨t.val, point_lt a t⟩)).toNat, 0, 0] := by
  rw [thisWord_apply]

theorem gate_apply : held0 a m c t (ix2 p q)
    = m ((c : Thread nD τ).loc main_arg3) (ix4 (0 : Fin 2) ⟨(tab0 a (ix1 ⟨t.val, point_lt a t⟩)).toNat, h⟩ p q) := by
  refine (held_apply _ p q).trans (congrArg (m ((c : Thread nD τ).loc main_arg3)) (funext fun d => Fin.ext ?_))
  refine (Window.rect_emb_val ((cfgA a).win (1 : Fin 5)) t (ix4 (0 : Fin 1) (0 : Fin 1) p q) d).trans ?_
  rw [show ((cfgA a).win (1 : Fin 5)).index t = _ from (weight_index (crd a t) a.1).1.trans (weight_at a t)]
  exact weight_coord _ h p q d

theorem up_apply : held1 a m c t (ix2 p q)
    = m ((c : Thread nD τ).loc main_arg4) (ix4 (0 : Fin 2) ⟨(tab0 a (ix1 ⟨t.val, point_lt a t⟩)).toNat, h⟩ p q) := by
  refine (held_apply _ p q).trans (congrArg (m ((c : Thread nD τ).loc main_arg4)) (funext fun d => Fin.ext ?_))
  refine (Window.rect_emb_val ((cfgA a).win (2 : Fin 5)) t (ix4 (0 : Fin 1) (0 : Fin 1) p q) d).trans ?_
  rw [show ((cfgA a).win (2 : Fin 5)).index t = _ from (weight_index (crd a t) a.1).2.1.trans (weight_at a t)]
  exact weight_coord _ h p q d

theorem down_apply : held2 a m c t (ix2 p q)
    = m ((c : Thread nD τ).loc main_arg5) (ix4 (0 : Fin 2) ⟨(tab0 a (ix1 ⟨t.val, point_lt a t⟩)).toNat, h⟩ p q) := by
  refine (held_apply _ p q).trans (congrArg (m ((c : Thread nD τ).loc main_arg5)) (funext fun d => Fin.ext ?_))
  refine (Window.rect_emb_val ((cfgA a).win (3 : Fin 5)) t (ix4 (0 : Fin 1) (0 : Fin 1) p q) d).trans ?_
  rw [show ((cfgA a).win (3 : Fin 5)).index t = _ from (weight_index (crd a t) a.1).2.2.trans (weight_at a t)]
  exact weight_coord _ h p q d

end Weights

/-- The test for a block in use, as the body spells it. -/
theorem used_iff (i : grid0.Coords) (w : BitVec 32) : k0_cond2 i w = 1#1 ↔ IntOp.cmpi .slt (BitVec.ofNat 32 (i 0).val) w = 1#1 := by
  unfold k0_cond2
  show IntOp.cmpi .ne ((IntOp.cmpi .slt (BitVec.ofNat 32 (i 0).val) w).setWidth 32) 0#32 = 1#1 ↔ _
  generalize IntOp.cmpi .slt (BitVec.ofNat 32 (i 0).val) w = b
  revert b; decide

/-- A point's block is the reference's rows there. -/
theorem outBlk_apply (c : Dev nD) (t : Fin (cfgA a).N) (h : (tab0 a (ix1 ⟨t.val, point_lt a t⟩)).toNat < 16) (r : Fin 512) (b : Fin 1024) :
    outBlk a m c t (ix2 r b) = refOut (tab0 a) (tab1 a) (m ((c : Thread nD τ).loc main_arg2)) (m ((c : Thread nD τ).loc main_arg3))
      (m ((c : Thread nD τ).loc main_arg4)) (m ((c : Thread nD τ).loc main_arg5)) (ix2 (rowOf ⟨t.val, point_lt a t⟩ r) b) := by
  rw [refOut_apply _ _ _ _ _ _ ⟨t.val, point_lt a t⟩ r b h]
  unfold outBlk Scalar.select
  have u := used_iff (crd a t) (tab1 a (ix1 (0 : Fin 1)))
  rw [crd_val] at u
  rw [cntWord_apply]
  by_cases hu : IntOp.cmpi .slt (BitVec.ofNat 32 t.val) (tab1 a (ix1 (0 : Fin 1))) = 1#1
  · refine Eq.trans ?_ (if_pos hu).symm
    rw [if_pos (u.2 hu), block_apply]
    simp only [gate_apply a m c t h, up_apply a m c t h, down_apply a m c t h, xblk_apply]
  · refine Eq.trans ?_ (if_neg hu).symm
    rw [if_neg (fun k => hu (u.1 k))]
    show Ideal.ofBits .bf16 0x0000#16 = Ideal.ofBits .f32 0x00000000#32
    rw [Ideal.ofBits_zero_bf16, Ideal.ofBits_zero_f32]

/-- Every point's block of rows is written back: the next point's rows are others. -/
theorem flushes (t : Fin (cfgA a).N) : ((cfgA a).win (4 : Fin 5)).flush t = true := by
  have key : ∀ t : Fin grid0.N, Window.flushOf grid0 true cc0_transform_0 t = true := by
    intro t
    unfold Window.flushOf
    by_cases h : t.val + 1 = grid0.N
    · simp [h]
    · have h' : t.val + 1 < grid0.N := by have := t.isLt; omega
      have ne : cc0_transform_0 (grid0.coords ⟨t.val + 1, h'⟩) ≠ cc0_transform_0 (grid0.coords t) := by
        intro e
        have e := congrFun ((row_index a ⟨t.val + 1, h'⟩).symm.trans (e.trans (row_index a t))) 0
        have : t.val + 1 = t.val := e
        omega
      rw [decide_eq_true (⟨h', ne⟩ : ∃ h : t.val + 1 < grid0.N, cc0_transform_0 (grid0.coords ⟨t.val + 1, h⟩) ≠ cc0_transform_0 (grid0.coords t))]
      simp
  exact key t

/-- The rows the kernel leaves are the reference's. -/
theorem final_rows (c : Dev nD) (h : ∀ i : S82.Idx, (tab0 a i).toNat < 16) :
    (dats a m 0 c).arrAt (4 : Fin 5) (cfgA a).N = refOut (tab0 a) (tab1 a) (m ((c : Thread nD τ).loc main_arg2)) (m ((c : Thread nD τ).loc main_arg3))
      (m ((c : Thread nD τ).loc main_arg4)) (m ((c : Thread nD τ).loc main_arg5)) := by
  refine (dats a m 0 c).arrAt_eq_of_emb (4 : Fin 5) _ (fun t _ y => ?_) (fun i => ?_)
  · obtain ⟨r, b, rfl⟩ : ∃ (r : Fin 512) (b : Fin 1024), y = ix2 r b := ⟨_, _, eq_ix2 y⟩
    refine (outBlk_apply a m c t (h _) r b).trans (congrArg (refOut _ _ _ _ _ _) (funext fun d => Fin.ext ?_))
    refine Eq.trans ?_ (Window.rect_emb_val ((cfgA a).win (4 : Fin 5)) t (ix2 r b) d).symm
    rw [show ((cfgA a).win (4 : Fin 5)).index t = ![t.val, 0] from row_index a t]
    match d with
    | ⟨0, _⟩ => exact congrArg (· + r.val) (Nat.mul_comm 512 t.val)
    | ⟨1, _⟩ => exact (Nat.zero_add _).symm
  · obtain ⟨r, b, rfl⟩ : ∃ (r : Fin 41984) (b : Fin 1024), i = ix2 r b := ⟨_, _, eq_ix2 i⟩
    have hr := r.isLt
    have ht : r.val / 512 < (cfgA a).N := lt_of_lt_of_eq (by omega : r.val / 512 < 82) N_0.symm
    refine ⟨⟨r.val / 512, ht⟩, flushes a _, (((cfgA a).win (4 : Fin 5)).emb_mem_blk_iff ⟨r.val / 512, ht⟩ (ix2 r b)).2 fun d => ?_⟩
    rw [show ((cfgA a).win (4 : Fin 5)).index ⟨r.val / 512, ht⟩ = ![r.val / 512, 0] from row_index a _]
    match d with
    | ⟨0, _⟩ =>
      show r.val / 512 * 512 ≤ r.val ∧ r.val < r.val / 512 * 512 + 512
      omega
    | ⟨1, _⟩ =>
      show 0 * 1024 ≤ b.val ∧ b.val < 0 * 1024 + 1024
      omega

/-! ## The claims -/

/-- The reference runs and ends clean: it has no counters. -/
theorem referenceIdeal_frame : quiescent_ReferenceIdeal := by
  intro m g _
  exact (θ_run Cert.ReferenceIdeal.defs _ _).mono (fun r k => ⟨fun c => (k c).2, sem_eq_zero_of_no_sems (by decide) r.2⟩)
    (Cert.ReferenceIdeal.Value.run (F := Ideal) m g)

/-- Both programs end with the same rows. -/
theorem algebraic : algebraic_KernelIdeal_ReferenceIdeal := by
  intro m g m' g' hp hm
  have h := fun i => word_lt _ _ _ _ _ _ (hp 0) i
  refine ⟨fun c => refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)), ?_, ?_⟩
  · refine (θ_run defs _ _).mono (fun _ k c => ⟨((k.1 c).1.trans (final_rows (tables m h) m c h)).trans ?_, (k.1 c).2⟩)
      (run_out (tables m h) m g (tables_eq m h))
    obtain rfl : c = 0 := Subsingleton.elim _ _
    rfl
  · refine (θ_run Cert.ReferenceIdeal.defs _ _).mono (fun _ k c => ⟨(k c).1.trans ?_, (k c).2⟩) (Cert.ReferenceIdeal.Value.run (F := Ideal) m' g')
    obtain ⟨e0, e1, e2, e3, e4, e5⟩ := hm c
    rw [e0, e1, e2, e3, e4, e5]
    rfl

end Cert.Experts

end
-- ==== Proof.ProjMath.lean ====
/- The arithmetic of a normalised, modulated input projection at the ideal instance: one row, as a kernel's block and as a
   whole array on the host spell it, and columns put side by side. -/
module

public import proofs.«01_k».proof.Defs
public import Idealize.ShloMosaic.Lib.StackMember
public import Idealize.ShloMosaic.Lib.ValueIdx
public import Idealize.ShloMosaic.Lib.Pipeline.Value
public import Idealize.ShloMosaic.Lib.KernelVsHost
public import Idealize.ShloMosaic.Lib.IdealHost

@[expose] public section

noncomputable section

namespace Cert.Proj

open Idealize.ShloMosaic
open Idealize.ShloMosaic.ValueIdx Idealize.ShloMosaic.StackMember

/-- An element of a row from the sum of the row's squares: the element over the root of the mean square, times its gain,
    scaled and shifted. -/
def modCell (s h g sc sh : Ideal .f32) : Ideal .f32 :=
  FloatOps.addf (FloatOps.mulf (FloatOps.mulf (FloatOps.mulf h (FloatOps.hostUnary .rsqrt (FloatOps.addf
    (FloatOps.hostDivf s (Scalar.ofBits .f32 0x44800000#32)) (Scalar.ofBits .f32 0x358637BD#32)))) g)
    (FloatOps.addf (Scalar.ofBits .f32 0x3F800000#32) sc)) sh

/-- The normalised and modulated row `h`, at coordinate `k`. -/
def modRow (h g sc sh : Fin 1024 → EReal) (k : Fin 1024) : EReal :=
  modCell (∑ c : Fin 1024, h c * h c) (h k) (g k) (sc k) (sh k)

/-- A kernel's block of `m` rows, normalised and modulated. -/
theorem block_modulate {m : ℕ} (v : FVec Ideal ⟨2, ![m, 1024]⟩ .f32) (g sc sh : FVec Ideal ⟨2, ![1, 1024]⟩ .f32)
    (hr : (⟨2, ![m, 1024]⟩ : Shape).Reduces [1] ⟨1, ![m]⟩) (hs : (⟨1, ![m]⟩ : Shape).ShapeCasts ⟨2, ![m, 1]⟩)
    (h1 : (⟨2, ![m, 1]⟩ : Shape).Broadcasts ⟨2, ![m, 1024]⟩) (h2 : (⟨2, ![1, 1024]⟩ : Shape).Broadcasts ⟨2, ![m, 1024]⟩)
    (r : Fin m) (k : Fin 1024) :
    addf (mulf (mulf (mulf v (broadcastTo ⟨2, ![m, 1024]⟩ (rsqrt (addf (divf (shapeCast ⟨2, ![m, 1]⟩
      (multiReduction (F := Ideal) .add [1] ⟨1, ![m]⟩ (mulf v v) 0x00000000#32 hr (.inl rfl) rfl) hs)
      (broadcast ⟨2, ![m, 1]⟩ (Scalar.ofBits .f32 0x44800000#32))) (broadcast ⟨2, ![m, 1]⟩ (Scalar.ofBits .f32 0x358637BD#32)))) h1))
      (broadcastTo ⟨2, ![m, 1024]⟩ g h2)) (broadcastTo ⟨2, ![m, 1024]⟩ (addf (broadcast ⟨2, ![1, 1024]⟩ (Scalar.ofBits .f32 0x3F800000#32)) sc) h2))
      (broadcastTo ⟨2, ![m, 1024]⟩ sh h2) (ix2 r k)
    = modRow (fun c => v (ix2 r c)) (fun c => g (ix2 (0 : Fin 1) c)) (fun c => sc (ix2 (0 : Fin 1) c)) (fun c => sh (ix2 (0 : Fin 1) c)) k := by
  have row : ∀ x : FVec Ideal ⟨2, ![1, 1024]⟩ .f32, broadcastTo ⟨2, ![m, 1024]⟩ x h2 (ix2 r k) = x (ix2 (0 : Fin 1) k) := fun x =>
    broadcastTo_apply x h2 (ix2 r k) (ix2 (0 : Fin 1) k) fun d => match d with
      | ⟨0, _⟩ => rfl
      | ⟨1, _⟩ => rfl
  have col : ∀ x : FVec Ideal ⟨2, ![m, 1]⟩ .f32, broadcastTo ⟨2, ![m, 1024]⟩ x h1 (ix2 r k) = x (ix2 r (0 : Fin 1)) := fun x =>
    broadcastTo_apply x h1 (ix2 r k) (ix2 r (0 : Fin 1)) fun d => match d with
      | ⟨0, _⟩ => by
        show r.val = if m = 1 then 0 else r.val
        have := r.isLt
        split <;> omega
      | ⟨1, _⟩ => rfl
  have sum : shapeCast ⟨2, ![m, 1]⟩ (multiReduction (F := Ideal) .add [1] ⟨1, ![m]⟩ (mulf v v) 0x00000000#32 hr (.inl rfl) rfl) hs (ix2 r (0 : Fin 1))
      = ∑ c : Fin 1024, v (ix2 r c) * v (ix2 r c) := by
    refine (shapeCast_apply _ _ _ (ix1 r) ?_).trans ((Ideal.multiReduction_add_single _ _ hr _ _ (ix1 r)).trans (Finset.sum_congr rfl fun c _ => ?_))
    · rw [Shape.rowMajor_val_one, Shape.rowMajor_val_two]
      show r.val = r.val * 1 + 0
      omega
    · have e : hr.lift (ix1 r) c = ix2 r c := by
        funext d
        match d with
        | ⟨0, _⟩ => rfl
        | ⟨1, _⟩ => rfl
      rw [e]
      rfl
  have cell : ∀ X G C S : FVec Ideal ⟨2, ![m, 1024]⟩ .f32, addf (mulf (mulf (mulf v X) G) C) S (ix2 r k)
      = FloatOps.addf (FloatOps.mulf (FloatOps.mulf (FloatOps.mulf (v (ix2 r k)) (X (ix2 r k))) (G (ix2 r k))) (C (ix2 r k))) (S (ix2 r k)) :=
    fun _ _ _ _ => rfl
  rw [cell, row, row, row, col]
  unfold modRow
  rw [← sum]
  rfl

/-- The whole array of `n` rows a sample on the host, normalised and modulated. -/
theorem host_modulate {n : ℕ} (v : FVec Ideal ⟨3, ![2, n, 1024]⟩ .f32) (g : FVec Ideal ⟨1, ![1024]⟩ .f32) (sc sh : FVec Ideal ⟨3, ![2, 1, 1024]⟩ .f32)
    (hred : (⟨3, ![2, n, 1024]⟩ : Shape).Reduces [2] ⟨2, ![2, n]⟩) (ht : (⟨3, ![2, n, 1024]⟩ : Shape).ReducesTo [2] ⟨2, ![2, n]⟩)
    (h0 : 0 < (⟨0, ![]⟩ : Shape).numel)
    (hb0 : (⟨2, ![2, n]⟩ : Shape).BroadcastsInDim ⟨3, ![2, n, 1]⟩ ![0, 1]) (hbs : (⟨0, ![]⟩ : Shape).BroadcastsInDim ⟨3, ![2, n, 1]⟩ ![])
    (hb1 : (⟨3, ![2, n, 1]⟩ : Shape).BroadcastsInDim ⟨3, ![2, n, 1024]⟩ ![0, 1, 2])
    (hg1 : (⟨1, ![1024]⟩ : Shape).BroadcastsInDim ⟨3, ![1, 1, 1024]⟩ ![2]) (hg2 : (⟨3, ![1, 1, 1024]⟩ : Shape).BroadcastsInDim ⟨3, ![2, n, 1024]⟩ ![0, 1, 2])
    (hbt : (⟨0, ![]⟩ : Shape).BroadcastsInDim ⟨3, ![2, 1, 1024]⟩ ![]) (hm : (⟨3, ![2, 1, 1024]⟩ : Shape).BroadcastsInDim ⟨3, ![2, n, 1024]⟩ ![0, 1, 2])
    (b : Fin 2) (r : Fin n) (k : Fin 1024) :
    addf (mulf (mulf (mulf v (broadcastInDim ⟨3, ![2, n, 1024]⟩ ![0, 1, 2] hb1 (Host.rsqrt (addf (Host.divf
      (broadcastInDim ⟨3, ![2, n, 1]⟩ ![0, 1] hb0 (Host.reduceAdd (F := Ideal) (mulf v v) (constant ⟨0, ![]⟩ .f32 0x00000000#32) ht h0))
      (broadcastInDim ⟨3, ![2, n, 1]⟩ ![] hbs (constant ⟨0, ![]⟩ .f32 0x44800000#32)))
      (broadcastInDim ⟨3, ![2, n, 1]⟩ ![] hbs (constant ⟨0, ![]⟩ .f32 0x358637BD#32))))))
      (broadcastInDim ⟨3, ![2, n, 1024]⟩ ![0, 1, 2] hg2 (broadcastInDim ⟨3, ![1, 1, 1024]⟩ ![2] hg1 g)))
      (broadcastInDim ⟨3, ![2, n, 1024]⟩ ![0, 1, 2] hm (addf (broadcastInDim ⟨3, ![2, 1, 1024]⟩ ![] hbt (constant ⟨0, ![]⟩ .f32 0x3F800000#32)) sc)))
      (broadcastInDim ⟨3, ![2, n, 1024]⟩ ![0, 1, 2] hm sh) (ix3 b r k)
    = modRow (fun c => v (ix3 b r c)) (fun c => g (ix1 c)) (fun c => sc (ix3 b (0 : Fin 1) c)) (fun c => sh (ix3 b (0 : Fin 1) c)) k := by
  have row : ∀ x : FVec Ideal ⟨3, ![2, 1, 1024]⟩ .f32, broadcastInDim ⟨3, ![2, n, 1024]⟩ ![0, 1, 2] hm x (ix3 b r k) = x (ix3 b (0 : Fin 1) k) := fun x =>
    broadcastInDim_apply ![0, 1, 2] hm x (ix3 b r k) (ix3 b (0 : Fin 1) k) fun d => match d with
      | ⟨0, _⟩ => rfl
      | ⟨1, _⟩ => rfl
      | ⟨2, _⟩ => rfl
  have gain : broadcastInDim ⟨3, ![2, n, 1024]⟩ ![0, 1, 2] hg2 (broadcastInDim ⟨3, ![1, 1, 1024]⟩ ![2] hg1 g) (ix3 b r k) = g (ix1 k) := by
    refine (broadcastInDim_apply ![0, 1, 2] hg2 _ (ix3 b r k) (ix3 (0 : Fin 1) (0 : Fin 1) k) fun d => ?_).trans
      (broadcastInDim_apply ![2] hg1 g _ (ix1 k) fun d => ?_)
    · match d with
      | ⟨0, _⟩ => rfl
      | ⟨1, _⟩ => rfl
      | ⟨2, _⟩ => rfl
    · match d with
      | ⟨0, _⟩ => rfl
  have unit : ∀ d : Fin 3, ((ix3 b r (0 : Fin 1) : (⟨3, ![2, n, 1]⟩ : Shape).Idx) d).val = if (⟨3, ![2, n, 1]⟩ : Shape).size d = 1 then 0 else ((ix3 b r k : (⟨3, ![2, n, 1024]⟩ : Shape).Idx) ((![0, 1, 2] : Fin 3 → Fin 3) d)).val := fun d => match d with
    | ⟨0, _⟩ => rfl
    | ⟨1, _⟩ => by
      show r.val = if n = 1 then 0 else r.val
      have := r.isLt
      split <;> omega
    | ⟨2, _⟩ => rfl
  have col : ∀ x : FVec Ideal ⟨3, ![2, n, 1]⟩ .f32, broadcastInDim ⟨3, ![2, n, 1024]⟩ ![0, 1, 2] hb1 x (ix3 b r k) = x (ix3 b r (0 : Fin 1)) := fun x =>
    broadcastInDim_apply ![0, 1, 2] hb1 x (ix3 b r k) (ix3 b r (0 : Fin 1)) unit
  have sum : broadcastInDim ⟨3, ![2, n, 1]⟩ ![0, 1] hb0 (Host.reduceAdd (F := Ideal) (mulf v v) (constant ⟨0, ![]⟩ .f32 0x00000000#32) ht h0) (ix3 b r (0 : Fin 1))
      = ∑ c : Fin 1024, v (ix3 b r c) * v (ix3 b r c) := by
    refine (broadcastInDim_apply ![0, 1] hb0 _ _ (ix2 b r) fun d => ?_).trans ?_
    · match d with
      | ⟨0, _⟩ => rfl
      | ⟨1, _⟩ =>
        show r.val = if n = 1 then 0 else r.val
        have := r.isLt
        split <;> omega
    · show Ideal.hostReduceAdd _ _ _ _ = _
      rw [Ideal.hostReduceAdd_single ht hred, show (constant (F := Ideal) ⟨0, ![]⟩ .f32 0x00000000#32 (Shape.Idx.first h0) : EReal) = 0 from Ideal.ofBits_zero_f32, zero_add]
      refine Finset.sum_congr rfl fun c _ => ?_
      have e : hred.lift (ix2 b r) c = ix3 b r c := by
        funext d
        match d with
        | ⟨0, _⟩ => rfl
        | ⟨1, _⟩ => rfl
        | ⟨2, _⟩ => rfl
      rw [e]
      rfl
  have cell : ∀ X G C S : FVec Ideal ⟨3, ![2, n, 1024]⟩ .f32, addf (mulf (mulf (mulf v X) G) C) S (ix3 b r k)
      = FloatOps.addf (FloatOps.mulf (FloatOps.mulf (FloatOps.mulf (v (ix3 b r k)) (X (ix3 b r k))) (G (ix3 b r k))) (C (ix3 b r k))) (S (ix3 b r k)) :=
    fun _ _ _ _ => rfl
  rw [cell, row, row, gain, col]
  unfold modRow
  rw [← sum]
  rfl

/-- Rows of each sample times one matrix, on the host: at an index, the sum over the contracted coordinate. -/
theorem rows_product {n k p : ℕ} (w : DotDims.WF ⟨3, ![2, n, k]⟩ ⟨2, ![k, p]⟩ ⟨3, ![2, n, p]⟩ [2] [0] [0, 1] [1] [] [])
    (A : FVec Ideal ⟨3, ![2, n, k]⟩ .f32) (B : FVec Ideal ⟨2, ![k, p]⟩ .f32) (b : Fin 2) (r : Fin n) (q : Fin p) :
    Host.dotGeneral (⟨[2], [0], [0, 1], [1], [], [], w⟩ : DotDims _ _ _) none A B (ix3 b r q) = ∑ c : Fin k, A (ix3 b r c) * B (ix2 c q) := by
  show FloatOps.dotGeneral _ none _ A B (ix3 b r q) = _
  rw [Ideal.dotGeneral_apply, ← Equiv.sum_comp (contrEquiv1 (⟨[2], [0], [0, 1], [1], [], [], w⟩ : DotDims _ _ _) k rfl rfl).symm]
  refine Finset.sum_congr rfl fun c _ => ?_
  have at_c := contrEquiv1_symm_val (⟨[2], [0], [0, 1], [1], [], [], w⟩ : DotDims ⟨3, ![2, n, k]⟩ ⟨2, ![k, p]⟩ ⟨3, ![2, n, p]⟩) k rfl rfl c
  have left : (⟨[2], [0], [0, 1], [1], [], [], w⟩ : DotDims ⟨3, ![2, n, k]⟩ ⟨2, ![k, p]⟩ ⟨3, ![2, n, p]⟩).lhsIdx (ix3 b r q) ((contrEquiv1 _ k rfl rfl).symm c) = ix3 b r c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact at_c
  have right : (⟨[2], [0], [0, 1], [1], [], [], w⟩ : DotDims ⟨3, ![2, n, k]⟩ ⟨2, ![k, p]⟩ ⟨3, ![2, n, p]⟩).rhsIdx (ix3 b r q) ((contrEquiv1 _ k rfl rfl).symm c) = ix2 c q := by
    funext ax; apply Fin.ext
    match ax with
    | ⟨0, _⟩ => simp [DotDims.rhsIdx]; exact at_c
    | ⟨1, _⟩ => simp [DotDims.rhsIdx]; rfl
  rw [left, right]

/-- Columns side by side, of matrices. -/
theorem cat_two {α : Type} {m n p : ℕ} (xs : List ((s : Shape) × (s.Idx → α))) (h : Shape.Concatenates (xs.map (·.1)) ⟨2, ![m, n]⟩ 1) (r : Fin m) (j : Fin n)
    (k : ℕ) (hk : k < xs.length) (x : (⟨2, ![m, p]⟩ : Shape).Idx → α) (hx : xs[k] = ⟨⟨2, ![m, p]⟩, x⟩) (pre : ℕ)
    (hpre : (((xs.take k).map (·.1)).map fun s => if e : s.rank = (⟨2, ![m, n]⟩ : Shape).rank then s.size ((1 : Fin 2).cast e.symm) else 0).sum = pre)
    (q : Fin p) (hq : pre + q.val = j.val) : concatenate ⟨2, ![m, n]⟩ 1 xs h (ix2 r j) = x (ix2 r q) :=
  concatenate_apply_piece 1 xs h (ix2 r j) k hk _ x hx rfl pre hpre (ix2 r q) (fun d hd => match d, hd with
    | ⟨0, _⟩, _ => rfl
    | ⟨1, _⟩, hd => absurd rfl hd) hq

/-- Columns side by side, of the samples' matrices. -/
theorem cat_three {α : Type} {a m n p : ℕ} (xs : List ((s : Shape) × (s.Idx → α))) (h : Shape.Concatenates (xs.map (·.1)) ⟨3, ![a, m, n]⟩ 2)
    (b : Fin a) (r : Fin m) (j : Fin n) (k : ℕ) (hk : k < xs.length) (x : (⟨3, ![a, m, p]⟩ : Shape).Idx → α) (hx : xs[k] = ⟨⟨3, ![a, m, p]⟩, x⟩) (pre : ℕ)
    (hpre : (((xs.take k).map (·.1)).map fun s => if e : s.rank = (⟨3, ![a, m, n]⟩ : Shape).rank then s.size ((2 : Fin 3).cast e.symm) else 0).sum = pre)
    (q : Fin p) (hq : pre + q.val = j.val) : concatenate ⟨3, ![a, m, n]⟩ 2 xs h (ix3 b r j) = x (ix3 b r q) :=
  concatenate_apply_piece 2 xs h (ix3 b r j) k hk _ x hx rfl pre hpre (ix3 b r q) (fun d hd => match d, hd with
    | ⟨0, _⟩, _ => rfl
    | ⟨1, _⟩, _ => rfl
    | ⟨2, _⟩, hd => absurd rfl hd) hq

/-- Columns `o` on, of the samples' matrices. -/
theorem cols_three {α : Type} {a m n p : ℕ} (o : ℕ) (x : (⟨3, ![a, m, n]⟩ : Shape).Idx → α) (h : (⟨3, ![a, m, n]⟩ : Shape).Slices ![0, 0, o] ⟨3, ![a, m, p]⟩)
    (b : Fin a) (r : Fin m) (q : Fin p) (j : Fin n) (hj : j.val = o + q.val) : extractStridedSlice ⟨3, ![a, m, p]⟩ ![0, 0, o] x h (ix3 b r q) = x (ix3 b r j) :=
  extractStridedSlice_apply _ x h (ix3 b r q) (ix3 b r j) fun d => match d with
    | ⟨0, _⟩ => (Nat.zero_add _).symm
    | ⟨1, _⟩ => (Nat.zero_add _).symm
    | ⟨2, _⟩ => hj

/-- Columns `o` on, of a matrix. -/
theorem cols_two {α : Type} {m n p : ℕ} (o : ℕ) (x : (⟨2, ![m, n]⟩ : Shape).Idx → α) (h : (⟨2, ![m, n]⟩ : Shape).Slices ![0, o] ⟨2, ![m, p]⟩)
    (r : Fin m) (q : Fin p) (j : Fin n) (hj : j.val = o + q.val) : extractStridedSlice ⟨2, ![m, p]⟩ ![0, o] x h (ix2 r q) = x (ix2 r j) :=
  extractStridedSlice_apply _ x h (ix2 r q) (ix2 r j) fun d => match d with
    | ⟨0, _⟩ => (Nat.zero_add _).symm
    | ⟨1, _⟩ => hj

/-- A segment's modulation vector, cut out of the pair of them. -/
theorem seg_apply {α : Type} (o : ℕ) (x : (⟨4, ![2, 2, 1, 1024]⟩ : Shape).Idx → α) (h : (⟨4, ![2, 2, 1, 1024]⟩ : Shape).Slices ![0, o, 0, 0] ⟨4, ![2, 1, 1, 1024]⟩)
    (hc : (⟨4, ![2, 1, 1, 1024]⟩ : Shape).ShapeCasts ⟨3, ![2, 1, 1024]⟩) (b : Fin 2) (s : Fin 2) (hs : s.val = o) (k : Fin 1024) :
    shapeCast ⟨3, ![2, 1, 1024]⟩ (extractStridedSlice ⟨4, ![2, 1, 1, 1024]⟩ ![0, o, 0, 0] x h) hc (ix3 b (0 : Fin 1) k) = x (ix4 b s (0 : Fin 1) k) := by
  refine (shapeCast_apply _ _ _ (ix4 b (0 : Fin 1) (0 : Fin 1) k) ?_).trans (extractStridedSlice_apply _ x h _ _ fun d => ?_)
  · rw [Shape.rowMajor_val_four, Shape.rowMajor_val_three]
    show ((b.val * 1 + 0) * 1 + 0) * 1024 + k.val = (b.val * 1 + 0) * 1024 + k.val
    omega
  · match d with
    | ⟨0, _⟩ => exact (Nat.zero_add _).symm
    | ⟨1, _⟩ => exact hs
    | ⟨2, _⟩ => rfl
    | ⟨3, _⟩ => exact (Nat.zero_add _).symm

end Cert.Proj

end
-- ==== Proof.ProjRef.lean ====
/- The first projection's reference: its two results, element by element. -/
module

public import proofs.«01_k».proof.Proof.ProjMath
public import proofs.«01_k».proof.Proof.Gen.Reference2Ideal.Run

@[expose] public section

noncomputable section

namespace Cert.Proj

open Idealize.ShloMosaic Idealize.ShloMosaic.ValueIdx Idealize.ShloMosaic.StackMember

section Spec
variable (ctx : FVec Ideal ⟨3, ![2, 256, 1024]⟩ .f32) (x : FVec Ideal ⟨3, ![2, 8192, 1024]⟩ .f32) (g : FVec Ideal ⟨1, ![1024]⟩ .f32)
  (shift scale : FVec Ideal ⟨4, ![2, 2, 1, 1024]⟩ .f32) (w : FVec Ideal ⟨2, ![1024, 4128]⟩ .f32)

/-- The joint rows: the context's, then the sequence's. -/
def rowAt (b : Fin 2) (T : Fin 8448) (c : Fin 1024) : EReal :=
  if h : T.val < 256 then ctx (ix3 b (⟨T.val, h⟩ : Fin 256) c) else x (ix3 b (⟨T.val - 256, by omega⟩ : Fin 8192) c)

/-- The segment a joint row belongs to. -/
def segAt (T : Fin 8448) : Fin 2 := if T.val < 256 then 0 else 1

/-- A joint row, normalised and modulated with its segment's vectors. -/
def uAt (b : Fin 2) (T : Fin 8448) : Fin 1024 → EReal :=
  modRow (rowAt ctx x b T) (fun c => g (ix1 c)) (fun c => scale (ix4 b (segAt T) (0 : Fin 1) c)) (fun c => shift (ix4 b (segAt T) (0 : Fin 1) c))

/-- Column `j` of the weights against a joint row. -/
def hit (b : Fin 2) (T : Fin 8448) (j : Fin 4128) : EReal := ∑ c : Fin 1024, uAt ctx x g shift scale b T c * w (ix2 c j)

/-- The weights' column behind a column of the first result, short of its last 96. -/
def srcCol (j : ℕ) : ℕ := if j < 512 then j else if j < 1024 then j + 512 else if j < 2560 then j + 544 else if j < 3072 then j + 1056 else j - 1536

theorem srcCol_lt {j : ℕ} (h : j < 3200) : srcCol j < 4128 := by unfold srcCol; split_ifs <;> omega

/-- The weights' column behind a column of the second result. -/
def valCol (j : ℕ) : ℕ := if j < 512 then j + 512 else j + 2592

theorem valCol_lt {j : ℕ} (h : j < 1024) : valCol j < 4128 := by unfold valCol; split_ifs <;> omega

/-- The first result. -/
def projOut : FVec Ideal ⟨3, ![2, 8448, 3200]⟩ .f32 := fun i =>
  if (i 2).val < 3104 then hit ctx x g shift scale w (i 0) (i 1) ⟨srcCol (i 2).val, srcCol_lt (i 2).isLt⟩ else 0

/-- The second result. -/
def valsOut : FVec Ideal ⟨3, ![2, 8448, 1024]⟩ .bf16 := fun i =>
  hit ctx x g shift scale w (i 0) (i 1) ⟨valCol (i 2).val, valCol_lt (i 2).isLt⟩

end Spec

section Ref
open Cert.Reference2Ideal Cert.Reference2Ideal.Gen
variable (ctx : FVec Ideal S2x256x1024 .f32) (x : FVec Ideal S2x8192x1024 .f32) (g : FVec Ideal S1024 .f32)
  (shift scale : FVec Ideal S2x2x1x1024 .f32) (w : FVec Ideal S1024x4128 .f32)

/-- The joint rows modulated, as the reference spells them. -/
def refRows : FVec Ideal S2x8448x1024 .f32 :=
  concatenate S2x8448x1024 1 [
    ⟨S2x256x1024, (addf (mulf (mulf (mulf ctx
      (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf ctx ctx) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
      (broadcastInDim S2x256x1024 ![0, 1, 2] bcast_S1x1x1024_S2x256x1024_0_1_2 (broadcastInDim S1x1x1024 ![2] bcast_S1024_S1x1x1024_2 g)))
      (broadcastInDim S2x256x1024 ![0, 1, 2] bcast_S2x1x1024_S2x256x1024_0_1_2 (addf (broadcastInDim S2x1x1024 ![] bcast_S_S2x1x1024 (constant S_ .f32 0x3F800000#32)) (shapeCast _ (extractStridedSlice S2x1x1x1024 ![0, 0, 0, 0] scale slices_S2x2x1x1024_S2x1x1x1024_0_0_0_0) shapeCasts_S2x1x1x1024_S2x1x1024))))
      (broadcastInDim S2x256x1024 ![0, 1, 2] bcast_S2x1x1024_S2x256x1024_0_1_2 (shapeCast _ (extractStridedSlice S2x1x1x1024 ![0, 0, 0, 0] shift slices_S2x2x1x1024_S2x1x1x1024_0_0_0_0) shapeCasts_S2x1x1x1024_S2x1x1024)))⟩,
    ⟨S2x8192x1024, (addf (mulf (mulf (mulf x
      (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
      (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1024 ![0, 1, 0, 0] scale slices_S2x2x1x1024_S2x1x1x1024_0_1_0_0) shapeCasts_S2x1x1x1024_S2x1x1024))))
      (broadcastInDim S2x8192x1024 ![0, 1, 2] bcast_S2x1x1024_S2x8192x1024_0_1_2 (shapeCast _ (extractStridedSlice S2x1x1x1024 ![0, 1, 0, 0] shift slices_S2x2x1x1024_S2x1x1x1024_0_1_0_0) shapeCasts_S2x1x1x1024_S2x1x1024)))⟩] concatenates_S2x256x1024_S2x8192x1024_S2x8448x1024_d1

theorem refRows_apply (b : Fin 2) (T : Fin 8448) (c : Fin 1024) : refRows ctx x g shift scale (ix3 b T c) = uAt ctx x g shift scale b T c := by
  unfold refRows uAt rowAt segAt
  by_cases h : T.val < 256
  · refine (concatenate_pair_apply_left (t := S2x8448x1024) (s₁ := S2x256x1024) (s₂ := S2x8192x1024) 1 _ _ _ (ix3 b T c) rfl (ix3 b (⟨T.val, h⟩ : Fin 256) c : S2x256x1024.Idx) (fun d => match d with
      | ⟨0, _⟩ => rfl
      | ⟨1, _⟩ => rfl
      | ⟨2, _⟩ => rfl)).trans ((host_modulate ctx g _ _ (by decide) _ _ _ _ _ _ _ _ _ b ⟨T.val, h⟩ c).trans ?_)
    simp only [h, dif_pos, if_true, seg_apply 0 scale slices_S2x2x1x1024_S2x1x1x1024_0_0_0_0 shapeCasts_S2x1x1x1024_S2x1x1024 b 0 rfl,
      seg_apply 0 shift slices_S2x2x1x1024_S2x1x1x1024_0_0_0_0 shapeCasts_S2x1x1x1024_S2x1x1024 b 0 rfl]
  · refine (concatenate_pair_apply_right (t := S2x8448x1024) (s₁ := S2x256x1024) (s₂ := S2x8192x1024) 1 _ _ _ (ix3 b T c) rfl rfl (ix3 b (⟨T.val - 256, by omega⟩ : Fin 8192) c : S2x8192x1024.Idx) (fun d hd => match d, hd with
      | ⟨0, _⟩, _ => rfl
      | ⟨1, _⟩, hd => absurd rfl hd
      | ⟨2, _⟩, _ => rfl) (by show T.val - 256 + 256 = T.val; omega)).trans ((host_modulate x g _ _ (by decide) _ _ _ _ _ _ _ _ _ b ⟨T.val - 256, by omega⟩ c).trans ?_)
    simp only [h, dif_neg, if_false, seg_apply 1 scale slices_S2x2x1x1024_S2x1x1x1024_0_1_0_0 shapeCasts_S2x1x1x1024_S2x1x1024 b 1 rfl,
      seg_apply 1 shift slices_S2x2x1x1024_S2x1x1x1024_0_1_0_0 shapeCasts_S2x1x1x1024_S2x1x1024 b 1 rfl, not_false_eq_true]

/-- The product's columns in the order the first result has them. -/
def projCols (U : FVec Ideal S2x8448x4128 .f32) : FVec Ideal S2x8448x3200 .f32 :=
  concatenate S2x8448x3200 2 [⟨S2x8448x256, extractStridedSlice S2x8448x256 ![0, 0, 0] U slices_S2x8448x4128_S2x8448x256_0_0_0⟩,
    ⟨S2x8448x256, extractStridedSlice S2x8448x256 ![0, 0, 256] U slices_S2x8448x4128_S2x8448x256_0_0_256⟩,
    ⟨S2x8448x512, extractStridedSlice S2x8448x512 ![0, 0, 1024] U slices_S2x8448x4128_S2x8448x512_0_0_1024⟩,
    ⟨S2x8448x512, extractStridedSlice S2x8448x512 ![0, 0, 1568] U slices_S2x8448x4128_S2x8448x512_0_0_1568⟩,
    ⟨S2x8448x512, extractStridedSlice S2x8448x512 ![0, 0, 2080] U slices_S2x8448x4128_S2x8448x512_0_0_2080⟩,
    ⟨S2x8448x512, extractStridedSlice S2x8448x512 ![0, 0, 2592] U slices_S2x8448x4128_S2x8448x512_0_0_2592⟩,
    ⟨S2x8448x512, extractStridedSlice S2x8448x512 ![0, 0, 3616] U slices_S2x8448x4128_S2x8448x512_0_0_3616⟩,
    ⟨S2x8448x16, extractStridedSlice S2x8448x16 ![0, 0, 1536] U slices_S2x8448x4128_S2x8448x16_0_0_1536⟩,
    ⟨S2x8448x16, extractStridedSlice S2x8448x16 ![0, 0, 1552] U slices_S2x8448x4128_S2x8448x16_0_0_1552⟩,
    ⟨S2x8448x96, broadcastInDim S2x8448x96 ![] bcast_S_S2x8448x96 (constant S_ .f32 0x00000000#32)⟩]
    concatenates_S2x8448x256_S2x8448x256_S2x8448x512_S2x8448x512_S2x8448x512_S2x8448x512_S2x8448x512_S2x8448x16_S2x8448x16_S2x8448x96_S2x8448x3200_d2

/-- The product's columns in the order the second result has them. -/
def valCols (U : FVec Ideal S2x8448x4128 .f32) : FVec Ideal S2x8448x1024 .f32 :=
  concatenate S2x8448x1024 2 [⟨S2x8448x512, extractStridedSlice S2x8448x512 ![0, 0, 512] U slices_S2x8448x4128_S2x8448x512_0_0_512⟩,
    ⟨S2x8448x512, extractStridedSlice S2x8448x512 ![0, 0, 3104] U slices_S2x8448x4128_S2x8448x512_0_0_3104⟩] concatenates_S2x8448x512_S2x8448x512_S2x8448x1024_d2

set_option maxRecDepth 8192 in
theorem projCols_apply (U : FVec Ideal S2x8448x4128 .f32) (b : Fin 2) (T : Fin 8448) (j : Fin 3200) :
    projCols U (ix3 b T j) = if j.val < 3104 then U (ix3 b T (⟨srcCol j.val, srcCol_lt j.isLt⟩ : Fin 4128)) else 0 := by
  have piece : ∀ (k pre n o : ℕ) (hk : k < 10) (hs : (⟨3, ![2, 8448, 4128]⟩ : Shape).Slices ![0, 0, o] ⟨3, ![2, 8448, n]⟩)
      (xs : List ((s : Shape) × (s.Idx → EReal))) (h : Shape.Concatenates (xs.map (·.1)) ⟨3, ![2, 8448, 3200]⟩ 2) (hl : xs.length = 10)
      (hx : xs[k] = ⟨⟨3, ![2, 8448, n]⟩, extractStridedSlice ⟨3, ![2, 8448, n]⟩ ![0, 0, o] U hs⟩)
      (hpre : (((xs.take k).map (·.1)).map fun s => if e : s.rank = (⟨3, ![2, 8448, 3200]⟩ : Shape).rank then s.size ((2 : Fin 3).cast e.symm) else 0).sum = pre)
      (lo : pre ≤ j.val) (hi : j.val < pre + n) (src : srcCol j.val = o + (j.val - pre)),
      concatenate ⟨3, ![2, 8448, 3200]⟩ 2 xs h (ix3 b T j) = U (ix3 b T (⟨srcCol j.val, srcCol_lt j.isLt⟩ : Fin 4128)) :=
    fun k pre n o hk hs xs h hl hx hpre lo hi src =>
      (cat_three xs h b T j k (hl ▸ hk) _ hx pre hpre ⟨j.val - pre, by omega⟩ (by show pre + (j.val - pre) = j.val; omega)).trans
        (cols_three o U hs b T _ _ src)
  have src : srcCol j.val = if j.val < 512 then j.val else if j.val < 1024 then j.val + 512 else if j.val < 2560 then j.val + 544 else if j.val < 3072 then j.val + 1056 else j.val - 1536 := rfl
  unfold projCols
  by_cases h0 : j.val < 3104
  · rw [if_pos h0]
    by_cases h1 : j.val < 256
    · exact piece 0 0 256 0 (by decide) _ _ _ rfl rfl rfl (by omega) (by omega) (by rw [src]; split_ifs <;> omega)
    by_cases h2 : j.val < 512
    · exact piece 1 256 256 256 (by decide) _ _ _ rfl rfl rfl (by omega) (by omega) (by rw [src]; split_ifs <;> omega)
    by_cases h3 : j.val < 1024
    · exact piece 2 512 512 1024 (by decide) _ _ _ rfl rfl rfl (by omega) (by omega) (by rw [src]; split_ifs <;> omega)
    by_cases h4 : j.val < 1536
    · exact piece 3 1024 512 1568 (by decide) _ _ _ rfl rfl rfl (by omega) (by omega) (by rw [src]; split_ifs <;> omega)
    by_cases h5 : j.val < 2048
    · exact piece 4 1536 512 2080 (by decide) _ _ _ rfl rfl rfl (by omega) (by omega) (by rw [src]; split_ifs <;> omega)
    by_cases h6 : j.val < 2560
    · exact piece 5 2048 512 2592 (by decide) _ _ _ rfl rfl rfl (by omega) (by omega) (by rw [src]; split_ifs <;> omega)
    by_cases h7 : j.val < 3072
    · exact piece 6 2560 512 3616 (by decide) _ _ _ rfl rfl rfl (by omega) (by omega) (by rw [src]; split_ifs <;> omega)
    by_cases h8 : j.val < 3088
    · exact piece 7 3072 16 1536 (by decide) _ _ _ rfl rfl rfl (by omega) (by omega) (by rw [src]; split_ifs <;> omega)
    exact piece 8 3088 16 1552 (by decide) _ _ _ rfl rfl rfl (by omega) (by omega) (by rw [src]; split_ifs <;> omega)
  · rw [if_neg h0]
    exact (cat_three _ _ b T j 9 (by simp) (broadcastInDim S2x8448x96 ![] bcast_S_S2x8448x96 (constant S_ .f32 0x00000000#32)) rfl 3104 rfl
      ⟨j.val - 3104, by omega⟩ (by show 3104 + (j.val - 3104) = j.val; omega)).trans Ideal.ofBits_zero_f32

theorem valCols_apply (U : FVec Ideal S2x8448x4128 .f32) (b : Fin 2) (T : Fin 8448) (j : Fin 1024) :
    valCols U (ix3 b T j) = U (ix3 b T (⟨valCol j.val, valCol_lt j.isLt⟩ : Fin 4128)) := by
  unfold valCols
  by_cases h : j.val < 512
  · exact (cat_three _ _ b T j 0 (by simp) _ rfl 0 rfl ⟨j.val, h⟩ (Nat.zero_add _)).trans
      (cols_three 512 U _ b T _ _ (by show valCol j.val = 512 + j.val; unfold valCol; rw [if_pos h]; omega))
  · exact (cat_three _ _ b T j 1 (by simp) _ rfl 512 rfl ⟨j.val - 512, by omega⟩ (by show 512 + (j.val - 512) = j.val; omega)).trans
      (cols_three 3104 U _ b T _ _ (by show valCol j.val = 3104 + (j.val - 512); unfold valCol; rw [if_neg h]; omega))

theorem ref_hit (b : Fin 2) (T : Fin 8448) (j : Fin 4128) :
    Host.dotGeneral dot_S2x8448x1024_S1024x4128_S2x8448x4128_2_0_01_1_n_n none (refRows ctx x g shift scale) w (ix3 b T j) = hit ctx x g shift scale w b T j :=
  (rows_product _ _ w b T j).trans (Finset.sum_congr rfl fun c _ => by rw [refRows_apply])

theorem ref_proj : projCols (Host.dotGeneral dot_S2x8448x1024_S1024x4128_S2x8448x4128_2_0_01_1_n_n none (refRows ctx x g shift scale) w)
    = projOut ctx x g shift scale w := by
  funext i
  obtain ⟨b, T, j, rfl⟩ : ∃ (b : Fin 2) (T : Fin 8448) (j : Fin 3200), i = ix3 b T j := ⟨_, _, _, eq_ix3 i⟩
  rw [projCols_apply, ref_hit]
  rfl

theorem ref_vals : truncf .bf16 (valCols (Host.dotGeneral dot_S2x8448x1024_S1024x4128_S2x8448x4128_2_0_01_1_n_n none (refRows ctx x g shift scale) w)) bitsLt_bf16_f32
    = valsOut ctx x g shift scale w := by
  funext i
  obtain ⟨b, T, j, rfl⟩ : ∃ (b : Fin 2) (T : Fin 8448) (j : Fin 1024), i = ix3 b T j := ⟨_, _, _, eq_ix3 i⟩
  exact (valCols_apply _ b T j).trans (ref_hit ctx x g shift scale w b T _)

end Ref

end Cert.Proj

end
-- ==== Proof.ProjBody.lean ====
/- The first projection's body: what one grid point computes from its blocks. -/
module

public import proofs.«01_k».proof.Proof.ProjRef
public import proofs.«01_k».proof.Proof.Gen.Kernel2Ideal.Value
public import Idealize.ShloMosaic.Lib.KernelVsHost
public import Idealize.ShloMosaic.Lib.Pipeline.ValueKit.Geometry
public import Idealize.ShloMosaic.Lib.IdealHost

@[expose] public section

noncomputable section

namespace Cert.Proj

open Cert.Kernel2Ideal Cert.Kernel2Ideal.Gen
open Idealize.ShloMosaic Idealize.ShloMosaic.ValueIdx Idealize.ShloMosaic.StackMember
open Idealize.ShloMosaic.TcCoe
open Idealize.SL.Sem
open Idealize.ShloMosaic.Pipeline (Dat Cfg Window)

/-- A product of the block's rows with a weight block, at an index. -/
theorem block_product {m n : ℕ} (w : DotDims.WF ⟨2, ![m, 1024]⟩ ⟨2, ![1024, n]⟩ ⟨2, ![m, n]⟩ [1] [0] [0] [1] [] [])
    (U : FVec Ideal ⟨2, ![m, 1024]⟩ .bf16) (B : FVec Ideal ⟨2, ![1024, n]⟩ .bf16) (hc : (⟨2, ![1024, n]⟩ : Shape).ShapeCasts ⟨2, ![1024, n]⟩)
    (r : Fin m) (q : Fin n) :
    matmul (⟨[1], [0], [0], [1], [], [], w⟩ : DotDims _ _ _) none U (shapeCast ⟨2, ![1024, n]⟩ B hc) (constant ⟨2, ![m, n]⟩ .f32 0x00000000#32) (ix2 r q)
      = ∑ c : Fin 1024, U (ix2 r c) * B (ix2 c q) := by
  rw [matmul_zero_eq_dotGeneral]
  refine (dotGeneral_plain_apply none U (shapeCast ⟨2, ![1024, n]⟩ B hc) r q).trans (Finset.sum_congr rfl fun c _ => ?_)
  rw [shapeCast_apply B hc (ix2 c q) (ix2 c q) rfl]

/-- The test for the context's block, as the body spells it. -/
theorem first_iff (n : ℕ) (h : n < 33) : (Scalar.cmpi .slt (BitVec.ofNat 32 n) 1#32 = 1) ↔ n = 0 := by
  revert n; decide

/-- The block's rows, normalised and modulated. -/
theorem rows_apply (i : grid0.Coords) (v1 v3 : FVec Ideal S1x256x1024 .f32) (v6 : FVec Ideal S1x1024 .f32) (v20 v26 : FVec Ideal S1x1x1x1024 .f32)
    (r : Fin 256) (k : Fin 1024) :
    k0_pay3 (F := Ideal) i v1 v3 v6 v20 v26 (ix2 r k)
      = modRow (fun c => if (i 1).val = 0 then v1 (ix3 (0 : Fin 1) r c) else v3 (ix3 (0 : Fin 1) r c)) (fun c => v6 (ix2 (0 : Fin 1) c))
          (fun c => v20 (ix4 (0 : Fin 1) (0 : Fin 1) (0 : Fin 1) c)) (fun c => v26 (ix4 (0 : Fin 1) (0 : Fin 1) (0 : Fin 1) c)) k := by
  have tr : ∀ (z : FVec Ideal S256x1024 .f32) (j : S256x1024.Idx), truncf .bf16 z bitsLt_bf16_f32 j = z j := fun _ _ => rfl
  have flat : ∀ (z : FVec Ideal S1x256x1024 .f32) (c : Fin 1024), shapeCast S256x1024 z shapeCasts_S1x256x1024_S256x1024 (ix2 r c) = z (ix3 (0 : Fin 1) r c) := fun z c =>
    shapeCast_apply _ _ _ (ix3 (0 : Fin 1) r c) (by
      rw [Shape.rowMajor_val_three, Shape.rowMajor_val_two]
      show (0 * 256 + r.val) * 1024 + c.val = r.val * 1024 + c.val
      omega)
  have vec : ∀ (z : FVec Ideal S1x1x1x1024 .f32) (c : Fin 1024), shapeCast S1x1024 z shapeCasts_S1x1x1x1024_S1x1024 (ix2 (0 : Fin 1) c) = z (ix4 (0 : Fin 1) (0 : Fin 1) (0 : Fin 1) c) := fun z c =>
    shapeCast_apply _ _ _ (ix4 (0 : Fin 1) (0 : Fin 1) (0 : Fin 1) c) (by
      rw [Shape.rowMajor_val_four, Shape.rowMajor_val_two]
      show ((0 * 1 + 0) * 1 + 0) * 1024 + c.val = 0 * 1024 + c.val
      omega)
  have sel : ∀ c : Fin 1024, (Scalar.select (Scalar.cmpi .slt (BitVec.ofNat 32 (i 1).val) 1#32) (shapeCast S256x1024 v1 shapeCasts_S1x256x1024_S256x1024)
      (shapeCast S256x1024 v3 shapeCasts_S1x256x1024_S256x1024) : FVec Ideal S256x1024 .f32) (ix2 r c)
      = if (i 1).val = 0 then v1 (ix3 (0 : Fin 1) r c) else v3 (ix3 (0 : Fin 1) r c) := fun c => by
    unfold Scalar.select
    have e := first_iff (i 1).val (i 1).isLt
    by_cases h : (i 1).val = 0
    · rw [if_pos (e.2 h), if_pos h, flat]
    · rw [if_neg (fun k => h (e.1 k)), if_neg h, flat]
  refine (tr _ _).trans ((block_modulate _ _ _ _ reduces_S256x1024_S256 _ _ _ r k).trans ?_)
  simp only [sel, vec, shapeCast_apply v6 shapeCasts_S1x1024_S1x1024 _ _ rfl]

section Columns
variable (U : FVec Ideal S256x1024 .bf16) (W : FVec Ideal ⟨2, ![1024, 4128]⟩ .f32)

/-- The first result's block, from weight blocks that are columns of one matrix. -/
theorem proj_block (w5 w6 w8 : FVec Ideal S1024x512 .bf16) (w7 : FVec Ideal S1024x1536 .bf16) (w9 : FVec Ideal S1024x128 .bf16)
    (h5 : ∀ (c : Fin 1024) (q : Fin 512), w5 (ix2 c q) = W (ix2 c (⟨q.val, by omega⟩ : Fin 4128)))
    (h6 : ∀ (c : Fin 1024) (q : Fin 512), w6 (ix2 c q) = W (ix2 c (⟨1024 + q.val, by omega⟩ : Fin 4128)))
    (h7 : ∀ (c : Fin 1024) (q : Fin 1536), w7 (ix2 c q) = W (ix2 c (⟨1568 + q.val, by omega⟩ : Fin 4128)))
    (h8 : ∀ (c : Fin 1024) (q : Fin 512), w8 (ix2 c q) = W (ix2 c (⟨3616 + q.val, by omega⟩ : Fin 4128)))
    (h9 : ∀ (c : Fin 1024) (q : Fin 128), w9 (ix2 c q) = if q.val < 32 then W (ix2 c (⟨1536 + q.val, by omega⟩ : Fin 4128)) else 0)
    (r : Fin 256) (j : Fin 3200) :
    k0_pay1 (F := Ideal) U (matmul dot_S256x1024_S1024x512_S256x512_1_0_0_1_n_n none U (shapeCast S1024x512 w5 shapeCasts_S1024x512_S1024x512) (constant S256x512 .f32 0x00000000#32))
      w6 w7 w8 w9 (ix3 (0 : Fin 1) r j)
      = if j.val < 3104 then ∑ c : Fin 1024, U (ix2 r c) * W (ix2 c (⟨srcCol j.val, srcCol_lt j.isLt⟩ : Fin 4128)) else 0 := by
  have src : srcCol j.val = if j.val < 512 then j.val else if j.val < 1024 then j.val + 512 else if j.val < 2560 then j.val + 544 else if j.val < 3072 then j.val + 1056 else j.val - 1536 := rfl
  have col : ∀ (a b : ℕ) (ha : a < 4128) (hb : b < 4128) (c : Fin 1024), a = b → W (ix2 c (⟨a, ha⟩ : Fin 4128)) = W (ix2 c (⟨b, hb⟩ : Fin 4128)) := by
    intro a b ha hb c e; subst e; rfl
  unfold k0_pay1
  refine (shapeCast_apply _ _ _ (ix2 r j) (by
    rw [Shape.rowMajor_val_three, Shape.rowMajor_val_two]
    show r.val * 3200 + j.val = (0 * 256 + r.val) * 3200 + j.val
    omega)).trans ?_
  by_cases a1 : j.val < 512
  · refine (cat_two _ _ r j 0 (by simp) _ rfl 0 rfl ⟨j.val, a1⟩ (Nat.zero_add _)).trans ((block_product _ U w5 _ r _).trans ?_)
    rw [if_pos (by omega)]
    refine Finset.sum_congr rfl fun c _ => ?_
    rw [h5, col _ _ _ (srcCol_lt j.isLt) c (by rw [src]; dsimp only; split_ifs <;> omega)]
  by_cases a2 : j.val < 1024
  · refine (cat_two _ _ r j 1 (by simp) _ rfl 512 rfl ⟨j.val - 512, by omega⟩ (by show 512 + (j.val - 512) = j.val; omega)).trans ((block_product _ U w6 _ r _).trans ?_)
    rw [if_pos (by omega)]
    refine Finset.sum_congr rfl fun c _ => ?_
    rw [h6, col _ _ _ (srcCol_lt j.isLt) c (by rw [src]; dsimp only; split_ifs <;> omega)]
  by_cases a3 : j.val < 2560
  · refine (cat_two _ _ r j 2 (by simp) _ rfl 1024 rfl ⟨j.val - 1024, by omega⟩ (by show 1024 + (j.val - 1024) = j.val; omega)).trans ((block_product _ U w7 _ r _).trans ?_)
    rw [if_pos (by omega)]
    refine Finset.sum_congr rfl fun c _ => ?_
    rw [h7, col _ _ _ (srcCol_lt j.isLt) c (by rw [src]; dsimp only; split_ifs <;> omega)]
  by_cases a4 : j.val < 3072
  · refine (cat_two _ _ r j 3 (by simp) _ rfl 2560 rfl ⟨j.val - 2560, by omega⟩ (by show 2560 + (j.val - 2560) = j.val; omega)).trans ((block_product _ U w8 _ r _).trans ?_)
    rw [if_pos (by omega)]
    refine Finset.sum_congr rfl fun c _ => ?_
    rw [h8, col _ _ _ (srcCol_lt j.isLt) c (by rw [src]; dsimp only; split_ifs <;> omega)]
  refine (cat_two _ _ r j 4 (by simp) _ rfl 3072 rfl ⟨j.val - 3072, by omega⟩ (by show 3072 + (j.val - 3072) = j.val; omega)).trans ((block_product _ U w9 _ r _).trans ?_)
  by_cases a5 : j.val < 3104
  · rw [if_pos a5]
    refine Finset.sum_congr rfl fun c _ => ?_
    rw [h9, if_pos (by show j.val - 3072 < 32; omega), col _ _ _ (srcCol_lt j.isLt) c (by rw [src]; dsimp only; split_ifs <;> omega)]
  · rw [if_neg a5]
    refine Finset.sum_eq_zero fun c _ => ?_
    rw [h9, if_neg (by show ¬ j.val - 3072 < 32; omega), mul_zero]

/-- The second result's block, likewise. -/
theorem vals_block (w10 w11 : FVec Ideal S1024x512 .bf16)
    (h10 : ∀ (c : Fin 1024) (q : Fin 512), w10 (ix2 c q) = W (ix2 c (⟨512 + q.val, by omega⟩ : Fin 4128)))
    (h11 : ∀ (c : Fin 1024) (q : Fin 512), w11 (ix2 c q) = W (ix2 c (⟨3104 + q.val, by omega⟩ : Fin 4128)))
    (r : Fin 256) (j : Fin 1024) :
    k0_pay2 (F := Ideal) U w10 w11 (ix3 (0 : Fin 1) r j) = ∑ c : Fin 1024, U (ix2 r c) * W (ix2 c (⟨valCol j.val, valCol_lt j.isLt⟩ : Fin 4128)) := by
  have src : valCol j.val = if j.val < 512 then j.val + 512 else j.val + 2592 := rfl
  have col : ∀ (a b : ℕ) (ha : a < 4128) (hb : b < 4128) (c : Fin 1024), a = b → W (ix2 c (⟨a, ha⟩ : Fin 4128)) = W (ix2 c (⟨b, hb⟩ : Fin 4128)) := by
    intro a b ha hb c e; subst e; rfl
  have tr : ∀ (z : FVec Ideal S256x1024 .f32) (j : S256x1024.Idx), truncf .bf16 z bitsLt_bf16_f32 j = z j := fun _ _ => rfl
  unfold k0_pay2
  refine (shapeCast_apply _ _ _ (ix2 r j) (by
    rw [Shape.rowMajor_val_three, Shape.rowMajor_val_two]
    show r.val * 1024 + j.val = (0 * 256 + r.val) * 1024 + j.val
    omega)).trans ((tr _ _).trans ?_)
  by_cases a1 : j.val < 512
  · refine (cat_two _ _ r j 0 (by simp) _ rfl 0 rfl ⟨j.val, a1⟩ (Nat.zero_add _)).trans ((block_product _ U w10 _ r _).trans ?_)
    refine Finset.sum_congr rfl fun c _ => ?_
    rw [h10, col _ _ _ (valCol_lt j.isLt) c (by rw [src, if_pos a1]; exact Nat.add_comm _ _)]
  · refine (cat_two _ _ r j 1 (by simp) _ rfl 512 rfl ⟨j.val - 512, by omega⟩ (by show 512 + (j.val - 512) = j.val; omega)).trans ((block_product _ U w11 _ r _).trans ?_)
    refine Finset.sum_congr rfl fun c _ => ?_
    rw [h11, col _ _ _ (valCol_lt j.isLt) c (by rw [src, if_neg a1]; show 3104 + (j.val - 512) = _; omega)]

end Columns

end Cert.Proj

end
-- ==== Proof.ProjValue.lean ====
/- The first projection's value: the two arrays the kernel leaves are the reference's. -/
module

public import proofs.«01_k».proof.Proof.ProjBody

@[expose] public section

noncomputable section

namespace Cert.Proj

open Cert.Kernel2Ideal Cert.Kernel2Ideal.Gen
open Idealize.ShloMosaic Idealize.ShloMosaic.ValueIdx Idealize.ShloMosaic.StackMember
open Idealize.ShloMosaic.TcCoe
open Idealize.SL.Sem
open Idealize.ShloMosaic.Pipeline (Dat Cfg Window)

variable (m : (ℓ : Loc nD τ sig) → Buf (Elt Ideal) ℓ) (c : Dev nD)

/-! ## The arguments -/

abbrev ctxArg : FVec Ideal S2x256x1024 .f32 := m ((c : Thread nD τ).loc main_arg0)
abbrev xArg : FVec Ideal S2x8192x1024 .f32 := m ((c : Thread nD τ).loc main_arg1)
abbrev gArg : FVec Ideal S1024 .f32 := m ((c : Thread nD τ).loc main_arg2)
abbrev shiftArg : FVec Ideal S2x2x1x1024 .f32 := m ((c : Thread nD τ).loc main_arg3)
abbrev scaleArg : FVec Ideal S2x2x1x1024 .f32 := m ((c : Thread nD τ).loc main_arg4)
abbrev wArg : FVec Ideal S1024x4128 .f32 := m ((c : Thread nD τ).loc main_arg5)

/-! ## The arrays the host prepares -/

/-- The gains as one row, the weights' columns in their pieces, and the narrow piece filled up with zeros. -/
theorem prepared : (V m c main_v15 : FVec Ideal S1x1024 .f32) = shapeCast S1x1024 (gArg m c) shapeCasts_S1024_S1x1024
    ∧ (V m c main_v4 : FVec Ideal S1024x512 .bf16) = truncf .bf16 (extractStridedSlice S1024x512 ![0, 0] (wArg m c) slices_S1024x4128_S1024x512_0_0) bitsLt_bf16_f32
    ∧ (V m c main_v6 : FVec Ideal S1024x512 .bf16) = truncf .bf16 (extractStridedSlice S1024x512 ![0, 1024] (wArg m c) slices_S1024x4128_S1024x512_0_1024) bitsLt_bf16_f32
    ∧ (V m c main_v8 : FVec Ideal S1024x1536 .bf16) = truncf .bf16 (extractStridedSlice S1024x1536 ![0, 1568] (wArg m c) slices_S1024x4128_S1024x1536_0_1568) bitsLt_bf16_f32
    ∧ (V m c main_v10 : FVec Ideal S1024x512 .bf16) = truncf .bf16 (extractStridedSlice S1024x512 ![0, 3616] (wArg m c) slices_S1024x4128_S1024x512_0_3616) bitsLt_bf16_f32
    ∧ (V m c main_v12 : FVec Ideal S1024x512 .bf16) = truncf .bf16 (extractStridedSlice S1024x512 ![0, 512] (wArg m c) slices_S1024x4128_S1024x512_0_512) bitsLt_bf16_f32
    ∧ (V m c main_v14 : FVec Ideal S1024x512 .bf16) = truncf .bf16 (extractStridedSlice S1024x512 ![0, 3104] (wArg m c) slices_S1024x4128_S1024x512_0_3104) bitsLt_bf16_f32
    ∧ (V m c main_v2 : FVec Ideal S1024x128 .bf16) = pad S1024x128 ![0, 0] ![0, 96] ![0, 0]
        (truncf .bf16 (extractStridedSlice S1024x32 ![0, 1536] (wArg m c) slices_S1024x4128_S1024x32_0_1536) bitsLt_bf16_f32)
        (sitofp .bf16 (constantI S_ 32 0#32)) pads_S1024x32_S1024x128_000_0960 h_S_ := by
  refine ⟨?_, ?_, ?_, ?_, ?_, ?_, ?_, ?_⟩ <;>
  · show StableHlo.after (List.flatten [hostOps0, hostOps0_1, hostOps0_2]) _ _ = _
    simp only [hostOps0, hostOps0_1, hostOps0_2, List.flatten_cons, List.flatten_nil, List.append_nil, List.cons_append, List.nil_append]
    after_results_simp
    try rfl

theorem gain_array (k : Fin 1024) : (V m c main_v15 : FVec Ideal S1x1024 .f32) (ix2 (0 : Fin 1) k) = gArg m c (ix1 k) := by
  rw [(prepared m c).1]
  refine shapeCast_apply _ _ _ (ix1 k) ?_
  rw [Shape.rowMajor_val_two, Shape.rowMajor_val_one]
  show k.val = 0 * 1024 + k.val
  omega

/-- A narrowed piece of the weights holds their columns. -/
theorem piece_apply {n N : ℕ} (o : ℕ) (A : FVec Ideal ⟨2, ![1024, n]⟩ .bf16) (w : FVec Ideal ⟨2, ![1024, N]⟩ .f32) (hs : (⟨2, ![1024, N]⟩ : Shape).Slices ![0, o] ⟨2, ![1024, n]⟩)
    (e : A = truncf .bf16 (extractStridedSlice ⟨2, ![1024, n]⟩ ![0, o] w hs) bitsLt_bf16_f32) (p : Fin 1024) (q : Fin n) (h : o + q.val < N) :
    A (ix2 p q) = w (ix2 p (⟨o + q.val, h⟩ : Fin N)) := by
  rw [e]
  exact cols_two o w hs p q _ rfl

theorem narrow_array (p : Fin 1024) (q : Fin 128) : (V m c main_v2 : FVec Ideal S1024x128 .bf16) (ix2 p q)
    = if q.val < 32 then wArg m c (ix2 p (⟨1536 + q.val, by omega⟩ : Fin 4128)) else 0 := by
  rw [(prepared m c).2.2.2.2.2.2.2]
  by_cases h : q.val < 32
  · rw [if_pos h]
    refine (pad_apply_of_inside _ _ _ _ _ _ _ (ix2 p q) (ix2 p (⟨q.val, h⟩ : Fin 32)) fun d => ?_).trans (piece_apply 1536 _ (wArg m c) _ rfl p _ _)
    match d with
    | ⟨0, _⟩ => show p.val = 0 + p.val * 1; omega
    | ⟨1, _⟩ => show q.val = 0 + q.val * 1; omega
  · rw [if_neg h]
    refine (pad_apply_of_not_inside _ _ _ _ _ _ _ (ix2 p q) 1 ?_).trans ?_
    · show ¬ (0 ≤ q.val ∧ (q.val - 0) % 1 = 0 ∧ (q.val - 0) / 1 < 32)
      omega
    · show (((0#32 : BitVec 32).toInt : ℝ) : EReal) = 0
      simp

/-! ## The blocks a grid point reads -/

theorem index_facts : ∀ t : Fin grid0.N, cc0_transform_0 (grid0.coords t) = ![t.val / 33, 0, 0] ∧ cc0_transform_1 (grid0.coords t) = ![t.val / 33, t.val % 33 - 1, 0]
    ∧ cc0_transform_3 (grid0.coords t) = ![t.val / 33, if t.val % 33 = 0 then 0 else 1, 0, 0] ∧ cc0_transform_12 (grid0.coords t) = ![t.val / 33, t.val % 33, 0]
    ∧ (grid0.coords t 1).val = t.val % 33 := by decide +kernel

theorem point_lt (t : Fin cfg0.N) : t.val < 66 := lt_of_lt_of_eq t.isLt N_0

/-- A point's sample. -/
def bAt (t : Fin cfg0.N) : Fin 2 := ⟨t.val / 33, by have := point_lt t; omega⟩

/-- The joint row at a point's row `r`. -/
def tAt (t : Fin cfg0.N) (r : Fin 256) : Fin 8448 := ⟨t.val % 33 * 256 + r.val, by have := point_lt t; omega⟩

variable (t : Fin cfg0.N)

theorem ctx_block (r : Fin 256) (k : Fin 1024) : (iblk m c 0 t : FVec Ideal S1x256x1024 .f32) (ix3 (0 : Fin 1) r k) = ctxArg m c (ix3 (bAt t) r k) := by
  refine Eq.trans (congrArg (V m c main_arg0) (funext fun d => Fin.ext ?_)) (congrFun (V_main_arg0 m c) (ix3 (bAt t) r k))
  refine (Window.rect_emb_val (cfg0.win 0) t (ix3 (0 : Fin 1) r k) d).trans ?_
  rw [show (cfg0.win 0).index t = ![t.val / 33, 0, 0] from (index_facts t).1]
  match d with
  | ⟨0, _⟩ => exact Nat.mul_one _
  | ⟨1, _⟩ => exact Nat.zero_add _
  | ⟨2, _⟩ => exact Nat.zero_add _

theorem x_block (h : t.val % 33 ≠ 0) (r : Fin 256) (k : Fin 1024) : (iblk m c 1 t : FVec Ideal S1x256x1024 .f32) (ix3 (0 : Fin 1) r k)
    = xArg m c (ix3 (bAt t) (⟨(tAt t r).val - 256, by have := (tAt t r).isLt; omega⟩ : Fin 8192) k) := by
  refine Eq.trans (congrArg (V m c main_arg1) (funext fun d => Fin.ext ?_)) (congrFun (V_main_arg1 m c) _)
  refine (Window.rect_emb_val (cfg0.win 1) t (ix3 (0 : Fin 1) r k) d).trans ?_
  rw [show (cfg0.win 1).index t = ![t.val / 33, t.val % 33 - 1, 0] from (index_facts t).2.1]
  match d with
  | ⟨0, _⟩ => exact Nat.mul_one _
  | ⟨1, _⟩ =>
    show (t.val % 33 - 1) * 256 + r.val = t.val % 33 * 256 + r.val - 256
    omega
  | ⟨2, _⟩ => exact Nat.zero_add _

theorem seg_val (r : Fin 256) : (segAt (tAt t r)).val = if t.val % 33 = 0 then 0 else 1 := by
  unfold segAt
  show (if t.val % 33 * 256 + r.val < 256 then (0 : Fin 2) else 1).val = _
  have := r.isLt
  by_cases h : t.val % 33 = 0
  · rw [if_pos (by omega), if_pos h]; rfl
  · rw [if_neg (by omega), if_neg h]; rfl

/-- Where an element of a segment's block lies in the whole array of vectors. -/
theorem seg_coord (r : Fin 256) (k : Fin 1024) (d : Fin 4) :
    (![t.val / 33, if t.val % 33 = 0 then 0 else 1, 0, 0] : Fin 4 → ℕ) d * S1x1x1x1024.size d + (ix4 (0 : Fin 1) (0 : Fin 1) (0 : Fin 1) k d).val
      = (ix4 (bAt t) (segAt (tAt t r)) (0 : Fin 1) k d).val := by
  match d with
  | ⟨0, _⟩ => exact Nat.mul_one _
  | ⟨1, _⟩ => exact (Nat.mul_one _).trans (seg_val t r).symm
  | ⟨2, _⟩ => rfl
  | ⟨3, _⟩ => exact Nat.zero_add _

theorem shift_block (r : Fin 256) (k : Fin 1024) : (iblk m c 3 t : FVec Ideal S1x1x1x1024 .f32) (ix4 (0 : Fin 1) (0 : Fin 1) (0 : Fin 1) k)
    = shiftArg m c (ix4 (bAt t) (segAt (tAt t r)) (0 : Fin 1) k) := by
  refine Eq.trans (congrArg (V m c main_arg3) (funext fun d => Fin.ext ?_)) (congrFun (V_main_arg3 m c) _)
  refine (Window.rect_emb_val (cfg0.win 3) t (ix4 (0 : Fin 1) (0 : Fin 1) (0 : Fin 1) k) d).trans ?_
  rw [show (cfg0.win 3).index t = _ from (index_facts t).2.2.1]
  exact seg_coord t r k d

theorem scale_block (r : Fin 256) (k : Fin 1024) : (iblk m c 4 t : FVec Ideal S1x1x1x1024 .f32) (ix4 (0 : Fin 1) (0 : Fin 1) (0 : Fin 1) k)
    = scaleArg m c (ix4 (bAt t) (segAt (tAt t r)) (0 : Fin 1) k) := by
  refine Eq.trans (congrArg (V m c main_arg4) (funext fun d => Fin.ext ?_)) (congrFun (V_main_arg4 m c) _)
  refine (Window.rect_emb_val (cfg0.win 4) t (ix4 (0 : Fin 1) (0 : Fin 1) (0 : Fin 1) k) d).trans ?_
  rw [show (cfg0.win 4).index t = _ from (index_facts t).2.2.1]
  exact seg_coord t r k d

/-- The windows whose one block is their whole array read it as it stands. -/
theorem whole_blocks : (iblk m c 2 t : FVec Ideal S1x1024 .f32) = V m c main_v15 ∧ (iblk m c 5 t : FVec Ideal S1024x512 .bf16) = V m c main_v4
    ∧ (iblk m c 6 t : FVec Ideal S1024x512 .bf16) = V m c main_v6 ∧ (iblk m c 7 t : FVec Ideal S1024x1536 .bf16) = V m c main_v8
    ∧ (iblk m c 8 t : FVec Ideal S1024x512 .bf16) = V m c main_v10 ∧ (iblk m c 9 t : FVec Ideal S1024x128 .bf16) = V m c main_v2
    ∧ (iblk m c 10 t : FVec Ideal S1024x512 .bf16) = V m c main_v12 ∧ (iblk m c 11 t : FVec Ideal S1024x512 .bf16) = V m c main_v14 := by
  have at_zero : ∀ (n0 n1 : ℕ) (d : Fin 2) (k : ℕ), (![0, 0] : Fin 2 → ℕ) d * (![n0, n1] : Fin 2 → ℕ) d + k = k := fun n0 n1 d k => match d with
    | ⟨0, _⟩ => by show 0 * n0 + k = k; omega
    | ⟨1, _⟩ => by show 0 * n1 + k = k; omega
  exact ⟨funext fun y => congrArg (V m c main_v15) (funext fun d => Fin.ext ((Window.rect_emb_val (cfg0.win 2) t y d).trans (at_zero _ _ d _))),
    funext fun y => congrArg (V m c main_v4) (funext fun d => Fin.ext ((Window.rect_emb_val (cfg0.win 5) t y d).trans (at_zero _ _ d _))),
    funext fun y => congrArg (V m c main_v6) (funext fun d => Fin.ext ((Window.rect_emb_val (cfg0.win 6) t y d).trans (at_zero _ _ d _))),
    funext fun y => congrArg (V m c main_v8) (funext fun d => Fin.ext ((Window.rect_emb_val (cfg0.win 7) t y d).trans (at_zero _ _ d _))),
    funext fun y => congrArg (V m c main_v10) (funext fun d => Fin.ext ((Window.rect_emb_val (cfg0.win 8) t y d).trans (at_zero _ _ d _))),
    funext fun y => congrArg (V m c main_v2) (funext fun d => Fin.ext ((Window.rect_emb_val (cfg0.win 9) t y d).trans (at_zero _ _ d _))),
    funext fun y => congrArg (V m c main_v12) (funext fun d => Fin.ext ((Window.rect_emb_val (cfg0.win 10) t y d).trans (at_zero _ _ d _))),
    funext fun y => congrArg (V m c main_v14) (funext fun d => Fin.ext ((Window.rect_emb_val (cfg0.win 11) t y d).trans (at_zero _ _ d _)))⟩

/-! ## What a grid point writes -/

/-- The modulated rows of a point's block. -/
abbrev rowsOf : FVec Ideal S256x1024 .bf16 := k0_pay3 (F := Ideal) (grid0.coords t) (iblk m c 0 t) (iblk m c 1 t) (iblk m c 2 t) (iblk m c 4 t) (iblk m c 3 t)

theorem rowsOf_apply (r : Fin 256) (k : Fin 1024) :
    rowsOf m c t (ix2 r k) = uAt (ctxArg m c) (xArg m c) (gArg m c) (shiftArg m c) (scaleArg m c) (bAt t) (tAt t r) k := by
  refine (rows_apply _ _ _ _ _ _ r k).trans ?_
  unfold uAt
  have hrow : (fun a => if (grid0.coords t 1).val = 0 then (iblk m c 0 t : FVec Ideal S1x256x1024 .f32) (ix3 (0 : Fin 1) r a) else (iblk m c 1 t : FVec Ideal S1x256x1024 .f32) (ix3 (0 : Fin 1) r a))
      = rowAt (ctxArg m c) (xArg m c) (bAt t) (tAt t r) := funext fun a => by
    unfold rowAt
    have hr := r.isLt
    rw [(index_facts t).2.2.2.2]
    by_cases h : t.val % 33 = 0
    · have hT : (tAt t r).val < 256 := by show t.val % 33 * 256 + r.val < 256; omega
      rw [if_pos h, dif_pos hT, ctx_block]
      refine congrArg (fun q => ctxArg m c (ix3 (bAt t) q a)) (Fin.ext ?_)
      show r.val = t.val % 33 * 256 + r.val
      omega
    · have hT : ¬ (tAt t r).val < 256 := by show ¬ t.val % 33 * 256 + r.val < 256; omega
      rw [if_neg h, dif_neg hT, x_block m c t h]
  have hg : (fun a => (iblk m c 2 t : FVec Ideal S1x1024 .f32) (ix2 (0 : Fin 1) a)) = fun a => gArg m c (ix1 a) := funext fun a => by
    rw [(whole_blocks m c t).1, gain_array]
  have hsc : (fun a => (iblk m c 4 t : FVec Ideal S1x1x1x1024 .f32) (ix4 (0 : Fin 1) (0 : Fin 1) (0 : Fin 1) a)) = fun a => scaleArg m c (ix4 (bAt t) (segAt (tAt t r)) (0 : Fin 1) a) :=
    funext fun a => scale_block m c t r a
  have hsh : (fun a => (iblk m c 3 t : FVec Ideal S1x1x1x1024 .f32) (ix4 (0 : Fin 1) (0 : Fin 1) (0 : Fin 1) a)) = fun a => shiftArg m c (ix4 (bAt t) (segAt (tAt t r)) (0 : Fin 1) a) :=
    funext fun a => shift_block m c t r a
  rw [← hrow, ← hg, ← hsc, ← hsh]

theorem zeros_two : (![0, 0] : Fin 2 → ℕ) = fun _ => 0 := by decide
theorem zeros_three : (![0, 0, 0] : Fin 3 → ℕ) = fun _ => 0 := by decide
theorem zeros_four : (![0, 0, 0, 0] : Fin 4 → ℕ) = fun _ => 0 := by decide

/-- A load of a whole block reads it as it stands. -/
theorem ld0 (x : Vec Ideal S1x256x1024 .f32) : View.ld x r0_0 = x := View.ld_unit_zero zeros_three _ x
theorem ld1 (x : Vec Ideal S1x1024 .f32) : View.ld x r0_1 = x := View.ld_unit_zero zeros_two _ x
theorem ld2 (x : Vec Ideal S1x1x1x1024 .f32) : View.ld x r0_2 = x := View.ld_unit_zero zeros_four _ x
theorem ld3 (x : Vec Ideal S1024x512 .bf16) : View.ld x r0_3 = x := View.ld_unit_zero zeros_two _ x
theorem ld4 (x : Vec Ideal S1024x1536 .bf16) : View.ld x r0_4 = x := View.ld_unit_zero zeros_two _ x
theorem ld5 (x : Vec Ideal S1024x128 .bf16) : View.ld x r0_5 = x := View.ld_unit_zero zeros_two _ x

/-- The first result's block at a point. -/
theorem proj_written (r : Fin 256) (j : Fin 3200) :
    out0_12 (F := Ideal) (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r j)
      = projOut (ctxArg m c) (xArg m c) (gArg m c) (shiftArg m c) (scaleArg m c) (wArg m c) (ix3 (bAt t) (tAt t r) j) := by
  obtain ⟨_, p5, p6, p7, p8, _, _, _⟩ := prepared m c
  obtain ⟨_, e5, e6, e7, e8, e9, _, _⟩ := whole_blocks m c t
  unfold out0_12 k0_pay5 k0_pay4
  rw [View.canon_cons_unit_zero zeros_three]
  simp only [ld0, ld1, ld2, ld3, ld4, ld5]
  refine (proj_block (rowsOf m c t) (wArg m c) _ _ _ _ _
    (fun p q => by rw [e5]; exact (piece_apply 0 _ _ _ p5 p q (by omega)).trans (congrArg (fun a => wArg m c (ix2 p a)) (Fin.ext (Nat.zero_add _))))
    (fun p q => by rw [e6]; exact piece_apply 1024 _ _ _ p6 p q (by omega)) (fun p q => by rw [e7]; exact piece_apply 1568 _ _ _ p7 p q (by omega))
    (fun p q => by rw [e8]; exact piece_apply 3616 _ _ _ p8 p q (by omega)) (fun p q => by rw [e9]; exact narrow_array m c p q) r j).trans ?_
  simp only [rowsOf_apply]
  rfl

/-- The second result's block at a point. -/
theorem vals_written (r : Fin 256) (j : Fin 1024) :
    out0_13 (F := Ideal) (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r j)
      = valsOut (ctxArg m c) (xArg m c) (gArg m c) (shiftArg m c) (scaleArg m c) (wArg m c) (ix3 (bAt t) (tAt t r) j) := by
  obtain ⟨_, _, _, _, _, p10, p11, _⟩ := prepared m c
  obtain ⟨_, _, _, _, _, _, e10, e11⟩ := whole_blocks m c t
  unfold out0_13 k0_pay5
  rw [View.canon_cons_unit_zero zeros_three]
  simp only [ld0, ld1, ld2, ld3, ld4, ld5]
  refine (vals_block (rowsOf m c t) (wArg m c) _ _ (fun p q => by rw [e10]; exact piece_apply 512 _ _ _ p10 p q (by omega))
    (fun p q => by rw [e11]; exact piece_apply 3104 _ _ _ p11 p q (by omega)) r j).trans ?_
  simp only [rowsOf_apply]
  rfl

/-! ## The arrays after the run -/

/-- Where an element of a point's block of rows lies in the whole array, `n` columns wide. -/
theorem out_coord (n : ℕ) (r : Fin 256) (j : Fin n) (d : Fin 3) :
    (ix3 (bAt t) (tAt t r) j d).val = (![t.val / 33, t.val % 33, 0] : Fin 3 → ℕ) d * (![1, 256, n] : Fin 3 → ℕ) d + (ix3 (0 : Fin 1) r j d).val := by
  match d with
  | ⟨0, _⟩ => exact (Nat.mul_one _).symm
  | ⟨1, _⟩ => rfl
  | ⟨2, _⟩ => show j.val = 0 * n + j.val; omega

/-- Every joint row lies in some point's block. -/
theorem out_cover (n : ℕ) (b : Fin 2) (T : Fin 8448) (j : Fin n) (d : Fin 3) :
    (![(b.val * 33 + T.val / 256) / 33, (b.val * 33 + T.val / 256) % 33, 0] : Fin 3 → ℕ) d * (![1, 256, n] : Fin 3 → ℕ) d ≤ (ix3 b T j d).val
      ∧ (ix3 b T j d).val < (![(b.val * 33 + T.val / 256) / 33, (b.val * 33 + T.val / 256) % 33, 0] : Fin 3 → ℕ) d * (![1, 256, n] : Fin 3 → ℕ) d + (![1, 256, n] : Fin 3 → ℕ) d := by
  have hb := b.isLt
  have hT := T.isLt
  have hj := j.isLt
  match d with
  | ⟨0, _⟩ =>
    show (b.val * 33 + T.val / 256) / 33 * 1 ≤ b.val ∧ b.val < (b.val * 33 + T.val / 256) / 33 * 1 + 1
    omega
  | ⟨1, _⟩ =>
    show (b.val * 33 + T.val / 256) % 33 * 256 ≤ T.val ∧ T.val < (b.val * 33 + T.val / 256) % 33 * 256 + 256
    omega
  | ⟨2, _⟩ =>
    show 0 * n ≤ j.val ∧ j.val < 0 * n + n
    omega

theorem flushes : (∀ t : Fin grid0.N, (cfg0.win 12).flush t = true) ∧ ∀ t : Fin grid0.N, (cfg0.win 13).flush t = true := by decide +kernel

theorem point_of (b : Fin 2) (T : Fin 8448) : b.val * 33 + T.val / 256 < cfg0.N :=
  lt_of_lt_of_eq (by omega : b.val * 33 + T.val / 256 < 66) N_0.symm

theorem final_proj : (dats m 0 c).arrAt 12 cfg0.N = projOut (ctxArg m c) (xArg m c) (gArg m c) (shiftArg m c) (scaleArg m c) (wArg m c) := by
  refine (dats m 0 c).arrAt_eq_of_emb 12 _ (fun t _ y => ?_) (fun i => ?_)
  · obtain ⟨z, r, j, rfl⟩ : ∃ (z : Fin 1) (r : Fin 256) (j : Fin 3200), y = ix3 z r j := ⟨_, _, _, eq_ix3 y⟩
    obtain rfl : z = 0 := Subsingleton.elim _ _
    refine (congrFun (Cert.Kernel2Ideal.Value.flushed12 m c t) (ix3 (0 : Fin 1) r j)).trans ?_
    refine (proj_written m c t r j).trans (congrArg (projOut _ _ _ _ _ _) (funext fun d => Fin.ext ?_))
    refine Eq.trans ?_ (Window.rect_emb_val (cfg0.win 12) t (ix3 (0 : Fin 1) r j) d).symm
    rw [show (cfg0.win 12).index t = _ from (index_facts t).2.2.2.1]
    exact out_coord t 3200 r j d
  · obtain ⟨b, T, j, rfl⟩ : ∃ (b : Fin 2) (T : Fin 8448) (j : Fin 3200), i = ix3 b T j := ⟨_, _, _, eq_ix3 i⟩
    refine ⟨⟨_, point_of b T⟩, flushes.1 _, ((cfg0.win 12).emb_mem_blk_iff ⟨_, point_of b T⟩ (ix3 b T j)).2 fun d => ?_⟩
    rw [show (cfg0.win 12).index ⟨_, point_of b T⟩ = _ from (index_facts ⟨_, point_of b T⟩).2.2.2.1]
    exact out_cover 3200 b T j d

theorem final_vals : (dats m 0 c).arrAt 13 cfg0.N = valsOut (ctxArg m c) (xArg m c) (gArg m c) (shiftArg m c) (scaleArg m c) (wArg m c) := by
  refine (dats m 0 c).arrAt_eq_of_emb 13 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (congrFun (Cert.Kernel2Ideal.Value.flushed13 m c t) (ix3 (0 : Fin 1) r j)).trans ?_
    refine (vals_written m c t r j).trans (congrArg (valsOut _ _ _ _ _ _) (funext fun d => Fin.ext ?_))
    refine Eq.trans ?_ (Window.rect_emb_val (cfg0.win 13) t (ix3 (0 : Fin 1) r j) d).symm
    rw [show (cfg0.win 13).index t = _ from (index_facts t).2.2.2.1]
    exact out_coord t 1024 r j d
  · obtain ⟨b, T, j, rfl⟩ : ∃ (b : Fin 2) (T : Fin 8448) (j : Fin 1024), i = ix3 b T j := ⟨_, _, _, eq_ix3 i⟩
    refine ⟨⟨_, point_of b T⟩, flushes.2 _, ((cfg0.win 13).emb_mem_blk_iff ⟨_, point_of b T⟩ (ix3 b T j)).2 fun d => ?_⟩
    rw [show (cfg0.win 13).index ⟨_, point_of b T⟩ = _ from (index_facts ⟨_, point_of b T⟩).2.2.2.1]
    exact out_cover 1024 b T j d

/-! ## The claims -/

/-- The reference runs and ends clean: it has no counters. -/
theorem reference2Ideal_frame : quiescent_Reference2Ideal := by
  intro m g _
  exact (θ_run Cert.Reference2Ideal.defs _ _).mono (fun r k => ⟨fun c => (k c).2.2, sem_eq_zero_of_no_sems (by decide) r.2⟩)
    (Cert.Reference2Ideal.Value.run (F := Ideal) m g)

/-- Both programs end with the same two arrays. -/
theorem algebraic : algebraic_Kernel2Ideal_Reference2Ideal := by
  intro m g m' g' _ hm
  refine ⟨fun c => projOut (ctxArg m c) (xArg m c) (gArg m c) (shiftArg m c) (scaleArg m c) (wArg m c),
    fun c => valsOut (ctxArg m c) (xArg m c) (gArg m c) (shiftArg m c) (scaleArg m c) (wArg m c), ?_, ?_⟩
  · exact (θ_run defs _ _).mono (fun _ k c => ⟨(k c).1.trans (final_proj m c), (k c).2.1.trans (final_vals m c), (k c).2.2⟩)
      (Cert.Kernel2Ideal.Value.run_blocks (F := Ideal) m g)
  · refine (θ_run Cert.Reference2Ideal.defs _ _).mono (fun _ k c => ⟨(k c).1.trans ?_, (k c).2.1.trans ?_, (k c).2.2⟩) (Cert.Reference2Ideal.Value.run (F := Ideal) m' g')
    · obtain ⟨e0, e1, e2, e3, e4, e5⟩ := hm c
      unfold Cert.Reference2Ideal.Value.res_main_v60
      rw [e0, e1, e2, e3, e4, e5]
      exact ref_proj (ctxArg m c) (xArg m c) (gArg m c) (shiftArg m c) (scaleArg m c) (wArg m c)
    · obtain ⟨e0, e1, e2, e3, e4, e5⟩ := hm c
      unfold Cert.Reference2Ideal.Value.res_main_v62
      rw [e0, e1, e2, e3, e4, e5]
      exact ref_vals (ctxArg m c) (xArg m c) (gArg m c) (shiftArg m c) (scaleArg m c) (wArg m c)

end Cert.Proj

end
-- ==== Proof.ConvRef.lean ====
/- The second projection's reference: a modulated projection, its centred convolution by three taps, and its results element by
   element. -/
module

public import proofs.«01_k».proof.Proof.ProjValue
public import proofs.«01_k».proof.Proof.ExpertsMath
public import proofs.«01_k».proof.Proof.Gen.Reference3Ideal.Run

@[expose] public section

noncomputable section

namespace Cert.Conv

open Idealize.ShloMosaic Idealize.ShloMosaic.ValueIdx Idealize.ShloMosaic.StackMember
open Cert.Proj (modRow host_modulate rows_product cat_three cols_three cols_two seg_apply segAt)
open Cert.Experts (act)

/-! ## What the call computes -/

/-- The value a row before, none before the first row of a segment. -/
def prevIn (P : Fin 8448 → EReal) (T : Fin 8448) : EReal := if T.val = 0 ∨ T.val = 256 then 0 else P ⟨T.val - 1, by omega⟩

/-- The value a row after, none after the last row of a segment. -/
def nextIn (P : Fin 8448 → EReal) (T : Fin 8448) : EReal :=
  if h : T.val = 255 ∨ T.val = 8447 then 0 else P ⟨T.val + 1, by have := T.isLt; omega⟩

/-- Three neighbours weighed, and a bias. -/
def taps (p q n w0 w1 w2 bias : Ideal .f32) : Ideal .f32 :=
  FloatOps.addf (FloatOps.addf (FloatOps.addf (FloatOps.mulf p w0) (FloatOps.mulf q w1)) (FloatOps.mulf n w2)) bias

/-- The weights' column behind a column of the kernel's product. -/
def srcCol (j : ℕ) : ℕ := if j < 1536 then j else if j < 2560 then j + 512 else if j < 3072 then j - 1024 else if j < 3200 then j else j - 120

/-- The columns that have one; the others are zero. -/
def used (j : ℕ) : Prop := j < 3080 ∨ (3200 ≤ j ∧ j < 3208)

instance (j : ℕ) : Decidable (used j) := inferInstanceAs (Decidable (_ ∨ _))

theorem srcCol_lt {j : ℕ} (h : used j) : srcCol j < 3088 := by
  rcases h with h | h <;> unfold srcCol <;> split_ifs <;> omega

section Spec
variable (h : FVec Ideal ⟨3, ![2, 8448, 1024]⟩ .f32) (g : FVec Ideal ⟨1, ![1024]⟩ .f32) (shift scale : FVec Ideal ⟨4, ![2, 2, 1, 1024]⟩ .f32)
  (w : FVec Ideal ⟨2, ![1024, 3088]⟩ .f32) (hw : FVec Ideal ⟨2, ![1536, 3]⟩ .f32) (hb : FVec Ideal ⟨1, ![1536]⟩ .f32)
  (mw : FVec Ideal ⟨2, ![1024, 3]⟩ .f32) (mb : FVec Ideal ⟨1, ![1024]⟩ .f32)

/-- A joint row, normalised and modulated with its segment's vectors. -/
def uAt (b : Fin 2) (T : Fin 8448) : Fin 1024 → EReal :=
  modRow (fun c => h (ix3 b T c)) (fun c => g (ix1 c)) (fun c => scale (ix4 b (segAt T) (0 : Fin 1) c)) (fun c => shift (ix4 b (segAt T) (0 : Fin 1) c))

/-- Column `j` of the weights against a joint row. -/
def hit (b : Fin 2) (j : Fin 3088) (T : Fin 8448) : EReal := ∑ c : Fin 1024, uAt h g shift scale b T c * w (ix2 c j)

/-- Column `j` of the weights, convolved along its segment. -/
def conv (b : Fin 2) (j : Fin 3088) (T : Fin 8448) (w0 w1 w2 bias : EReal) : EReal :=
  taps (prevIn (hit h g shift scale w b j) T) (hit h g shift scale w b j T) (nextIn (hit h g shift scale w b j) T) w0 w1 w2 bias

/-- The first result: the long segment's first columns, convolved. -/
def hyOut : FVec Ideal ⟨3, ![2, 8192, 1536]⟩ .f32 := fun i =>
  conv h g shift scale w (i 0) ⟨(i 2).val, by have : (i 2).val < 1536 := (i 2).isLt; omega⟩ ⟨256 + (i 1).val, by have : (i 1).val < 8192 := (i 1).isLt; omega⟩
    (hw (ix2 (i 2) (0 : Fin 3))) (hw (ix2 (i 2) (1 : Fin 3))) (hw (ix2 (i 2) (2 : Fin 3))) (hb (ix1 (i 2)))

/-- The second result: further columns, convolved and activated. -/
def xbcOut : FVec Ideal ⟨3, ![2, 8448, 1024]⟩ .f32 := fun i =>
  act (conv h g shift scale w (i 0) ⟨2048 + (i 2).val, by have : (i 2).val < 1024 := (i 2).isLt; omega⟩ (i 1)
    (mw (ix2 (i 2) (0 : Fin 3))) (mw (ix2 (i 2) (1 : Fin 3))) (mw (ix2 (i 2) (2 : Fin 3))) (mb (ix1 (i 2))))

/-- The third result: the remaining columns as they are, among columns of zeros. -/
def zdtOut : FVec Ideal ⟨3, ![2, 8448, 768]⟩ .f32 := fun i =>
  if u : used (2560 + (i 2).val) then hit h g shift scale w (i 0) ⟨srcCol (2560 + (i 2).val), srcCol_lt u⟩ (i 1) else 0

end Spec

/-! ## A convolution on the host -/

/-- Rows `o` on, of the samples' matrices. -/
theorem rows_three {α : Type} {a m n p : ℕ} (o : ℕ) (x : (⟨3, ![a, m, n]⟩ : Shape).Idx → α) (h : (⟨3, ![a, m, n]⟩ : Shape).Slices ![0, o, 0] ⟨3, ![a, p, n]⟩)
    (b : Fin a) (r : Fin p) (q : Fin n) (j : Fin m) (hj : j.val = o + r.val) : extractStridedSlice ⟨3, ![a, p, n]⟩ ![0, o, 0] x h (ix3 b r q) = x (ix3 b j q) :=
  extractStridedSlice_apply _ x h (ix3 b r q) (ix3 b j q) fun d => match d with
    | ⟨0, _⟩ => (Nat.zero_add _).symm
    | ⟨1, _⟩ => hj
    | ⟨2, _⟩ => (Nat.zero_add _).symm

section Host
variable {n n2 p : ℕ} (V : FVec Ideal ⟨3, ![2, n, p]⟩ .f32) (b : Fin 2) (r : Fin n) (q : Fin p)

/-- The rows between a row of zeros before and one after, read `o` rows on. -/
theorem shifted (o : ℕ) (hn : n2 = n + 2) (ho : o ≤ 2) (hp : (⟨3, ![2, n, p]⟩ : Shape).Pads ![0, 1, 0] ![0, 1, 0] ![0, 0, 0] ⟨3, ![2, n2, p]⟩)
    (h0 : 0 < (⟨0, ![]⟩ : Shape).numel) (hs : (⟨3, ![2, n2, p]⟩ : Shape).Slices ![0, o, 0] ⟨3, ![2, n, p]⟩) :
    extractStridedSlice ⟨3, ![2, n, p]⟩ ![0, o, 0] (pad ⟨3, ![2, n2, p]⟩ ![0, 1, 0] ![0, 1, 0] ![0, 0, 0] V (sitofp .f32 (constantI ⟨0, ![]⟩ 32 0#32)) hp h0) hs (ix3 b r q)
      = if k : 1 ≤ r.val + o ∧ r.val + o ≤ n then V (ix3 b (⟨r.val + o - 1, by omega⟩ : Fin n) q) else 0 := by
  refine (rows_three o _ hs b r q ⟨o + r.val, by have := r.isLt; omega⟩ rfl).trans ?_
  by_cases k : 1 ≤ r.val + o ∧ r.val + o ≤ n
  · rw [dif_pos k]
    refine pad_apply_of_inside _ _ _ _ _ _ _ _ (ix3 b (⟨r.val + o - 1, by omega⟩ : Fin n) q) fun d => ?_
    match d with
    | ⟨0, _⟩ => show b.val = 0 + b.val * 1; omega
    | ⟨1, _⟩ => show o + r.val = 1 + (r.val + o - 1) * 1; omega
    | ⟨2, _⟩ => show q.val = 0 + q.val * 1; omega
  · rw [dif_neg k]
    refine (pad_apply_of_not_inside _ _ _ _ _ _ _ _ 1 ?_).trans ?_
    · show ¬ (1 ≤ o + r.val ∧ (o + r.val - 1) % 1 = 0 ∧ (o + r.val - 1) / 1 < n)
      omega
    · show (((0#32 : BitVec 32).toInt : ℝ) : EReal) = 0
      simp

/-- A vector along the columns, the same for every row. -/
theorem along (v : FVec Ideal ⟨1, ![p]⟩ .f32) (h1 : (⟨1, ![p]⟩ : Shape).BroadcastsInDim ⟨3, ![1, 1, p]⟩ ![2])
    (h2 : (⟨3, ![1, 1, p]⟩ : Shape).BroadcastsInDim ⟨3, ![2, n, p]⟩ ![0, 1, 2]) :
    broadcastInDim ⟨3, ![2, n, p]⟩ ![0, 1, 2] h2 (broadcastInDim ⟨3, ![1, 1, p]⟩ ![2] h1 v) (ix3 b r q) = v (ix1 q) := by
  have hq := q.isLt
  refine (broadcastInDim_apply ![0, 1, 2] h2 _ (ix3 b r q) (ix3 (0 : Fin 1) (0 : Fin 1) q) fun d => ?_).trans
    (broadcastInDim_apply ![2] h1 v _ (ix1 q) fun d => ?_)
  · match d with
    | ⟨0, _⟩ => rfl
    | ⟨1, _⟩ => rfl
    | ⟨2, _⟩ =>
      show q.val = if p = 1 then 0 else q.val
      split <;> omega
  · match d with
    | ⟨0, _⟩ =>
      show q.val = if p = 1 then 0 else q.val
      split <;> omega

/-- One tap's weights. -/
theorem tap (o : ℕ) (w : FVec Ideal ⟨2, ![p, 3]⟩ .f32) (hs : (⟨2, ![p, 3]⟩ : Shape).Slices ![0, o] ⟨2, ![p, 1]⟩) (hc : (⟨2, ![p, 1]⟩ : Shape).ShapeCasts ⟨1, ![p]⟩)
    (k : Fin 3) (hk : k.val = o) : shapeCast ⟨1, ![p]⟩ (extractStridedSlice ⟨2, ![p, 1]⟩ ![0, o] w hs) hc (ix1 q) = w (ix2 q k) := by
  refine (shapeCast_apply _ _ _ (ix2 q (0 : Fin 1)) ?_).trans (cols_two o w hs q 0 k hk)
  rw [Shape.rowMajor_val_one, Shape.rowMajor_val_two]
  show q.val * 1 + 0 = q.val
  omega

/-- The host's convolution of a segment, as a term. -/
abbrev hostConv (w : FVec Ideal ⟨2, ![p, 3]⟩ .f32) (bias : FVec Ideal ⟨1, ![p]⟩ .f32)
    (hp : (⟨3, ![2, n, p]⟩ : Shape).Pads ![0, 1, 0] ![0, 1, 0] ![0, 0, 0] ⟨3, ![2, n2, p]⟩) (h0 : 0 < (⟨0, ![]⟩ : Shape).numel)
    (s0 : (⟨3, ![2, n2, p]⟩ : Shape).Slices ![0, 0, 0] ⟨3, ![2, n, p]⟩) (s1 : (⟨3, ![2, n2, p]⟩ : Shape).Slices ![0, 1, 0] ⟨3, ![2, n, p]⟩)
    (s2 : (⟨3, ![2, n2, p]⟩ : Shape).Slices ![0, 2, 0] ⟨3, ![2, n, p]⟩)
    (h1 : (⟨1, ![p]⟩ : Shape).BroadcastsInDim ⟨3, ![1, 1, p]⟩ ![2]) (h2 : (⟨3, ![1, 1, p]⟩ : Shape).BroadcastsInDim ⟨3, ![2, n, p]⟩ ![0, 1, 2])
    (t0 : (⟨2, ![p, 3]⟩ : Shape).Slices ![0, 0] ⟨2, ![p, 1]⟩) (t1 : (⟨2, ![p, 3]⟩ : Shape).Slices ![0, 1] ⟨2, ![p, 1]⟩)
    (t2 : (⟨2, ![p, 3]⟩ : Shape).Slices ![0, 2] ⟨2, ![p, 1]⟩) (hc : (⟨2, ![p, 1]⟩ : Shape).ShapeCasts ⟨1, ![p]⟩) : FVec Ideal ⟨3, ![2, n, p]⟩ .f32 :=
  addf (addf (addf
    (mulf (extractStridedSlice ⟨3, ![2, n, p]⟩ ![0, 0, 0] (pad ⟨3, ![2, n2, p]⟩ ![0, 1, 0] ![0, 1, 0] ![0, 0, 0] V (sitofp .f32 (constantI ⟨0, ![]⟩ 32 0#32)) hp h0) s0)
      (broadcastInDim ⟨3, ![2, n, p]⟩ ![0, 1, 2] h2 (broadcastInDim ⟨3, ![1, 1, p]⟩ ![2] h1 (shapeCast ⟨1, ![p]⟩ (extractStridedSlice ⟨2, ![p, 1]⟩ ![0, 0] w t0) hc))))
    (mulf (extractStridedSlice ⟨3, ![2, n, p]⟩ ![0, 1, 0] (pad ⟨3, ![2, n2, p]⟩ ![0, 1, 0] ![0, 1, 0] ![0, 0, 0] V (sitofp .f32 (constantI ⟨0, ![]⟩ 32 0#32)) hp h0) s1)
      (broadcastInDim ⟨3, ![2, n, p]⟩ ![0, 1, 2] h2 (broadcastInDim ⟨3, ![1, 1, p]⟩ ![2] h1 (shapeCast ⟨1, ![p]⟩ (extractStridedSlice ⟨2, ![p, 1]⟩ ![0, 1] w t1) hc)))))
    (mulf (extractStridedSlice ⟨3, ![2, n, p]⟩ ![0, 2, 0] (pad ⟨3, ![2, n2, p]⟩ ![0, 1, 0] ![0, 1, 0] ![0, 0, 0] V (sitofp .f32 (constantI ⟨0, ![]⟩ 32 0#32)) hp h0) s2)
      (broadcastInDim ⟨3, ![2, n, p]⟩ ![0, 1, 2] h2 (broadcastInDim ⟨3, ![1, 1, p]⟩ ![2] h1 (shapeCast ⟨1, ![p]⟩ (extractStridedSlice ⟨2, ![p, 1]⟩ ![0, 2] w t2) hc)))))
    (broadcastInDim ⟨3, ![2, n, p]⟩ ![0, 1, 2] h2 (broadcastInDim ⟨3, ![1, 1, p]⟩ ![2] h1 bias))

/-- It weighs each row and its two neighbours in the segment. -/
theorem hostConv_apply (hn : n2 = n + 2) (w : FVec Ideal ⟨2, ![p, 3]⟩ .f32) (bias : FVec Ideal ⟨1, ![p]⟩ .f32) (hp h0 s0 s1 s2 h1 h2 t0 t1 t2 hc) :
    hostConv (n2 := n2) V w bias hp h0 s0 s1 s2 h1 h2 t0 t1 t2 hc (ix3 b r q)
      = taps (if k : 1 ≤ r.val + 0 ∧ r.val + 0 ≤ n then V (ix3 b (⟨r.val + 0 - 1, by omega⟩ : Fin n) q) else 0) (V (ix3 b r q))
          (if k : 1 ≤ r.val + 2 ∧ r.val + 2 ≤ n then V (ix3 b (⟨r.val + 2 - 1, by omega⟩ : Fin n) q) else 0)
          (w (ix2 q (0 : Fin 3))) (w (ix2 q (1 : Fin 3))) (w (ix2 q (2 : Fin 3))) (bias (ix1 q)) := by
  have cell : ∀ A B C D E G H : FVec Ideal ⟨3, ![2, n, p]⟩ .f32, addf (addf (addf (mulf A B) (mulf C D)) (mulf E G)) H (ix3 b r q)
      = taps (A (ix3 b r q)) (C (ix3 b r q)) (E (ix3 b r q)) (B (ix3 b r q)) (D (ix3 b r q)) (G (ix3 b r q)) (H (ix3 b r q)) := fun _ _ _ _ _ _ _ => rfl
  refine (cell _ _ _ _ _ _ _).trans ?_
  rw [shifted V b r q 0 hn (by omega) hp h0 s0, shifted V b r q 1 hn (by omega) hp h0 s1, shifted V b r q 2 hn (by omega) hp h0 s2,
    along, along, along, along, tap q 0 w t0 hc 0 rfl, tap q 1 w t1 hc 1 rfl, tap q 2 w t2 hc 2 rfl,
    dif_pos (show 1 ≤ r.val + 1 ∧ r.val + 1 ≤ n from by have := r.isLt; omega)]
  rfl

end Host

section Ref
open Cert.Reference3Ideal Cert.Reference3Ideal.Gen
variable (h : FVec Ideal S2x8448x1024 .f32) (g : FVec Ideal S1024 .f32) (shift scale : FVec Ideal S2x2x1x1024 .f32) (w : FVec Ideal S1024x3088 .f32)
  (hw : FVec Ideal S1536x3 .f32) (hb : FVec Ideal S1536 .f32) (mw : FVec Ideal S1024x3 .f32) (mb : FVec Ideal S1024 .f32)

/-! ## The reference -/

/-- The two segments' rows. -/
abbrev headRows : FVec Ideal S2x256x1024 .f32 := extractStridedSlice S2x256x1024 ![0, 0, 0] h slices_S2x8448x1024_S2x256x1024_0_0_0
abbrev tailRows : FVec Ideal S2x8192x1024 .f32 := extractStridedSlice S2x8192x1024 ![0, 256, 0] h slices_S2x8448x1024_S2x8192x1024_0_256_0

/-- The joint rows modulated, as the reference spells them. -/
def refRows : FVec Ideal S2x8448x1024 .f32 :=
  concatenate S2x8448x1024 1 [
    ⟨S2x256x1024, (addf (mulf (mulf (mulf (headRows h)
      (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (headRows h) (headRows h)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
      (broadcastInDim S2x256x1024 ![0, 1, 2] bcast_S1x1x1024_S2x256x1024_0_1_2 (broadcastInDim S1x1x1024 ![2] bcast_S1024_S1x1x1024_2 g)))
      (broadcastInDim S2x256x1024 ![0, 1, 2] bcast_S2x1x1024_S2x256x1024_0_1_2 (addf (broadcastInDim S2x1x1024 ![] bcast_S_S2x1x1024 (constant S_ .f32 0x3F800000#32)) (shapeCast _ (extractStridedSlice S2x1x1x1024 ![0, 0, 0, 0] scale slices_S2x2x1x1024_S2x1x1x1024_0_0_0_0) shapeCasts_S2x1x1x1024_S2x1x1024))))
      (broadcastInDim S2x256x1024 ![0, 1, 2] bcast_S2x1x1024_S2x256x1024_0_1_2 (shapeCast _ (extractStridedSlice S2x1x1x1024 ![0, 0, 0, 0] shift slices_S2x2x1x1024_S2x1x1x1024_0_0_0_0) shapeCasts_S2x1x1x1024_S2x1x1024)))⟩,
    ⟨S2x8192x1024, (addf (mulf (mulf (mulf (tailRows h)
      (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (tailRows h) (tailRows h)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
      (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1024 ![0, 1, 0, 0] scale slices_S2x2x1x1024_S2x1x1x1024_0_1_0_0) shapeCasts_S2x1x1x1024_S2x1x1024))))
      (broadcastInDim S2x8192x1024 ![0, 1, 2] bcast_S2x1x1024_S2x8192x1024_0_1_2 (shapeCast _ (extractStridedSlice S2x1x1x1024 ![0, 1, 0, 0] shift slices_S2x2x1x1024_S2x1x1x1024_0_1_0_0) shapeCasts_S2x1x1x1024_S2x1x1024)))⟩] concatenates_S2x256x1024_S2x8192x1024_S2x8448x1024_d1

/-- Two segments' rows joined: a row of the first, or of the second. -/
theorem joined {p : ℕ} (A : FVec Ideal ⟨3, ![2, 256, p]⟩ .f32) (B : FVec Ideal ⟨3, ![2, 8192, p]⟩ .f32)
    (hc : Shape.Concatenates [⟨3, ![2, 256, p]⟩, ⟨3, ![2, 8192, p]⟩] ⟨3, ![2, 8448, p]⟩ 1) (b : Fin 2) (T : Fin 8448) (c : Fin p) :
    concatenate ⟨3, ![2, 8448, p]⟩ 1 [⟨⟨3, ![2, 256, p]⟩, A⟩, ⟨⟨3, ![2, 8192, p]⟩, B⟩] hc (ix3 b T c)
      = if k : T.val < 256 then A (ix3 b (⟨T.val, k⟩ : Fin 256) c) else B (ix3 b (⟨T.val - 256, by omega⟩ : Fin 8192) c) := by
  by_cases k : T.val < 256
  · rw [dif_pos k]
    exact concatenate_pair_apply_left (t := ⟨3, ![2, 8448, p]⟩) (s₁ := ⟨3, ![2, 256, p]⟩) (s₂ := ⟨3, ![2, 8192, p]⟩) 1 _ _ _ (ix3 b T c) rfl (ix3 b (⟨T.val, k⟩ : Fin 256) c) (fun d => match d with
      | ⟨0, _⟩ => rfl
      | ⟨1, _⟩ => rfl
      | ⟨2, _⟩ => rfl)
  · rw [dif_neg k]
    exact concatenate_pair_apply_right (t := ⟨3, ![2, 8448, p]⟩) (s₁ := ⟨3, ![2, 256, p]⟩) (s₂ := ⟨3, ![2, 8192, p]⟩) 1 _ _ _ (ix3 b T c) rfl rfl (ix3 b (⟨T.val - 256, by omega⟩ : Fin 8192) c) (fun d hd => match d, hd with
      | ⟨0, _⟩, _ => rfl
      | ⟨1, _⟩, hd => absurd rfl hd
      | ⟨2, _⟩, _ => rfl) (by show T.val - 256 + 256 = T.val; omega)

theorem refRows_apply (b : Fin 2) (T : Fin 8448) (c : Fin 1024) : refRows h g shift scale (ix3 b T c) = uAt h g shift scale b T c := by
  unfold refRows uAt segAt
  refine (joined _ _ _ b T c).trans ?_
  by_cases k : T.val < 256
  · rw [dif_pos k, if_pos k]
    refine (host_modulate (headRows h) g _ _ (by decide) _ _ _ _ _ _ _ _ _ b ⟨T.val, k⟩ c).trans ?_
    simp only [seg_apply 0 scale slices_S2x2x1x1024_S2x1x1x1024_0_0_0_0 shapeCasts_S2x1x1x1024_S2x1x1024 b 0 rfl,
      seg_apply 0 shift slices_S2x2x1x1024_S2x1x1x1024_0_0_0_0 shapeCasts_S2x1x1x1024_S2x1x1024 b 0 rfl,
      rows_three 0 h slices_S2x8448x1024_S2x256x1024_0_0_0 b ⟨T.val, k⟩ _ T (Nat.zero_add _).symm]
  · rw [dif_neg k, if_neg k]
    refine (host_modulate (tailRows h) g _ _ (by decide) _ _ _ _ _ _ _ _ _ b ⟨T.val - 256, by omega⟩ c).trans ?_
    simp only [seg_apply 1 scale slices_S2x2x1x1024_S2x1x1x1024_0_1_0_0 shapeCasts_S2x1x1x1024_S2x1x1024 b 1 rfl,
      seg_apply 1 shift slices_S2x2x1x1024_S2x1x1x1024_0_1_0_0 shapeCasts_S2x1x1x1024_S2x1x1024 b 1 rfl,
      rows_three 256 h slices_S2x8448x1024_S2x8192x1024_0_256_0 b ⟨T.val - 256, by omega⟩ _ T (by show T.val = 256 + (T.val - 256); omega)]

/-- The reference's product. -/
abbrev refProd : FVec Ideal S2x8448x3088 .f32 :=
  Host.dotGeneral dot_S2x8448x1024_S1024x3088_S2x8448x3088_2_0_01_1_n_n none (refRows h g shift scale) w

theorem refProd_apply (b : Fin 2) (T : Fin 8448) (j : Fin 3088) : refProd h g shift scale w (ix3 b T j) = hit h g shift scale w b j T :=
  (rows_product _ _ w b T j).trans (Finset.sum_congr rfl fun c _ => by rw [refRows_apply])

section Results
variable (U : FVec Ideal S2x8448x3088 .f32)

/-- The first result, from the product. -/
def refHy : FVec Ideal S2x8192x1536 .f32 :=
  hostConv (n2 := 8194) (extractStridedSlice S2x8192x1536 ![0, 256, 0] (extractStridedSlice S2x8448x1536 ![0, 0, 0] U slices_S2x8448x3088_S2x8448x1536_0_0_0) slices_S2x8448x1536_S2x8192x1536_0_256_0)
    hw hb pads_S2x8192x1536_S2x8194x1536_000_110_000 h_S_ slices_S2x8194x1536_S2x8192x1536_0_0_0 slices_S2x8194x1536_S2x8192x1536_0_1_0 slices_S2x8194x1536_S2x8192x1536_0_2_0
    bcast_S1536_S1x1x1536_2 bcast_S1x1x1536_S2x8192x1536_0_1_2 slices_S1536x3_S1536x1_0_0 slices_S1536x3_S1536x1_0_1 slices_S1536x3_S1536x1_0_2 shapeCasts_S1536x1_S1536

/-- The second result's argument to the activation, from the product. -/
def refXbc : FVec Ideal S2x8448x1024 .f32 :=
  concatenate S2x8448x1024 1 [
    ⟨S2x256x1024, hostConv (n2 := 258) (extractStridedSlice S2x256x1024 ![0, 0, 0] (extractStridedSlice S2x8448x1024 ![0, 0, 2048] U slices_S2x8448x3088_S2x8448x1024_0_0_2048) slices_S2x8448x1024_S2x256x1024_0_0_0)
      mw mb pads_S2x256x1024_S2x258x1024_000_110_000 h_S_ slices_S2x258x1024_S2x256x1024_0_0_0 slices_S2x258x1024_S2x256x1024_0_1_0 slices_S2x258x1024_S2x256x1024_0_2_0
      bcast_S1024_S1x1x1024_2 bcast_S1x1x1024_S2x256x1024_0_1_2 slices_S1024x3_S1024x1_0_0 slices_S1024x3_S1024x1_0_1 slices_S1024x3_S1024x1_0_2 shapeCasts_S1024x1_S1024⟩,
    ⟨S2x8192x1024, hostConv (n2 := 8194) (extractStridedSlice S2x8192x1024 ![0, 256, 0] (extractStridedSlice S2x8448x1024 ![0, 0, 2048] U slices_S2x8448x3088_S2x8448x1024_0_0_2048) slices_S2x8448x1024_S2x8192x1024_0_256_0)
      mw mb pads_S2x8192x1024_S2x8194x1024_000_110_000 h_S_ slices_S2x8194x1024_S2x8192x1024_0_0_0 slices_S2x8194x1024_S2x8192x1024_0_1_0 slices_S2x8194x1024_S2x8192x1024_0_2_0
      bcast_S1024_S1x1x1024_2 bcast_S1x1x1024_S2x8192x1024_0_1_2 slices_S1024x3_S1024x1_0_0 slices_S1024x3_S1024x1_0_1 slices_S1024x3_S1024x1_0_2 shapeCasts_S1024x1_S1024⟩]
    concatenates_S2x256x1024_S2x8192x1024_S2x8448x1024_d1

/-- The activation. -/
def silu (y : FVec Ideal S2x8448x1024 .f32) : FVec Ideal S2x8448x1024 .f32 :=
  mulf y (Host.divf (broadcastInDim S2x8448x1024 ![] bcast_S_S2x8448x1024 (constant S_ .f32 0x3F800000#32))
    (addf (broadcastInDim S2x8448x1024 ![] bcast_S_S2x8448x1024 (constant S_ .f32 0x3F800000#32)) (Host.exp (Host.negf y))))

/-- The third result, from the product. -/
def refZdt : FVec Ideal S2x8448x768 .f32 :=
  concatenate S2x8448x768 2 [⟨S2x8448x512, extractStridedSlice S2x8448x512 ![0, 0, 1536] U slices_S2x8448x3088_S2x8448x512_0_0_1536⟩,
    ⟨S2x8448x8, extractStridedSlice S2x8448x8 ![0, 0, 3072] U slices_S2x8448x3088_S2x8448x8_0_0_3072⟩,
    ⟨S2x8448x120, broadcastInDim S2x8448x120 ![] bcast_S_S2x8448x120 (constant S_ .f32 0x00000000#32)⟩,
    ⟨S2x8448x8, extractStridedSlice S2x8448x8 ![0, 0, 3080] U slices_S2x8448x3088_S2x8448x8_0_0_3080⟩,
    ⟨S2x8448x120, broadcastInDim S2x8448x120 ![] bcast_S_S2x8448x120 (constant S_ .f32 0x00000000#32)⟩]
    concatenates_S2x8448x512_S2x8448x8_S2x8448x120_S2x8448x8_S2x8448x120_S2x8448x768_d2

/-- The long segment's neighbours, by its own rows and by the joint ones. -/
theorem tail_prev (P : Fin 8448 → EReal) (r : Fin 8192) (T : Fin 8448) (e : T.val = 256 + r.val) :
    (if k : 1 ≤ r.val + 0 ∧ r.val + 0 ≤ 8192 then P ⟨256 + (r.val + 0 - 1), by have := r.isLt; omega⟩ else 0) = prevIn P T := by
  unfold prevIn
  by_cases k : r.val = 0
  · rw [dif_neg (by omega), if_pos (by omega)]
  · rw [dif_pos (by have := r.isLt; omega), if_neg (by omega)]
    exact congrArg P (Fin.ext (by show 256 + (r.val + 0 - 1) = T.val - 1; omega))

theorem tail_next (P : Fin 8448 → EReal) (r : Fin 8192) (T : Fin 8448) (e : T.val = 256 + r.val) :
    (if k : 1 ≤ r.val + 2 ∧ r.val + 2 ≤ 8192 then P ⟨256 + (r.val + 2 - 1), by omega⟩ else 0) = nextIn P T := by
  unfold nextIn
  by_cases k : r.val = 8191
  · rw [dif_neg (by omega), dif_pos (by omega)]
  · rw [dif_pos (by have := r.isLt; omega), dif_neg (by have := r.isLt; omega)]
    exact congrArg P (Fin.ext (by show 256 + (r.val + 2 - 1) = T.val + 1; omega))

/-- The short segment's, likewise. -/
theorem head_prev (P : Fin 8448 → EReal) (r : Fin 256) (T : Fin 8448) (e : T.val = r.val) :
    (if k : 1 ≤ r.val + 0 ∧ r.val + 0 ≤ 256 then P ⟨r.val + 0 - 1, by have := r.isLt; omega⟩ else 0) = prevIn P T := by
  have hr := r.isLt
  unfold prevIn
  by_cases k : r.val = 0
  · rw [dif_neg (by omega), if_pos (by omega)]
  · rw [dif_pos (by omega), if_neg (by omega)]
    exact congrArg P (Fin.ext (by show r.val + 0 - 1 = T.val - 1; omega))

theorem head_next (P : Fin 8448 → EReal) (r : Fin 256) (T : Fin 8448) (e : T.val = r.val) :
    (if k : 1 ≤ r.val + 2 ∧ r.val + 2 ≤ 256 then P ⟨r.val + 2 - 1, by omega⟩ else 0) = nextIn P T := by
  have hr := r.isLt
  unfold nextIn
  by_cases k : r.val = 255
  · rw [dif_neg (by omega), dif_pos (by omega)]
  · rw [dif_pos (by omega), dif_neg (by omega)]
    exact congrArg P (Fin.ext (by show r.val + 2 - 1 = T.val + 1; omega))

/-- The product's columns `o` on, of the rows `f` on. -/
theorem part_apply {m p : ℕ} (f o : ℕ) (hc : (⟨3, ![2, 8448, 3088]⟩ : Shape).Slices ![0, 0, o] ⟨3, ![2, 8448, p]⟩) (hr : (⟨3, ![2, 8448, p]⟩ : Shape).Slices ![0, f, 0] ⟨3, ![2, m, p]⟩)
    (b : Fin 2) (r : Fin m) (q : Fin p) (T : Fin 8448) (j : Fin 3088) (hT : T.val = f + r.val) (hj : j.val = o + q.val) :
    extractStridedSlice ⟨3, ![2, m, p]⟩ ![0, f, 0] (extractStridedSlice ⟨3, ![2, 8448, p]⟩ ![0, 0, o] U hc) hr (ix3 b r q) = U (ix3 b T j) :=
  (rows_three f _ hr b r q T hT).trans (cols_three o U hc b T q j hj)

end Results

theorem ref_hy : refHy hw hb (refProd h g shift scale w) = hyOut h g shift scale w hw hb := by
  funext i
  obtain ⟨b, r, q, rfl⟩ : ∃ (b : Fin 2) (r : Fin 8192) (q : Fin 1536), i = ix3 b r q := ⟨_, _, _, eq_ix3 i⟩
  refine (hostConv_apply _ b r q rfl hw hb _ _ _ _ _ _ _ _ _ _ _).trans ?_
  have read : ∀ a : Fin 8192, extractStridedSlice S2x8192x1536 ![0, 256, 0] (extractStridedSlice S2x8448x1536 ![0, 0, 0] (refProd h g shift scale w) slices_S2x8448x3088_S2x8448x1536_0_0_0)
      slices_S2x8448x1536_S2x8192x1536_0_256_0 (ix3 b a q) = hit h g shift scale w b ⟨q.val, by omega⟩ ⟨256 + a.val, by omega⟩ := fun a =>
    (part_apply _ 256 0 _ _ b a q _ _ rfl (Nat.zero_add _).symm).trans (refProd_apply h g shift scale w b _ _)
  simp only [read]
  rw [tail_prev (hit h g shift scale w b ⟨q.val, by omega⟩) r ⟨256 + r.val, by omega⟩ rfl, tail_next (hit h g shift scale w b ⟨q.val, by omega⟩) r ⟨256 + r.val, by omega⟩ rfl]
  rfl

theorem refXbc_apply (b : Fin 2) (T : Fin 8448) (q : Fin 1024) : refXbc mw mb (refProd h g shift scale w) (ix3 b T q)
    = conv h g shift scale w b ⟨2048 + q.val, by omega⟩ T (mw (ix2 q (0 : Fin 3))) (mw (ix2 q (1 : Fin 3))) (mw (ix2 q (2 : Fin 3))) (mb (ix1 q)) := by
  unfold refXbc conv
  refine (joined _ _ _ b T q).trans ?_
  by_cases k : T.val < 256
  · rw [dif_pos k]
    refine (hostConv_apply _ b ⟨T.val, k⟩ q rfl mw mb _ _ _ _ _ _ _ _ _ _ _).trans ?_
    have read : ∀ a : Fin 256, extractStridedSlice S2x256x1024 ![0, 0, 0] (extractStridedSlice S2x8448x1024 ![0, 0, 2048] (refProd h g shift scale w) slices_S2x8448x3088_S2x8448x1024_0_0_2048)
        slices_S2x8448x1024_S2x256x1024_0_0_0 (ix3 b a q) = hit h g shift scale w b ⟨2048 + q.val, by omega⟩ ⟨a.val, by omega⟩ := fun a =>
      (part_apply _ 0 2048 _ _ b a q _ _ (Nat.zero_add _).symm rfl).trans (refProd_apply h g shift scale w b _ _)
    simp only [read]
    rw [head_prev (hit h g shift scale w b ⟨2048 + q.val, by omega⟩) ⟨T.val, k⟩ T rfl, head_next (hit h g shift scale w b ⟨2048 + q.val, by omega⟩) ⟨T.val, k⟩ T rfl]
  · rw [dif_neg k]
    have e : T.val = 256 + (T.val - 256) := by omega
    refine (hostConv_apply _ b ⟨T.val - 256, by omega⟩ q rfl mw mb _ _ _ _ _ _ _ _ _ _ _).trans ?_
    have read : ∀ a : Fin 8192, extractStridedSlice S2x8192x1024 ![0, 256, 0] (extractStridedSlice S2x8448x1024 ![0, 0, 2048] (refProd h g shift scale w) slices_S2x8448x3088_S2x8448x1024_0_0_2048)
        slices_S2x8448x1024_S2x8192x1024_0_256_0 (ix3 b a q) = hit h g shift scale w b ⟨2048 + q.val, by omega⟩ ⟨256 + a.val, by omega⟩ := fun a =>
      (part_apply _ 256 2048 _ _ b a q _ _ rfl rfl).trans (refProd_apply h g shift scale w b _ _)
    simp only [read]
    rw [tail_prev (hit h g shift scale w b ⟨2048 + q.val, by omega⟩) ⟨T.val - 256, by omega⟩ T e, tail_next (hit h g shift scale w b ⟨2048 + q.val, by omega⟩) ⟨T.val - 256, by omega⟩ T e]
    have own : hit h g shift scale w b ⟨2048 + q.val, by omega⟩ ⟨256 + (T.val - 256), by omega⟩ = hit h g shift scale w b ⟨2048 + q.val, by omega⟩ T := congrArg _ (Fin.ext e.symm)
    rw [own]

theorem ref_xbc : silu (refXbc mw mb (refProd h g shift scale w)) = xbcOut h g shift scale w mw mb := by
  funext i
  obtain ⟨b, T, q, rfl⟩ : ∃ (b : Fin 2) (T : Fin 8448) (q : Fin 1024), i = ix3 b T q := ⟨_, _, _, eq_ix3 i⟩
  exact congrArg act (refXbc_apply h g shift scale w mw mb b T q)

theorem ref_zdt : refZdt (refProd h g shift scale w) = zdtOut h g shift scale w := by
  funext i
  obtain ⟨b, T, q, rfl⟩ : ∃ (b : Fin 2) (T : Fin 8448) (q : Fin 768), i = ix3 b T q := ⟨_, _, _, eq_ix3 i⟩
  have hq := q.isLt
  have src : srcCol (2560 + q.val) = if q.val < 512 then 1536 + q.val else if q.val < 640 then 2560 + q.val else 2440 + q.val := by
    unfold srcCol
    split_ifs <;> omega
  have read : ∀ (p o c : ℕ) (hs : (⟨3, ![2, 8448, 3088]⟩ : Shape).Slices ![0, 0, o] ⟨3, ![2, 8448, p]⟩) (hc : c < p) (u : used (2560 + q.val)), srcCol (2560 + q.val) = o + c →
      extractStridedSlice ⟨3, ![2, 8448, p]⟩ ![0, 0, o] (refProd h g shift scale w) hs (ix3 b T (⟨c, hc⟩ : Fin p)) = zdtOut h g shift scale w (ix3 b T q) := fun p o c hs hc u e => by
    refine ((cols_three o _ hs b T ⟨c, hc⟩ ⟨srcCol (2560 + q.val), srcCol_lt u⟩ e).trans (refProd_apply h g shift scale w b T _)).trans ?_
    show _ = if u : used (2560 + q.val) then hit h g shift scale w b ⟨srcCol (2560 + q.val), srcCol_lt u⟩ T else 0
    rw [dif_pos u]
  have zero : ¬ used (2560 + q.val) → zdtOut h g shift scale w (ix3 b T q) = 0 := fun u => by
    unfold zdtOut
    exact dif_neg u
  have blank : ∀ j : S2x8448x120.Idx, broadcastInDim S2x8448x120 ![] bcast_S_S2x8448x120 (constant (F := Ideal) S_ .f32 0x00000000#32) j = 0 := fun _ => Ideal.ofBits_zero_f32
  have u : used (2560 + q.val) ↔ q.val < 520 ∨ (640 ≤ q.val ∧ q.val < 648) := by unfold used; omega
  unfold refZdt
  by_cases a0 : q.val < 512
  · exact (cat_three _ _ b T q 0 (by simp) _ rfl 0 rfl ⟨q.val, a0⟩ (Nat.zero_add _)).trans (read _ 1536 _ _ _ (u.2 (by omega)) (by rw [src]; split_ifs; omega))
  by_cases a1 : q.val < 520
  · exact (cat_three _ _ b T q 1 (by simp) _ rfl 512 rfl ⟨q.val - 512, by omega⟩ (by show 512 + (q.val - 512) = q.val; omega)).trans
      (read _ 3072 _ _ _ (u.2 (by omega)) (by rw [src]; split_ifs <;> omega))
  by_cases a2 : q.val < 640
  · exact ((cat_three _ _ b T q 2 (by simp) (broadcastInDim S2x8448x120 ![] bcast_S_S2x8448x120 (constant S_ .f32 0x00000000#32)) rfl 520 rfl ⟨q.val - 520, by omega⟩
      (by show 520 + (q.val - 520) = q.val; omega)).trans (blank _)).trans (zero (fun k => by have := u.1 k; omega)).symm
  by_cases a3 : q.val < 648
  · exact (cat_three _ _ b T q 3 (by simp) _ rfl 640 rfl ⟨q.val - 640, by omega⟩ (by show 640 + (q.val - 640) = q.val; omega)).trans
      (read _ 3080 _ _ _ (u.2 (by omega)) (by rw [src]; split_ifs <;> omega))
  exact ((cat_three _ _ b T q 4 (by simp) (broadcastInDim S2x8448x120 ![] bcast_S_S2x8448x120 (constant S_ .f32 0x00000000#32)) rfl 648 rfl ⟨q.val - 648, by omega⟩
      (by show 648 + (q.val - 648) = q.val; omega)).trans (blank _)).trans (zero (fun k => by have := u.1 k; omega)).symm

end Ref

end Cert.Conv

end
-- ==== Proof.ConvBody.lean ====
/- The second projection's body: what one grid point computes from its blocks. -/
module

public import proofs.«01_k».proof.Proof.ConvRef
public import proofs.«01_k».proof.Proof.Gen.Kernel3Ideal.Value

@[expose] public section

noncomputable section

namespace Cert.Conv

open Cert.Kernel3Ideal Cert.Kernel3Ideal.Gen
open Idealize.ShloMosaic Idealize.ShloMosaic.ValueIdx Idealize.ShloMosaic.StackMember
open Cert.Proj (modRow block_modulate block_product cat_two cols_two)
open Cert.Experts (act)

/-- A block of rows between the rows of its two halos. -/
def halo (a : FVec Ideal S1x8x1024 .f32) (x : FVec Ideal S1x256x1024 .f32) (z : FVec Ideal S1x8x1024 .f32) (r : Fin 272) (c : Fin 1024) : EReal :=
  if h : r.val < 8 then a (ix3 (0 : Fin 1) (⟨r.val, h⟩ : Fin 8) c)
  else if h' : r.val < 264 then x (ix3 (0 : Fin 1) (⟨r.val - 8, by omega⟩ : Fin 256) c)
  else z (ix3 (0 : Fin 1) (⟨r.val - 264, by omega⟩ : Fin 8) c)

/-- Rows one after another. -/
theorem cat_rows {α : Type} {m n p : ℕ} (xs : List ((s : Shape) × (s.Idx → α))) (h : Shape.Concatenates (xs.map (·.1)) ⟨2, ![m, n]⟩ 0) (r : Fin m) (j : Fin n)
    (k : ℕ) (hk : k < xs.length) (x : (⟨2, ![p, n]⟩ : Shape).Idx → α) (hx : xs[k] = ⟨⟨2, ![p, n]⟩, x⟩) (pre : ℕ)
    (hpre : (((xs.take k).map (·.1)).map fun s => if e : s.rank = (⟨2, ![m, n]⟩ : Shape).rank then s.size ((0 : Fin 2).cast e.symm) else 0).sum = pre)
    (q : Fin p) (hq : pre + q.val = r.val) : concatenate ⟨2, ![m, n]⟩ 0 xs h (ix2 r j) = x (ix2 q j) :=
  concatenate_apply_piece 0 xs h (ix2 r j) k hk _ x hx rfl pre hpre (ix2 q j) (fun d hd => match d, hd with
    | ⟨0, _⟩, hd => absurd rfl hd
    | ⟨1, _⟩, _ => rfl) hq

/-- A sample's matrix, without the sample's axis. -/
theorem drop_one {α : Type} {n p : ℕ} (z : (⟨3, ![1, n, p]⟩ : Shape).Idx → α) (h : (⟨3, ![1, n, p]⟩ : Shape).ShapeCasts ⟨2, ![n, p]⟩) (r : Fin n) (c : Fin p) :
    shapeCast ⟨2, ![n, p]⟩ z h (ix2 r c) = z (ix3 (0 : Fin 1) r c) :=
  shapeCast_apply _ _ _ (ix3 (0 : Fin 1) r c) (by
    rw [Shape.rowMajor_val_three, Shape.rowMajor_val_two]
    show (0 * n + r.val) * p + c.val = r.val * p + c.val
    rw [Nat.zero_mul, Nat.zero_add])

/-- And with it again. -/
theorem add_one {α : Type} {n p : ℕ} (z : (⟨2, ![n, p]⟩ : Shape).Idx → α) (h : (⟨2, ![n, p]⟩ : Shape).ShapeCasts ⟨3, ![1, n, p]⟩) (r : Fin n) (c : Fin p) :
    shapeCast ⟨3, ![1, n, p]⟩ z h (ix3 (0 : Fin 1) r c) = z (ix2 r c) :=
  shapeCast_apply _ _ _ (ix2 r c) (by
    rw [Shape.rowMajor_val_three, Shape.rowMajor_val_two]
    show r.val * p + c.val = (0 * n + r.val) * p + c.val
    rw [Nat.zero_mul, Nat.zero_add])

/-- The rows a grid point works on, normalised and modulated. -/
theorem rows_apply (v0 v4 : FVec Ideal S1x8x1024 .f32) (v2 : FVec Ideal S1x256x1024 .f32) (v7 : FVec Ideal S1x1024 .f32) (v21 v27 : FVec Ideal S1x1x1x1024 .f32)
    (r : Fin 272) (k : Fin 1024) :
    k0_pay1 (F := Ideal) v0 v2 v4 v7 v21 v27 (ix2 r k)
      = modRow (halo v0 v2 v4 r) (fun c => v7 (ix2 (0 : Fin 1) c))
          (fun c => v21 (ix4 (0 : Fin 1) (0 : Fin 1) (0 : Fin 1) c)) (fun c => v27 (ix4 (0 : Fin 1) (0 : Fin 1) (0 : Fin 1) c)) k := by
  have tr : ∀ (z : FVec Ideal S272x1024 .f32) (j : S272x1024.Idx), truncf .bf16 z bitsLt_bf16_f32 j = z j := fun _ _ => rfl
  have vec : ∀ (z : FVec Ideal S1x1x1x1024 .f32) (c : Fin 1024), shapeCast S1x1024 z shapeCasts_S1x1x1x1024_S1x1024 (ix2 (0 : Fin 1) c) = z (ix4 (0 : Fin 1) (0 : Fin 1) (0 : Fin 1) c) := fun z c =>
    shapeCast_apply _ _ _ (ix4 (0 : Fin 1) (0 : Fin 1) (0 : Fin 1) c) (by
      rw [Shape.rowMajor_val_four, Shape.rowMajor_val_two]
      show ((0 * 1 + 0) * 1 + 0) * 1024 + c.val = 0 * 1024 + c.val
      omega)
  have put : ∀ c : Fin 1024, concatenate S272x1024 0 [⟨S8x1024, shapeCast S8x1024 v0 shapeCasts_S1x8x1024_S8x1024⟩, ⟨S256x1024, shapeCast S256x1024 v2 shapeCasts_S1x256x1024_S256x1024⟩,
      ⟨S8x1024, shapeCast S8x1024 v4 shapeCasts_S1x8x1024_S8x1024⟩] concatenates_S8x1024_S256x1024_S8x1024_S272x1024_d0 (ix2 r c) = halo v0 v2 v4 r c := fun c => by
    unfold halo
    by_cases a : r.val < 8
    · rw [dif_pos a]
      exact (cat_rows _ _ r c 0 (by simp) _ rfl 0 rfl ⟨r.val, a⟩ (Nat.zero_add _)).trans (drop_one v0 _ _ c)
    by_cases a' : r.val < 264
    · rw [dif_neg a, dif_pos a']
      exact (cat_rows _ _ r c 1 (by simp) _ rfl 8 rfl ⟨r.val - 8, by omega⟩ (by show 8 + (r.val - 8) = r.val; omega)).trans (drop_one v2 _ _ c)
    · rw [dif_neg a, dif_neg a']
      exact (cat_rows _ _ r c 2 (by simp) _ rfl 264 rfl ⟨r.val - 264, by omega⟩ (by show 264 + (r.val - 264) = r.val; omega)).trans (drop_one v4 _ _ c)
  refine (tr _ _).trans ((block_modulate _ _ _ _ reduces_S272x1024_S272 _ _ _ r k).trans ?_)
  simp only [put, vec, shapeCast_apply v7 shapeCasts_S1x1024_S1x1024 _ _ rfl]

section Columns
variable (U : FVec Ideal S272x1024 .bf16) (w8 : FVec Ideal S1024x1536 .bf16) (w9 : FVec Ideal S1024x1024 .bf16) (w10 : FVec Ideal S1024x512 .bf16) (w11 : FVec Ideal S1024x256 .bf16)

/-- The product's columns, from weight blocks that are columns of one matrix. -/
theorem prod_block (W : FVec Ideal ⟨2, ![1024, 3088]⟩ .f32)
    (h8 : ∀ (c : Fin 1024) (q : Fin 1536), w8 (ix2 c q) = W (ix2 c (⟨q.val, by omega⟩ : Fin 3088)))
    (h9 : ∀ (c : Fin 1024) (q : Fin 1024), w9 (ix2 c q) = W (ix2 c (⟨2048 + q.val, by omega⟩ : Fin 3088)))
    (h10 : ∀ (c : Fin 1024) (q : Fin 512), w10 (ix2 c q) = W (ix2 c (⟨1536 + q.val, by omega⟩ : Fin 3088)))
    (h11 : ∀ (c : Fin 1024) (q : Fin 256), w11 (ix2 c q) = if u : used (3072 + q.val) then W (ix2 c (⟨srcCol (3072 + q.val), srcCol_lt u⟩ : Fin 3088)) else 0)
    (r : Fin 272) (j : Fin 3328) :
    k0_pay2 (F := Ideal) U w8 w9 w10 w11 (ix2 r j)
      = if u : used j.val then ∑ c : Fin 1024, U (ix2 r c) * W (ix2 c (⟨srcCol j.val, srcCol_lt u⟩ : Fin 3088)) else 0 := by
  have src : srcCol j.val = if j.val < 1536 then j.val else if j.val < 2560 then j.val + 512 else if j.val < 3072 then j.val - 1024 else if j.val < 3200 then j.val else j.val - 120 := rfl
  have col : ∀ (a b : ℕ) (ha : a < 3088) (hb : b < 3088) (c : Fin 1024), a = b → W (ix2 c (⟨a, ha⟩ : Fin 3088)) = W (ix2 c (⟨b, hb⟩ : Fin 3088)) := by
    intro a b ha hb c e; subst e; rfl
  unfold k0_pay2
  by_cases a1 : j.val < 1536
  · have u : used j.val := Or.inl (by omega)
    refine (cat_two _ _ r j 0 (by simp) _ rfl 0 rfl ⟨j.val, a1⟩ (Nat.zero_add _)).trans ((block_product _ U w8 _ r _).trans ?_)
    rw [dif_pos u]
    refine Finset.sum_congr rfl fun c _ => ?_
    rw [h8, col _ _ _ (srcCol_lt u) c (by rw [src, if_pos a1])]
  by_cases a2 : j.val < 2560
  · have u : used j.val := Or.inl (by omega)
    refine (cat_two _ _ r j 1 (by simp) _ rfl 1536 rfl ⟨j.val - 1536, by omega⟩ (by show 1536 + (j.val - 1536) = j.val; omega)).trans ((block_product _ U w9 _ r _).trans ?_)
    rw [dif_pos u]
    refine Finset.sum_congr rfl fun c _ => ?_
    rw [h9, col _ _ _ (srcCol_lt u) c (by rw [src]; dsimp only; split_ifs <;> omega)]
  by_cases a3 : j.val < 3072
  · have u : used j.val := Or.inl (by omega)
    refine (cat_two _ _ r j 2 (by simp) _ rfl 2560 rfl ⟨j.val - 2560, by omega⟩ (by show 2560 + (j.val - 2560) = j.val; omega)).trans ((block_product _ U w10 _ r _).trans ?_)
    rw [dif_pos u]
    refine Finset.sum_congr rfl fun c _ => ?_
    rw [h10, col _ _ _ (srcCol_lt u) c (by rw [src]; dsimp only; split_ifs <;> omega)]
  refine (cat_two _ _ r j 3 (by simp) _ rfl 3072 rfl ⟨j.val - 3072, by omega⟩ (by show 3072 + (j.val - 3072) = j.val; omega)).trans ((block_product _ U w11 _ r _).trans ?_)
  have e : 3072 + (j.val - 3072) = j.val := by omega
  by_cases u : used j.val
  · rw [dif_pos u]
    refine Finset.sum_congr rfl fun c _ => ?_
    rw [h11, dif_pos (by rw [e]; exact u), col _ _ _ (srcCol_lt u) c (by rw [e])]
  · rw [dif_neg u]
    refine Finset.sum_eq_zero fun c _ => ?_
    rw [h11, dif_neg (by rw [e]; exact u), mul_zero]

/-- The convolved columns are the product's first. -/
theorem front (r : Fin 272) (j : Fin 2560) : k0_pay3 (F := Ideal) U w8 w9 w10 w11 (ix2 r j) = k0_pay2 U w8 w9 w10 w11 (ix2 r (⟨j.val, by omega⟩ : Fin 3328)) :=
  cols_two 0 (k0_pay2 U w8 w9 w10 w11) slices_S272x3328_o0_0_S272x2560 r j ⟨j.val, by omega⟩ (Nat.zero_add _).symm

/-- The block's own rows are the ninth row on. -/
theorem middle {n : ℕ} (x : FVec Ideal ⟨2, ![272, n]⟩ .f32) (h : (⟨2, ![272, n]⟩ : Shape).Slices ![8, 0] ⟨2, ![256, n]⟩) (r : Fin 256) (j : Fin n) :
    extractStridedSlice ⟨2, ![256, n]⟩ ![8, 0] x h (ix2 r j) = x (ix2 (⟨8 + r.val, by omega⟩ : Fin 272) j) :=
  extractStridedSlice_apply _ x h _ _ fun d => match d with
    | ⟨0, _⟩ => rfl
    | ⟨1, _⟩ => (Nat.zero_add _).symm

theorem own (r : Fin 256) (j : Fin 2560) : k0_pay4 (F := Ideal) U w8 w9 w10 w11 (ix2 r j)
    = k0_pay2 U w8 w9 w10 w11 (ix2 (⟨8 + r.val, by omega⟩ : Fin 272) (⟨j.val, by omega⟩ : Fin 3328)) :=
  (middle _ slices_S272x2560_o8_0_S256x2560 r j).trans (front U w8 w9 w10 w11 _ j)

/-- The test for a segment's edge: one of two blocks, and one row of it. -/
theorem edge_iff (n a b r e : ℕ) (hn : n < 33) (ha : a < 33) (hb : b < 33) (hr : r < 256) (he : e < 256) :
    IntOp.andi (Scalar.ori (Scalar.cmpi .eq (BitVec.ofNat 32 n) (BitVec.ofNat 32 a)) (Scalar.cmpi .eq (BitVec.ofNat 32 n) (BitVec.ofNat 32 b)))
      (IntOp.cmpi .eq (BitVec.ofNat 32 r) (BitVec.ofNat 32 e)) = 1 ↔ (n = a ∨ n = b) ∧ r = e := by
  have eq : ∀ x y : ℕ, x < 256 → y < 256 → (IntOp.cmpi .eq (BitVec.ofNat 32 x) (BitVec.ofNat 32 y) = 1#1 ↔ x = y) := fun x y hx hy =>
    WordCmp.cmpi_eq_ofNat_eq_one_iff (by omega) (by omega)
  exact IntOp.andi_eq_one.trans (and_congr (IntOp.ori_eq_one.trans (or_congr (eq n a (by omega) (by omega)) (eq n b (by omega) (by omega)))) (eq r e hr he))

/-- The rows turned round by `o`. -/
theorem turned (sb : BitVec 32) (o : ℕ) (ho : sb.toNat = o) (x : FVec Ideal S272x2560 .f32) (r : Fin 272) (j : Fin 2560) (s : Fin 272)
    (hs : s.val = (r.val + 272 - o % 272) % 272) : dynamicRotate 0 sb none x rotates_S272x2560_d0 (ix2 r j) = x (ix2 s j) := by
  refine dynamicRotate_apply (0 : Fin 2) sb x _ (ix2 r j) (ix2 s j) fun d => ?_
  match d with
  | ⟨0, _⟩ => show s.val = (r.val + 272 - sb.toNat % 272) % 272; rw [ho]; exact hs
  | ⟨1, _⟩ => rfl

/-- The rows before. -/
theorem prev_block (n : ℕ) (hn : n < 33) (r : Fin 256) (j : Fin 2560) :
    k0_pay5 (F := Ideal) (BitVec.ofNat 32 n) U w8 w9 w10 w11 (ix2 r j)
      = if (n = 0 ∨ n = 1) ∧ r.val = 0 then 0 else k0_pay2 U w8 w9 w10 w11 (ix2 (⟨7 + r.val, by omega⟩ : Fin 272) (⟨j.val, by omega⟩ : Fin 3328)) := by
  have hr := r.isLt
  have test := edge_iff n 0 1 r.val 0 hn (by omega) (by omega) hr (by omega)
  have row : BitVec.ofNat 32 (0 * 256 + r.val) = BitVec.ofNat 32 r.val := by rw [Nat.zero_mul, Nat.zero_add]
  unfold k0_pay5
  refine (select_apply _ _ _ _).trans ?_
  show (if IntOp.andi (Scalar.ori (Scalar.cmpi .eq (BitVec.ofNat 32 n) 0#32) (Scalar.cmpi .eq (BitVec.ofNat 32 n) 1#32)) (IntOp.cmpi .eq (BitVec.ofNat 32 (0 * 256 + r.val)) 0#32) = 1 then _ else _) = _
  rw [row]
  by_cases k : (n = 0 ∨ n = 1) ∧ r.val = 0
  · rw [if_pos (test.2 k), if_pos k]
    exact Ideal.ofBits_zero_f32
  · rw [if_neg (fun a => k (test.1 a)), if_neg k]
    refine (middle _ _ r j).trans ((turned 1#32 1 rfl _ _ j ⟨7 + r.val, by omega⟩ ?_).trans (front U w8 w9 w10 w11 _ j))
    show 7 + r.val = (8 + r.val + 272 - 1 % 272) % 272
    omega

/-- The rows after. -/
theorem next_block (n : ℕ) (hn : n < 33) (r : Fin 256) (j : Fin 2560) :
    k0_pay6 (F := Ideal) (BitVec.ofNat 32 n) U w8 w9 w10 w11 (ix2 r j)
      = if (n = 0 ∨ n = 32) ∧ r.val = 255 then 0 else k0_pay2 U w8 w9 w10 w11 (ix2 (⟨9 + r.val, by omega⟩ : Fin 272) (⟨j.val, by omega⟩ : Fin 3328)) := by
  have hr := r.isLt
  have test := edge_iff n 0 32 r.val 255 hn (by omega) (by omega) hr (by omega)
  have row : BitVec.ofNat 32 (0 * 256 + r.val) = BitVec.ofNat 32 r.val := by rw [Nat.zero_mul, Nat.zero_add]
  unfold k0_pay6
  refine (select_apply _ _ _ _).trans ?_
  show (if IntOp.andi (Scalar.ori (Scalar.cmpi .eq (BitVec.ofNat 32 n) 0#32) (Scalar.cmpi .eq (BitVec.ofNat 32 n) 32#32)) (IntOp.cmpi .eq (BitVec.ofNat 32 (0 * 256 + r.val)) 255#32) = 1 then _ else _) = _
  rw [row]
  by_cases k : (n = 0 ∨ n = 32) ∧ r.val = 255
  · rw [if_pos (test.2 k), if_pos k]
    exact Ideal.ofBits_zero_f32
  · rw [if_neg (fun a => k (test.1 a)), if_neg k]
    refine (middle _ _ r j).trans ((turned 271#32 271 rfl _ _ j ⟨9 + r.val, by omega⟩ ?_).trans (front U w8 w9 w10 w11 _ j))
    show 9 + r.val = (8 + r.val + 272 - 271 % 272) % 272
    omega

end Columns

section Stores
variable (q p n : FVec Ideal S256x2560 .f32) (w0 w1 w2 bias : FVec Ideal S1x2560 .f32)

/-- The taps over the columns. -/
theorem taps_block (r : Fin 256) (j : Fin 2560) : k0_pay7 (F := Ideal) q p n w0 w1 w2 bias (ix2 r j)
    = taps (p (ix2 r j)) (q (ix2 r j)) (n (ix2 r j)) (w0 (ix2 (0 : Fin 1) j)) (w1 (ix2 (0 : Fin 1) j)) (w2 (ix2 (0 : Fin 1) j)) (bias (ix2 (0 : Fin 1) j)) := by
  have row : ∀ x : FVec Ideal S1x2560 .f32, broadcastTo S256x2560 (shapeCast S1x2560 x shapeCasts_S1x2560_S1x2560) broadcasts_S1x2560_S256x2560 (ix2 r j) = x (ix2 (0 : Fin 1) j) := fun x =>
    (broadcastTo_apply _ _ (ix2 r j) (ix2 (0 : Fin 1) j) fun d => match d with
      | ⟨0, _⟩ => rfl
      | ⟨1, _⟩ => rfl).trans (shapeCast_apply x _ _ _ rfl)
  have cell : ∀ A B C D E G H : FVec Ideal S256x2560 .f32, addf (addf (addf (mulf A B) (mulf C D)) (mulf E G)) H (ix2 r j)
      = taps (A (ix2 r j)) (C (ix2 r j)) (E (ix2 r j)) (B (ix2 r j)) (D (ix2 r j)) (G (ix2 r j)) (H (ix2 r j)) := fun _ _ _ _ _ _ _ => rfl
  refine (cell _ _ _ _ _ _ _).trans ?_
  rw [row, row, row, row]

theorem hy_block (r : Fin 256) (j : Fin 1536) : k0_pay8 (F := Ideal) q p n w0 w1 w2 bias (ix3 (0 : Fin 1) r j)
    = k0_pay7 q p n w0 w1 w2 bias (ix2 r (⟨j.val, by omega⟩ : Fin 2560)) :=
  (add_one _ _ r j).trans (cols_two 0 (k0_pay7 q p n w0 w1 w2 bias) slices_S256x2560_o0_0_S256x1536 r j ⟨j.val, by omega⟩ (Nat.zero_add _).symm)

theorem xbc_block (r : Fin 256) (j : Fin 1024) : k0_pay9 (F := Ideal) q p n w0 w1 w2 bias (ix3 (0 : Fin 1) r j)
    = act (k0_pay7 q p n w0 w1 w2 bias (ix2 r (⟨1536 + j.val, by omega⟩ : Fin 2560))) := by
  unfold k0_pay9
  refine (add_one _ _ r j).trans ?_
  have e := cols_two 1536 (k0_pay7 q p n w0 w1 w2 bias) slices_S256x2560_o0_1536_S256x1024 r j ⟨1536 + j.val, by omega⟩ rfl
  rw [← e]
  unfold act
  rw [← Ideal.subf_zero_eq_hostNegf]
  rfl

theorem zdt_block (P : FVec Ideal S272x3328 .f32) (r : Fin 256) (j : Fin 768) :
    k0_pay10 (F := Ideal) P (ix3 (0 : Fin 1) r j) = P (ix2 (⟨8 + r.val, by omega⟩ : Fin 272) (⟨2560 + j.val, by omega⟩ : Fin 3328)) :=
  (add_one _ _ r j).trans (extractStridedSlice_apply _ P _ _ _ fun d => match d with
    | ⟨0, _⟩ => rfl
    | ⟨1, _⟩ => rfl)

end Stores

end Cert.Conv

end
-- ==== Proof.ConvValue.lean ====
/- The second projection's value: the three arrays the kernel leaves are the reference's. -/
module

public import proofs.«01_k».proof.Proof.ConvBody

@[expose] public section

noncomputable section

namespace Cert.Conv

open Cert.Kernel3Ideal Cert.Kernel3Ideal.Gen
open Idealize.ShloMosaic Idealize.ShloMosaic.ValueIdx Idealize.ShloMosaic.StackMember
open Idealize.ShloMosaic.TcCoe
open Idealize.SL.Sem
open Idealize.ShloMosaic.Pipeline (Dat Cfg Window)
open Cert.Proj (modRow piece_apply cols_two segAt zeros_two zeros_three zeros_four)
open Cert.Experts (act)

variable (m : (ℓ : Loc nD τ sig) → Buf (Elt Ideal) ℓ) (c : Dev nD)

/-! ## The arguments -/

abbrev hArg : FVec Ideal S2x8448x1024 .f32 := m ((c : Thread nD τ).loc main_arg0)
abbrev gArg : FVec Ideal S1024 .f32 := m ((c : Thread nD τ).loc main_arg1)
abbrev shiftArg : FVec Ideal S2x2x1x1024 .f32 := m ((c : Thread nD τ).loc main_arg2)
abbrev scaleArg : FVec Ideal S2x2x1x1024 .f32 := m ((c : Thread nD τ).loc main_arg3)
abbrev wArg : FVec Ideal S1024x3088 .f32 := m ((c : Thread nD τ).loc main_arg4)
abbrev hwArg : FVec Ideal S1536x3 .f32 := m ((c : Thread nD τ).loc main_arg5)
abbrev hbArg : FVec Ideal S1536 .f32 := m ((c : Thread nD τ).loc main_arg6)
abbrev mwArg : FVec Ideal S1024x3 .f32 := m ((c : Thread nD τ).loc main_arg7)
abbrev mbArg : FVec Ideal S1024 .f32 := m ((c : Thread nD τ).loc main_arg8)

/-! ## The arrays the host prepares -/

/-- Eight of the weights' columns, filled up with zeros. -/
abbrev filled (o : ℕ) (w : FVec Ideal S1024x3088 .f32) (hs : S1024x3088.Slices ![0, o] S1024x8) : FVec Ideal S1024x128 .f32 :=
  pad S1024x128 ![0, 0] ![0, 120] ![0, 0] (extractStridedSlice S1024x8 ![0, o] w hs) (sitofp .f32 (constantI S_ 32 0#32)) pads_S1024x8_S1024x128_000_01200 h_S_

/-- The gains as one row, the taps and the biases of both convolutions joined, and the weights' columns in their pieces. -/
theorem prepared : (V m c main_v16 : FVec Ideal S1x1024 .f32) = shapeCast S1x1024 (gArg m c) shapeCasts_S1024_S1x1024
    ∧ (V m c main_v1 : FVec Ideal S3x2560 .f32) = transpose S3x2560 [1, 0] (concatenate S2560x3 0 [⟨S1536x3, hwArg m c⟩, ⟨S1024x3, mwArg m c⟩] concatenates_S1536x3_S1024x3_S2560x3_d0) transposes_S2560x3_S3x2560_1_0
    ∧ (V m c main_v3 : FVec Ideal S1x2560 .f32) = shapeCast S1x2560 (concatenate S2560 0 [⟨S1536, hbArg m c⟩, ⟨S1024, mbArg m c⟩] concatenates_S1536_S1024_S2560_d0) shapeCasts_S2560_S1x2560
    ∧ (V m c main_v10 : FVec Ideal S1024x1536 .bf16) = truncf .bf16 (extractStridedSlice S1024x1536 ![0, 0] (wArg m c) slices_S1024x3088_S1024x1536_0_0) bitsLt_bf16_f32
    ∧ (V m c main_v12 : FVec Ideal S1024x1024 .bf16) = truncf .bf16 (extractStridedSlice S1024x1024 ![0, 2048] (wArg m c) slices_S1024x3088_S1024x1024_0_2048) bitsLt_bf16_f32
    ∧ (V m c main_v14 : FVec Ideal S1024x512 .bf16) = truncf .bf16 (extractStridedSlice S1024x512 ![0, 1536] (wArg m c) slices_S1024x3088_S1024x512_0_1536) bitsLt_bf16_f32
    ∧ (V m c main_v15 : FVec Ideal S1024x256 .bf16) = truncf .bf16 (concatenate S1024x256 1 [⟨S1024x128, filled 3072 (wArg m c) slices_S1024x3088_S1024x8_0_3072⟩,
        ⟨S1024x128, filled 3080 (wArg m c) slices_S1024x3088_S1024x8_0_3080⟩] concatenates_S1024x128_S1024x128_S1024x256_d1) bitsLt_bf16_f32 := by
  refine ⟨?_, ?_, ?_, ?_, ?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results_simp
    try rfl

/-- A vector as one row. -/
theorem as_row {α : Type} {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) :=
  shapeCast_apply _ _ _ (ix1 k) (by
    rw [Shape.rowMajor_val_two, Shape.rowMajor_val_one]
    show k.val = 0 * n + k.val
    rw [Nat.zero_mul, Nat.zero_add])

theorem gain_array (k : Fin 1024) : (V m c main_v16 : FVec Ideal S1x1024 .f32) (ix2 (0 : Fin 1) k) = gArg m c (ix1 k) := by
  rw [(prepared m c).1]
  exact as_row _ _ k

theorem taps_array (k : Fin 3) (j : Fin 2560) : (V m c main_v1 : FVec Ideal S3x2560 .f32) (ix2 k j)
    = if h : j.val < 1536 then hwArg m c (ix2 (⟨j.val, h⟩ : Fin 1536) k) else mwArg m c (ix2 (⟨j.val - 1536, by omega⟩ : Fin 1024) k) := by
  rw [(prepared m c).2.1]
  refine (transpose_apply _ _ _ (ix2 k j) (ix2 j k) fun d => match d with
    | ⟨0, _⟩ => rfl
    | ⟨1, _⟩ => rfl).trans ?_
  by_cases h : j.val < 1536
  · rw [dif_pos h]
    exact cat_rows _ _ j k 0 (by simp) _ rfl 0 rfl ⟨j.val, h⟩ (Nat.zero_add _)
  · rw [dif_neg h]
    exact cat_rows _ _ j k 1 (by simp) _ rfl 1536 rfl ⟨j.val - 1536, by omega⟩ (by show 1536 + (j.val - 1536) = j.val; omega)

theorem bias_array (j : Fin 2560) : (V m c main_v3 : FVec Ideal S1x2560 .f32) (ix2 (0 : Fin 1) j)
    = if h : j.val < 1536 then hbArg m c (ix1 (⟨j.val, h⟩ : Fin 1536)) else mbArg m c (ix1 (⟨j.val - 1536, by omega⟩ : Fin 1024)) := by
  rw [(prepared m c).2.2.1]
  refine (as_row _ _ j).trans ?_
  by_cases h : j.val < 1536
  · rw [dif_pos h]
    exact concatenate_pair_apply_left (t := S2560) (s₁ := S1536) (s₂ := S1024) 0 _ _ _ (ix1 j) rfl (ix1 (⟨j.val, h⟩ : Fin 1536)) (fun d => match d with
      | ⟨0, _⟩ => rfl)
  · rw [dif_neg h]
    exact concatenate_pair_apply_right (t := S2560) (s₁ := S1536) (s₂ := S1024) 0 _ _ _ (ix1 j) rfl rfl (ix1 (⟨j.val - 1536, by omega⟩ : Fin 1024)) (fun d hd => match d, hd with
      | ⟨0, _⟩, hd => absurd rfl hd) (by show j.val - 1536 + 1536 = j.val; omega)

theorem filled_apply (o : ℕ) (w : FVec Ideal S1024x3088 .f32) (hs : S1024x3088.Slices ![0, o] S1024x8) (ho : o + 8 ≤ 3088) (p : Fin 1024) (q : Fin 128) :
    filled o w hs (ix2 p q) = if h : q.val < 8 then w (ix2 p (⟨o + q.val, by omega⟩ : Fin 3088)) else 0 := by
  by_cases h : q.val < 8
  · rw [dif_pos h]
    refine (pad_apply_of_inside _ _ _ _ _ _ _ (ix2 p q) (ix2 p (⟨q.val, h⟩ : Fin 8)) fun d => ?_).trans (cols_two o w hs p _ _ rfl)
    match d with
    | ⟨0, _⟩ => show p.val = 0 + p.val * 1; omega
    | ⟨1, _⟩ => show q.val = 0 + q.val * 1; omega
  · rw [dif_neg h]
    refine (pad_apply_of_not_inside _ _ _ _ _ _ _ (ix2 p q) 1 ?_).trans ?_
    · show ¬ (0 ≤ q.val ∧ (q.val - 0) % 1 = 0 ∧ (q.val - 0) / 1 < 8)
      omega
    · show (((0#32 : BitVec 32).toInt : ℝ) : EReal) = 0
      simp

theorem step_array (p : Fin 1024) (q : Fin 256) : (V m c main_v15 : FVec Ideal S1024x256 .bf16) (ix2 p q)
    = if u : used (3072 + q.val) then wArg m c (ix2 p (⟨srcCol (3072 + q.val), srcCol_lt u⟩ : Fin 3088)) else 0 := by
  have tr : ∀ z : FVec Ideal S1024x256 .f32, truncf .bf16 z bitsLt_bf16_f32 (ix2 p q) = z (ix2 p q) := fun _ => rfl
  have hq := q.isLt
  have src : srcCol (3072 + q.val) = if q.val < 128 then 3072 + q.val else 2952 + q.val := by
    unfold srcCol
    split_ifs <;> omega
  rw [(prepared m c).2.2.2.2.2.2]
  refine (tr _).trans ?_
  by_cases a : q.val < 128
  · refine (Cert.Proj.cat_two _ _ p q 0 (by simp) _ rfl 0 rfl ⟨q.val, a⟩ (Nat.zero_add _)).trans ((filled_apply 3072 _ _ (by omega) p _).trans ?_)
    by_cases u : used (3072 + q.val)
    · have e : q.val < 8 := by rcases u with u | u <;> omega
      rw [dif_pos u, dif_pos e]
      exact congrArg (fun z => wArg m c (ix2 p z)) (Fin.ext (by show 3072 + q.val = srcCol _; rw [src, if_pos a]))
    · rw [dif_neg u, dif_neg (fun e : q.val < 8 => u (Or.inl (by omega)))]
  · refine (Cert.Proj.cat_two _ _ p q 1 (by simp) _ rfl 128 rfl ⟨q.val - 128, by omega⟩ (by show 128 + (q.val - 128) = q.val; omega)).trans
      ((filled_apply 3080 _ _ (by omega) p _).trans ?_)
    by_cases u : used (3072 + q.val)
    · have e : q.val - 128 < 8 := by rcases u with u | u <;> omega
      rw [dif_pos u, dif_pos e]
      exact congrArg (fun z => wArg m c (ix2 p z)) (Fin.ext (by show 3080 + (q.val - 128) = srcCol _; rw [src, if_neg a]; omega))
    · rw [dif_neg u, dif_neg (fun e : q.val - 128 < 8 => u (Or.inr (by omega)))]

/-! ## The blocks a grid point reads -/

theorem index_facts : ∀ t : Fin grid0.N, cc0_transform_0 (grid0.coords t) = ![t.val / 33, t.val % 33, 0] ∧ cc0_transform_1 (grid0.coords t) = ![t.val / 33, t.val % 33 * 32 - 1, 0]
    ∧ cc0_transform_2 (grid0.coords t) = ![t.val / 33, if t.val % 33 = 32 then 1055 else t.val % 33 * 32 + 32, 0]
    ∧ cc0_transform_4 (grid0.coords t) = ![t.val / 33, if t.val % 33 = 0 then 0 else 1, 0, 0] ∧ cc0_transform_5 (grid0.coords t) = ![t.val / 33, if t.val % 33 = 0 then 0 else 1, 0, 0]
    ∧ cc0_transform_12 (grid0.coords t) = ![t.val / 33, t.val % 33 - 1, 0] ∧ cc0_transform_13 (grid0.coords t) = ![t.val / 33, t.val % 33, 0]
    ∧ cc0_transform_14 (grid0.coords t) = ![t.val / 33, t.val % 33, 0] ∧ (grid0.coords t 1).val = t.val % 33 := by decide +kernel

theorem point_lt (t : Fin cfg0.N) : t.val < 66 := lt_of_lt_of_eq t.isLt N_0

/-- A point's sample. -/
def bAt (t : Fin cfg0.N) : Fin 2 := ⟨t.val / 33, by have := point_lt t; omega⟩

/-- The joint row at a point's row `r`. -/
def tAt (t : Fin cfg0.N) (r : Fin 256) : Fin 8448 := ⟨t.val % 33 * 256 + r.val, by have := point_lt t; omega⟩

variable (t : Fin cfg0.N)

/-- Where an element of a point's block of rows lies in the whole array. -/
theorem row_coord {M N R : ℕ} (B : ℕ) (T : Fin M) (q : Fin R) (k : Fin N) (e : B * R + q.val = T.val) (d : Fin 3) :
    (![t.val / 33, B, 0] : Fin 3 → ℕ) d * (![1, R, N] : Fin 3 → ℕ) d + (ix3 (0 : Fin 1) q k d).val = (ix3 (bAt t) T k d).val := by
  match d with
  | ⟨0, _⟩ => exact Nat.mul_one _
  | ⟨1, _⟩ => exact e
  | ⟨2, _⟩ => show 0 * N + k.val = k.val; omega

/-- The block between its halos: consecutive joint rows. -/
theorem halo_rows (r : Fin 272) (T : Fin 8448) (hT : T.val + 8 = t.val % 33 * 256 + r.val) (k : Fin 1024) :
    halo (iblk m c 1 t) (iblk m c 0 t) (iblk m c 2 t) r k = hArg m c (ix3 (bAt t) T k) := by
  have hr := r.isLt
  have hT' := T.isLt
  unfold halo
  by_cases a : r.val < 8
  · rw [dif_pos a]
    refine Eq.trans (congrArg (V m c main_arg0) (funext fun d => Fin.ext ?_)) (congrFun (V_main_arg0 m c) _)
    refine (Window.rect_emb_val (cfg0.win 1) t (ix3 (0 : Fin 1) (⟨r.val, a⟩ : Fin 8) k) d).trans ?_
    rw [show (cfg0.win 1).index t = _ from (index_facts t).2.1]
    exact row_coord t _ T (⟨r.val, a⟩ : Fin 8) k (by show (t.val % 33 * 32 - 1) * 8 + r.val = T.val; omega) d
  by_cases a' : r.val < 264
  · rw [dif_neg a, dif_pos a']
    refine Eq.trans (congrArg (V m c main_arg0) (funext fun d => Fin.ext ?_)) (congrFun (V_main_arg0 m c) _)
    refine (Window.rect_emb_val (cfg0.win 0) t (ix3 (0 : Fin 1) (⟨r.val - 8, by omega⟩ : Fin 256) k) d).trans ?_
    rw [show (cfg0.win 0).index t = _ from (index_facts t).1]
    exact row_coord t _ T (⟨r.val - 8, by omega⟩ : Fin 256) k (by show t.val % 33 * 256 + (r.val - 8) = T.val; omega) d
  · rw [dif_neg a, dif_neg a']
    refine Eq.trans (congrArg (V m c main_arg0) (funext fun d => Fin.ext ?_)) (congrFun (V_main_arg0 m c) _)
    refine (Window.rect_emb_val (cfg0.win 2) t (ix3 (0 : Fin 1) (⟨r.val - 264, by omega⟩ : Fin 8) k) d).trans ?_
    rw [show (cfg0.win 2).index t = _ from (index_facts t).2.2.1, if_neg (by omega)]
    exact row_coord t _ T (⟨r.val - 264, by omega⟩ : Fin 8) k (by show (t.val % 33 * 32 + 32) * 8 + (r.val - 264) = T.val; omega) d

/-- Where an element of a segment's block lies in the whole array of vectors. -/
theorem seg_coord (s : Fin 2) (hs : s.val = if t.val % 33 = 0 then 0 else 1) (k : Fin 1024) (d : Fin 4) :
    (![t.val / 33, if t.val % 33 = 0 then 0 else 1, 0, 0] : Fin 4 → ℕ) d * S1x1x1x1024.size d + (ix4 (0 : Fin 1) (0 : Fin 1) (0 : Fin 1) k d).val
      = (ix4 (bAt t) s (0 : Fin 1) k d).val := by
  match d with
  | ⟨0, _⟩ => exact Nat.mul_one _
  | ⟨1, _⟩ => exact (Nat.mul_one _).trans hs.symm
  | ⟨2, _⟩ => rfl
  | ⟨3, _⟩ => exact Nat.zero_add _

theorem shift_block (s : Fin 2) (hs : s.val = if t.val % 33 = 0 then 0 else 1) (k : Fin 1024) :
    (iblk m c 4 t : FVec Ideal S1x1x1x1024 .f32) (ix4 (0 : Fin 1) (0 : Fin 1) (0 : Fin 1) k) = shiftArg m c (ix4 (bAt t) s (0 : Fin 1) k) := by
  refine Eq.trans (congrArg (V m c main_arg2) (funext fun d => Fin.ext ?_)) (congrFun (V_main_arg2 m c) _)
  refine (Window.rect_emb_val (cfg0.win 4) t (ix4 (0 : Fin 1) (0 : Fin 1) (0 : Fin 1) k) d).trans ?_
  rw [show (cfg0.win 4).index t = _ from (index_facts t).2.2.2.1]
  exact seg_coord t s hs k d

theorem scale_block (s : Fin 2) (hs : s.val = if t.val % 33 = 0 then 0 else 1) (k : Fin 1024) :
    (iblk m c 5 t : FVec Ideal S1x1x1x1024 .f32) (ix4 (0 : Fin 1) (0 : Fin 1) (0 : Fin 1) k) = scaleArg m c (ix4 (bAt t) s (0 : Fin 1) k) := by
  refine Eq.trans (congrArg (V m c main_arg3) (funext fun d => Fin.ext ?_)) (congrFun (V_main_arg3 m c) _)
  refine (Window.rect_emb_val (cfg0.win 5) t (ix4 (0 : Fin 1) (0 : Fin 1) (0 : Fin 1) k) d).trans ?_
  rw [show (cfg0.win 5).index t = _ from (index_facts t).2.2.2.2.1]
  exact seg_coord t s hs k d

/-- The windows whose one block is their whole array read it as it stands. -/
theorem whole_blocks : (iblk m c 3 t : FVec Ideal S1x1024 .f32) = V m c main_v16 ∧ (iblk m c 6 t : FVec Ideal S3x2560 .f32) = V m c main_v1
    ∧ (iblk m c 7 t : FVec Ideal S1x2560 .f32) = V m c main_v3 ∧ (iblk m c 8 t : FVec Ideal S1024x1536 .bf16) = V m c main_v10
    ∧ (iblk m c 9 t : FVec Ideal S1024x1024 .bf16) = V m c main_v12 ∧ (iblk m c 10 t : FVec Ideal S1024x512 .bf16) = V m c main_v14
    ∧ (iblk m c 11 t : FVec Ideal S1024x256 .bf16) = V m c main_v15 := by
  have at_zero : ∀ (n0 n1 : ℕ) (d : Fin 2) (k : ℕ), (![0, 0] : Fin 2 → ℕ) d * (![n0, n1] : Fin 2 → ℕ) d + k = k := fun n0 n1 d k => match d with
    | ⟨0, _⟩ => by show 0 * n0 + k = k; omega
    | ⟨1, _⟩ => by show 0 * n1 + k = k; omega
  exact ⟨funext fun y => congrArg (V m c main_v16) (funext fun d => Fin.ext ((Window.rect_emb_val (cfg0.win 3) t y d).trans (at_zero _ _ d _))),
    funext fun y => congrArg (V m c main_v1) (funext fun d => Fin.ext ((Window.rect_emb_val (cfg0.win 6) t y d).trans (at_zero _ _ d _))),
    funext fun y => congrArg (V m c main_v3) (funext fun d => Fin.ext ((Window.rect_emb_val (cfg0.win 7) t y d).trans (at_zero _ _ d _))),
    funext fun y => congrArg (V m c main_v10) (funext fun d => Fin.ext ((Window.rect_emb_val (cfg0.win 8) t y d).trans (at_zero _ _ d _))),
    funext fun y => congrArg (V m c main_v12) (funext fun d => Fin.ext ((Window.rect_emb_val (cfg0.win 9) t y d).trans (at_zero _ _ d _))),
    funext fun y => congrArg (V m c main_v14) (funext fun d => Fin.ext ((Window.rect_emb_val (cfg0.win 10) t y d).trans (at_zero _ _ d _))),
    funext fun y => congrArg (V m c main_v15) (funext fun d => Fin.ext ((Window.rect_emb_val (cfg0.win 11) t y d).trans (at_zero _ _ d _)))⟩

/-! ## What a grid point computes -/

/-- A load of a whole block reads it as it stands. -/
theorem ld0 (x : Vec Ideal S1x8x1024 .f32) : View.ld x r0_0 = x := View.ld_unit_zero zeros_three _ x
theorem ld1 (x : Vec Ideal S1x256x1024 .f32) : View.ld x r0_1 = x := View.ld_unit_zero zeros_three _ x
theorem ld2 (x : Vec Ideal S1x1024 .f32) : View.ld x r0_2 = x := View.ld_unit_zero zeros_two _ x
theorem ld3 (x : Vec Ideal S1x1x1x1024 .f32) : View.ld x r0_3 = x := View.ld_unit_zero zeros_four _ x
theorem ld4 (x : Vec Ideal S1024x1536 .bf16) : View.ld x r0_4 = x := View.ld_unit_zero zeros_two _ x
theorem ld5 (x : Vec Ideal S1024x1024 .bf16) : View.ld x r0_5 = x := View.ld_unit_zero zeros_two _ x
theorem ld6 (x : Vec Ideal S1024x512 .bf16) : View.ld x r0_6 = x := View.ld_unit_zero zeros_two _ x
theorem ld7 (x : Vec Ideal S1024x256 .bf16) : View.ld x r0_7 = x := View.ld_unit_zero zeros_two _ x
theorem ld11 (x : Vec Ideal S1x2560 .f32) : View.ld x r0_11 = x := View.ld_unit_zero zeros_two _ x

/-- A load of one tap's row. -/
theorem ld_row (o : ℕ) (k : Fin 3) (hk : k.val = o) (inb : ∀ a, (![o, 0] : Fin 2 → ℕ) a + S1x2560.size a ≤ S3x2560.size a) (x : Vec Ideal S3x2560 .f32) (j : Fin 2560) :
    View.ld x (Rect.unit (s := S3x2560) ![o, 0] S1x2560.size inb) (ix2 (0 : Fin 1) j) = x (ix2 k j) := by
  rw [View.ld_unit]
  exact extractStridedSlice_apply _ x _ (ix2 (0 : Fin 1) j) (ix2 k j) fun d => match d with
    | ⟨0, _⟩ => hk
    | ⟨1, _⟩ => (Nat.zero_add _).symm

/-- The modulated rows of a point's block and its halos. -/
abbrev rowsOf : FVec Ideal S272x1024 .bf16 := k0_pay1 (F := Ideal) (iblk m c 1 t) (iblk m c 0 t) (iblk m c 2 t) (iblk m c 3 t) (iblk m c 5 t) (iblk m c 4 t)

theorem rowsOf_apply (r : Fin 272) (T : Fin 8448) (hT : T.val + 8 = t.val % 33 * 256 + r.val) (hs : (segAt T).val = if t.val % 33 = 0 then 0 else 1) (k : Fin 1024) :
    rowsOf m c t (ix2 r k) = uAt (hArg m c) (gArg m c) (shiftArg m c) (scaleArg m c) (bAt t) T k := by
  refine (rows_apply _ _ _ _ _ _ r k).trans ?_
  unfold uAt
  have hrow : halo (iblk m c 1 t) (iblk m c 0 t) (iblk m c 2 t) r = fun a => hArg m c (ix3 (bAt t) T a) := funext fun a => halo_rows m c t r T hT a
  have hg : (fun a => (iblk m c 3 t : FVec Ideal S1x1024 .f32) (ix2 (0 : Fin 1) a)) = fun a => gArg m c (ix1 a) := funext fun a => by
    rw [(whole_blocks m c t).1, gain_array]
  have hsc : (fun a => (iblk m c 5 t : FVec Ideal S1x1x1x1024 .f32) (ix4 (0 : Fin 1) (0 : Fin 1) (0 : Fin 1) a)) = fun a => scaleArg m c (ix4 (bAt t) (segAt T) (0 : Fin 1) a) :=
    funext fun a => scale_block m c t (segAt T) hs a
  have hsh : (fun a => (iblk m c 4 t : FVec Ideal S1x1x1x1024 .f32) (ix4 (0 : Fin 1) (0 : Fin 1) (0 : Fin 1) a)) = fun a => shiftArg m c (ix4 (bAt t) (segAt T) (0 : Fin 1) a) :=
    funext fun a => shift_block m c t (segAt T) hs a
  rw [← hrow, ← hg, ← hsc, ← hsh]

/-- The product of a point's rows. -/
abbrev prodOf : FVec Ideal S272x3328 .f32 := k0_pay2 (F := Ideal) (rowsOf m c t) (iblk m c 8 t) (iblk m c 9 t) (iblk m c 10 t) (iblk m c 11 t)

/-- Column `j` of the weights against the joint rows of a point's sample. -/
abbrev hitOf (j : Fin 3088) : Fin 8448 → EReal := hit (hArg m c) (gArg m c) (shiftArg m c) (scaleArg m c) (wArg m c) (bAt t) j

theorem prodOf_apply (r : Fin 272) (T : Fin 8448) (hT : T.val + 8 = t.val % 33 * 256 + r.val) (hs : (segAt T).val = if t.val % 33 = 0 then 0 else 1) (j : Fin 3328) :
    prodOf m c t (ix2 r j) = if u : used j.val then hitOf m c t ⟨srcCol j.val, srcCol_lt u⟩ T else 0 := by
  obtain ⟨_, _, _, p8, p9, p10, _⟩ := prepared m c
  obtain ⟨_, _, _, e8, e9, e10, e11⟩ := whole_blocks m c t
  refine (prod_block (rowsOf m c t) _ _ _ _ (wArg m c)
    (fun a q => by rw [e8]; exact (piece_apply 0 _ _ _ p8 a q (by omega)).trans (congrArg (fun z => wArg m c (ix2 a z)) (Fin.ext (Nat.zero_add _))))
    (fun a q => by rw [e9]; exact piece_apply 2048 _ _ _ p9 a q (by omega))
    (fun a q => by rw [e10]; exact piece_apply 1536 _ _ _ p10 a q (by omega))
    (fun a q => by rw [e11]; exact step_array m c a q) r j).trans ?_
  simp only [rowsOf_apply m c t r T hT hs]
  rfl

/-- A joint row's segment. -/
theorem seg_val (T : Fin 8448) : (segAt T).val = if T.val < 256 then 0 else 1 := by
  unfold segAt
  split_ifs <;> rfl

/-- A convolved column of a point's block. -/
theorem conv_written (w0 w1 w2 bias : FVec Ideal S1x2560 .f32) (r : Fin 256) (j : Fin 2560) (s : Fin 3088) (hj : srcCol j.val = s.val) :
    k0_pay7 (F := Ideal) (k0_pay4 (rowsOf m c t) (iblk m c 8 t) (iblk m c 9 t) (iblk m c 10 t) (iblk m c 11 t))
      (k0_pay5 (BitVec.ofNat 32 (grid0.coords t 1).val) (rowsOf m c t) (iblk m c 8 t) (iblk m c 9 t) (iblk m c 10 t) (iblk m c 11 t))
      (k0_pay6 (BitVec.ofNat 32 (grid0.coords t 1).val) (rowsOf m c t) (iblk m c 8 t) (iblk m c 9 t) (iblk m c 10 t) (iblk m c 11 t)) w0 w1 w2 bias (ix2 r j)
      = conv (hArg m c) (gArg m c) (shiftArg m c) (scaleArg m c) (wArg m c) (bAt t) s (tAt t r) (w0 (ix2 (0 : Fin 1) j)) (w1 (ix2 (0 : Fin 1) j)) (w2 (ix2 (0 : Fin 1) j)) (bias (ix2 (0 : Fin 1) j)) := by
  have hr := r.isLt
  have hn : t.val % 33 < 33 := Nat.mod_lt _ (by omega)
  have hv : (tAt t r).val = t.val % 33 * 256 + r.val := rfl
  have read : ∀ (q : Fin 272) (T : Fin 8448), T.val + 8 = t.val % 33 * 256 + q.val → (T.val < 256 ↔ t.val % 33 = 0) →
      prodOf m c t (ix2 q (⟨j.val, by omega⟩ : Fin 3328)) = hitOf m c t s T := fun q T h1 h2 => by
    have u : used j.val := Or.inl (by omega)
    refine (prodOf_apply m c t q T h1 ((seg_val T).trans (by simp only [h2])) _).trans ((dif_pos u).trans ?_)
    exact congrArg (fun z => hitOf m c t z T) (Fin.ext hj)
  rw [(index_facts t).2.2.2.2.2.2.2.2]
  refine (taps_block _ _ _ w0 w1 w2 bias r j).trans ?_
  rw [own, prev_block _ _ _ _ _ _ hn, next_block _ _ _ _ _ _ hn]
  have middle := read ⟨8 + r.val, by omega⟩ (tAt t r) (by show t.val % 33 * 256 + r.val + 8 = t.val % 33 * 256 + (8 + r.val); omega) (by omega)
  have before : (if (t.val % 33 = 0 ∨ t.val % 33 = 1) ∧ r.val = 0 then 0 else prodOf m c t (ix2 (⟨7 + r.val, by omega⟩ : Fin 272) (⟨j.val, by omega⟩ : Fin 3328)))
      = prevIn (hitOf m c t s) (tAt t r) := by
    unfold prevIn
    by_cases k : (t.val % 33 = 0 ∨ t.val % 33 = 1) ∧ r.val = 0
    · rw [if_pos k, if_pos (by omega)]
    · rw [if_neg k, if_neg (by omega)]
      exact read _ _ (by show (tAt t r).val - 1 + 8 = t.val % 33 * 256 + (7 + r.val); omega) (by show (tAt t r).val - 1 < 256 ↔ _; omega)
  have after : (if (t.val % 33 = 0 ∨ t.val % 33 = 32) ∧ r.val = 255 then 0 else prodOf m c t (ix2 (⟨9 + r.val, by omega⟩ : Fin 272) (⟨j.val, by omega⟩ : Fin 3328)))
      = nextIn (hitOf m c t s) (tAt t r) := by
    unfold nextIn
    by_cases k : (t.val % 33 = 0 ∨ t.val % 33 = 32) ∧ r.val = 255
    · rw [if_pos k, dif_pos (by omega)]
    · rw [if_neg k, dif_neg (by omega)]
      exact read _ _ (by show (tAt t r).val + 1 + 8 = t.val % 33 * 256 + (9 + r.val); omega) (by show (tAt t r).val + 1 < 256 ↔ _; omega)
  unfold prodOf at before middle after
  rw [before, middle, after]
  rfl

/-! ## What a grid point writes -/

/-- The first result's block at a point past the first segment. -/
theorem hy_written (R : Fin 8192) (r : Fin 256) (hR : R.val + 256 = (tAt t r).val) (j : Fin 1536) :
    out0_12 (F := Ideal) (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r j)
      = hyOut (hArg m c) (gArg m c) (shiftArg m c) (scaleArg m c) (wArg m c) (hwArg m c) (hbArg m c) (ix3 (bAt t) R j) := by
  have hj := j.isLt
  obtain ⟨_, e6, e7, _⟩ := whole_blocks m c t
  unfold out0_12 k0_pay14 k0_pay13 k0_pay12 k0_pay11
  rw [View.canon_cons_unit_zero zeros_three]
  simp only [ld0, ld1, ld2, ld3, ld4, ld5, ld6, ld7, ld11]
  refine (hy_block _ _ _ _ _ _ _ r j).trans ((conv_written m c t _ _ _ _ r _ (⟨j.val, by omega⟩ : Fin 3088) (by show srcCol j.val = j.val; unfold srcCol; rw [if_pos hj])).trans ?_)
  rw [ld_row 0 0 rfl, ld_row 1 1 rfl, ld_row 2 2 rfl, e6, e7, taps_array, taps_array, taps_array, bias_array, dif_pos hj, dif_pos hj, dif_pos hj, dif_pos hj]
  have row : tAt t r = (⟨256 + R.val, by have := R.isLt; omega⟩ : Fin 8448) := Fin.ext (hR.symm.trans (Nat.add_comm _ _))
  rw [row]
  rfl

/-- The second result's block at a point. -/
theorem xbc_written (r : Fin 256) (j : Fin 1024) :
    out0_13 (F := Ideal) (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r j)
      = xbcOut (hArg m c) (gArg m c) (shiftArg m c) (scaleArg m c) (wArg m c) (mwArg m c) (mbArg m c) (ix3 (bAt t) (tAt t r) j) := by
  have hj := j.isLt
  obtain ⟨_, e6, e7, _⟩ := whole_blocks m c t
  have past : ¬ (1536 + j.val < 1536) := by omega
  have back : (⟨1536 + j.val - 1536, by omega⟩ : Fin 1024) = j := Fin.ext (Nat.add_sub_cancel_left _ _)
  unfold out0_13 k0_pay14 k0_pay13 k0_pay12 k0_pay11
  rw [View.canon_cons_unit_zero zeros_three]
  simp only [ld0, ld1, ld2, ld3, ld4, ld5, ld6, ld7, ld11]
  refine (xbc_block _ _ _ _ _ _ _ r j).trans (congrArg act ((conv_written m c t _ _ _ _ r _ (⟨2048 + j.val, by omega⟩ : Fin 3088)
    (by show srcCol (1536 + j.val) = 2048 + j.val; unfold srcCol; split_ifs <;> omega)).trans ?_))
  rw [ld_row 0 0 rfl, ld_row 1 1 rfl, ld_row 2 2 rfl, e6, e7, taps_array, taps_array, taps_array, bias_array, dif_neg past, dif_neg past, dif_neg past, dif_neg past]
  dsimp only
  rw [back]

/-- The third result's block at a point. -/
theorem zdt_written (r : Fin 256) (j : Fin 768) :
    out0_14 (F := Ideal) (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r j)
      = zdtOut (hArg m c) (gArg m c) (shiftArg m c) (scaleArg m c) (wArg m c) (ix3 (bAt t) (tAt t r) j) := by
  have hr := r.isLt
  unfold out0_14 k0_pay11
  rw [View.canon_cons_unit_zero zeros_three]
  simp only [ld0, ld1, ld2, ld3, ld4, ld5, ld6, ld7]
  exact (zdt_block _ r j).trans (prodOf_apply m c t _ (tAt t r) (by show t.val % 33 * 256 + r.val + 8 = t.val % 33 * 256 + (8 + r.val); omega)
    ((seg_val _).trans (by
      have e : (tAt t r).val < 256 ↔ t.val % 33 = 0 := by show t.val % 33 * 256 + r.val < 256 ↔ _; omega
      simp only [e])) _)

/-! ## The arrays after the run -/

/-- A row lies in a block of its own 256 rows. -/
theorem covers {M n : ℕ} (a B : ℕ) (b : Fin 2) (T : Fin M) (j : Fin n) (ha : a = b.val) (hB : B = T.val / 256) (d : Fin 3) :
    (![a, B, 0] : Fin 3 → ℕ) d * (![1, 256, n] : Fin 3 → ℕ) d ≤ (ix3 b T j d).val
      ∧ (ix3 b T j d).val < (![a, B, 0] : Fin 3 → ℕ) d * (![1, 256, n] : Fin 3 → ℕ) d + (![1, 256, n] : Fin 3 → ℕ) d := by
  have hj := j.isLt
  match d with
  | ⟨0, _⟩ =>
    show a * 1 ≤ b.val ∧ b.val < a * 1 + 1
    omega
  | ⟨1, _⟩ =>
    show B * 256 ≤ T.val ∧ T.val < B * 256 + 256
    omega
  | ⟨2, _⟩ =>
    show 0 * n ≤ j.val ∧ j.val < 0 * n + n
    omega

theorem flushes : (∀ t : Fin grid0.N, (cfg0.win 12).flush t = true ↔ t.val % 33 ≠ 0) ∧ (∀ t : Fin grid0.N, (cfg0.win 13).flush t = true)
    ∧ ∀ t : Fin grid0.N, (cfg0.win 14).flush t = true := by decide +kernel

theorem point_of (b : Fin 2) (k : ℕ) (hk : k < 33) : b.val * 33 + k < cfg0.N :=
  lt_of_lt_of_eq (by omega : b.val * 33 + k < 66) N_0.symm

theorem final_hy : (dats m 0 c).arrAt 12 cfg0.N = hyOut (hArg m c) (gArg m c) (shiftArg m c) (scaleArg m c) (wArg m c) (hwArg m c) (hbArg m c) := by
  refine (dats m 0 c).arrAt_eq_of_emb 12 _ (fun t hf y => ?_) (fun i => ?_)
  · obtain ⟨z, r, j, rfl⟩ : ∃ (z : Fin 1) (r : Fin 256) (j : Fin 1536), y = ix3 z r j := ⟨_, _, _, eq_ix3 y⟩
    obtain rfl : z = 0 := Subsingleton.elim _ _
    have ht := (flushes.1 t).1 hf
    have hr := r.isLt
    have hn : t.val % 33 < 33 := Nat.mod_lt _ (by omega)
    refine (congrFun (Cert.Kernel3Ideal.Value.flushed12 m c t) (ix3 (0 : Fin 1) r j)).trans ?_
    refine (hy_written m c t ⟨(t.val % 33 - 1) * 256 + r.val, by omega⟩ r (by show (t.val % 33 - 1) * 256 + r.val + 256 = t.val % 33 * 256 + r.val; omega) j).trans
      (congrArg (hyOut _ _ _ _ _ _ _) (funext fun d => Fin.ext ?_))
    refine Eq.trans ?_ (Window.rect_emb_val (cfg0.win 12) t (ix3 (0 : Fin 1) r j) d).symm
    rw [show (cfg0.win 12).index t = _ from (index_facts t).2.2.2.2.2.1]
    exact (row_coord t _ _ r j rfl d).symm
  · obtain ⟨b, R, j, rfl⟩ : ∃ (b : Fin 2) (R : Fin 8192) (j : Fin 1536), i = ix3 b R j := ⟨_, _, _, eq_ix3 i⟩
    have hR := R.isLt
    have lt := point_of b (R.val / 256 + 1) (by omega)
    refine ⟨⟨_, lt⟩, (flushes.1 _).2 (by show (b.val * 33 + (R.val / 256 + 1)) % 33 ≠ 0; omega), ((cfg0.win 12).emb_mem_blk_iff ⟨_, lt⟩ (ix3 b R j)).2 fun d => ?_⟩
    rw [show (cfg0.win 12).index ⟨_, lt⟩ = _ from (index_facts ⟨_, lt⟩).2.2.2.2.2.1]
    exact covers _ _ b R j (by show (b.val * 33 + (R.val / 256 + 1)) / 33 = b.val; omega) (by show (b.val * 33 + (R.val / 256 + 1)) % 33 - 1 = R.val / 256; omega) d

theorem final_xbc : (dats m 0 c).arrAt 13 cfg0.N = xbcOut (hArg m c) (gArg m c) (shiftArg m c) (scaleArg m c) (wArg m c) (mwArg m c) (mbArg m c) := by
  refine (dats m 0 c).arrAt_eq_of_emb 13 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (congrFun (Cert.Kernel3Ideal.Value.flushed13 m c t) (ix3 (0 : Fin 1) r j)).trans ?_
    refine (xbc_written m c t r j).trans (congrArg (xbcOut _ _ _ _ _ _ _) (funext fun d => Fin.ext ?_))
    refine Eq.trans ?_ (Window.rect_emb_val (cfg0.win 13) t (ix3 (0 : Fin 1) r j) d).symm
    rw [show (cfg0.win 13).index t = _ from (index_facts t).2.2.2.2.2.2.1]
    exact (row_coord t _ (tAt t r) r j rfl d).symm
  · obtain ⟨b, T, j, rfl⟩ : ∃ (b : Fin 2) (T : Fin 8448) (j : Fin 1024), i = ix3 b T j := ⟨_, _, _, eq_ix3 i⟩
    have hT := T.isLt
    have lt := point_of b (T.val / 256) (by omega)
    refine ⟨⟨_, lt⟩, flushes.2.1 _, ((cfg0.win 13).emb_mem_blk_iff ⟨_, lt⟩ (ix3 b T j)).2 fun d => ?_⟩
    rw [show (cfg0.win 13).index ⟨_, lt⟩ = _ from (index_facts ⟨_, lt⟩).2.2.2.2.2.2.1]
    exact covers _ _ b T j (by show (b.val * 33 + T.val / 256) / 33 = b.val; omega) (by show (b.val * 33 + T.val / 256) % 33 = T.val / 256; omega) d

theorem final_zdt : (dats m 0 c).arrAt 14 cfg0.N = zdtOut (hArg m c) (gArg m c) (shiftArg m c) (scaleArg m c) (wArg m c) := by
  refine (dats m 0 c).arrAt_eq_of_emb 14 _ (fun t _ y => ?_) (fun i => ?_)
  · obtain ⟨z, r, j, rfl⟩ : ∃ (z : Fin 1) (r : Fin 256) (j : Fin 768), y = ix3 z r j := ⟨_, _, _, eq_ix3 y⟩
    obtain rfl : z = 0 := Subsingleton.elim _ _
    refine (congrFun (Cert.Kernel3Ideal.Value.flushed14 m c t) (ix3 (0 : Fin 1) r j)).trans ?_
    refine (zdt_written m c t r j).trans (congrArg (zdtOut _ _ _ _ _) (funext fun d => Fin.ext ?_))
    refine Eq.trans ?_ (Window.rect_emb_val (cfg0.win 14) t (ix3 (0 : Fin 1) r j) d).symm
    rw [show (cfg0.win 14).index t = _ from (index_facts t).2.2.2.2.2.2.2.1]
    exact (row_coord t _ (tAt t r) r j rfl d).symm
  · obtain ⟨b, T, j, rfl⟩ : ∃ (b : Fin 2) (T : Fin 8448) (j : Fin 768), i = ix3 b T j := ⟨_, _, _, eq_ix3 i⟩
    have hT := T.isLt
    have lt := point_of b (T.val / 256) (by omega)
    refine ⟨⟨_, lt⟩, flushes.2.2 _, ((cfg0.win 14).emb_mem_blk_iff ⟨_, lt⟩ (ix3 b T j)).2 fun d => ?_⟩
    rw [show (cfg0.win 14).index ⟨_, lt⟩ = _ from (index_facts ⟨_, lt⟩).2.2.2.2.2.2.2.1]
    exact covers _ _ b T j (by show (b.val * 33 + T.val / 256) / 33 = b.val; omega) (by show (b.val * 33 + T.val / 256) % 33 = T.val / 256; omega) d

/-! ## The claims -/

/-- The reference runs and ends clean: it has no counters. -/
theorem reference3Ideal_frame : quiescent_Reference3Ideal := by
  intro m g _
  exact (θ_run Cert.Reference3Ideal.defs _ _).mono (fun r k => ⟨fun c => (k c).2.2.2, sem_eq_zero_of_no_sems (by decide) r.2⟩)
    (Cert.Reference3Ideal.Value.run (F := Ideal) m g)

/-- Both programs end with the same three arrays. -/
theorem algebraic : algebraic_Kernel3Ideal_Reference3Ideal := by
  intro m g m' g' _ hm
  refine ⟨fun c => hyOut (hArg m c) (gArg m c) (shiftArg m c) (scaleArg m c) (wArg m c) (hwArg m c) (hbArg m c),
    fun c => xbcOut (hArg m c) (gArg m c) (shiftArg m c) (scaleArg m c) (wArg m c) (mwArg m c) (mbArg m c),
    fun c => zdtOut (hArg m c) (gArg m c) (shiftArg m c) (scaleArg m c) (wArg m c), ?_, ?_⟩
  · exact (θ_run defs _ _).mono (fun _ k c => ⟨(k c).1.trans (final_hy m c), (k c).2.1.trans (final_xbc m c), (k c).2.2.1.trans (final_zdt m c), (k c).2.2.2⟩)
      (Cert.Kernel3Ideal.Value.run_blocks (F := Ideal) m g)
  · refine (θ_run Cert.Reference3Ideal.defs _ _).mono (fun _ k c => ⟨(k c).1.trans ?_, (k c).2.1.trans ?_, (k c).2.2.1.trans ?_, (k c).2.2.2⟩) (Cert.Reference3Ideal.Value.run (F := Ideal) m' g')
    · obtain ⟨e0, e1, e2, e3, e4, e5, e6, e7, e8⟩ := hm c
      unfold Cert.Reference3Ideal.Value.res_main_v131
      rw [e0, e1, e2, e3, e4, e5, e6]
      exact ref_hy (hArg m c) (gArg m c) (shiftArg m c) (scaleArg m c) (wArg m c) (hwArg m c) (hbArg m c)
    · obtain ⟨e0, e1, e2, e3, e4, e5, e6, e7, e8⟩ := hm c
      unfold Cert.Reference3Ideal.Value.res_main_v132
      rw [e0, e1, e2, e3, e4, e7, e8]
      exact ref_xbc (hArg m c) (gArg m c) (shiftArg m c) (scaleArg m c) (wArg m c) (mwArg m c) (mbArg m c)
    · obtain ⟨e0, e1, e2, e3, e4, e5, e6, e7, e8⟩ := hm c
      unfold Cert.Reference3Ideal.Value.res_main_v133
      rw [e0, e1, e2, e3, e4]
      exact ref_zdt (hArg m c) (gArg m c) (shiftArg m c) (scaleArg m c) (wArg m c)

end Cert.Conv

end
-- ==== Proof.MixRef.lean ====
/- The even layer's output projection, its reference: both results, element by element. -/
module

public import proofs.«01_k».proof.Proof.ProjRef
public import proofs.«01_k».proof.Proof.ExpertsMath
public import proofs.«01_k».proof.Proof.Gen.Reference4Ideal.Run

@[expose] public section

noncomputable section

namespace Cert.Mix

open Idealize.ShloMosaic Idealize.ShloMosaic.ValueIdx Idealize.ShloMosaic.StackMember
open Cert.Proj (modRow rowAt segAt seg_apply host_modulate rows_product cat_three cols_three)
open Cert.Experts (act)

/-- An element of a head from the sum of the head's squares: the element over the root of the mean square, times its gain,
    times the activated gate. -/
def headCell (s o g z : Ideal .f32) : Ideal .f32 :=
  FloatOps.mulf (FloatOps.mulf (FloatOps.mulf o (FloatOps.hostUnary .rsqrt (FloatOps.addf
    (FloatOps.hostDivf s (Scalar.ofBits .f32 0x43000000#32)) (Scalar.ofBits .f32 0x358637BD#32)))) g) (act z)

/-- Coordinate `q` of the head that coordinate `k` belongs to. -/
def sameHead (k : Fin 512) (q : Fin 128) : Fin 512 := ⟨k.val / 128 * 128 + q.val, by omega⟩

/-- A row of four heads `o`, each normalised, under the gates `z`. -/
def headRow (o z : Fin 512 → EReal) (g : Fin 128 → EReal) (k : Fin 512) : EReal :=
  headCell (∑ q : Fin 128, o (sameHead k q) * o (sameHead k q)) (o k) (g ⟨k.val % 128, Nat.mod_lt _ (by omega)⟩) (z k)

section Spec
variable (ctx : FVec Ideal ⟨3, ![2, 256, 1024]⟩ .f32) (x : FVec Ideal ⟨3, ![2, 8192, 1024]⟩ .f32) (f1 b1 f2 b2 : FVec Ideal ⟨3, ![2, 8448, 512]⟩ .bf16)
  (proj : FVec Ideal ⟨3, ![2, 8448, 3200]⟩ .f32) (g1 g2 : FVec Ideal ⟨1, ![128]⟩ .f32) (w : FVec Ideal ⟨2, ![1024, 1024]⟩ .f32)
  (gate : FVec Ideal ⟨4, ![2, 2, 1, 1024]⟩ .f32) (g : FVec Ideal ⟨1, ![1024]⟩ .f32) (shift scale : FVec Ideal ⟨4, ![2, 2, 1, 1024]⟩ .f32)

/-- One attention's four heads at a joint row: both directions' sum, under the projection's columns `o` on. -/
def halfAt (f b : FVec Ideal ⟨3, ![2, 8448, 512]⟩ .bf16) (o : ℕ) (ho : o + 512 ≤ 3200) (gn : FVec Ideal ⟨1, ![128]⟩ .f32) (s : Fin 2) (T : Fin 8448) : Fin 512 → EReal :=
  headRow (fun q => FloatOps.addf (F := Ideal) (φ := .f32) (f (ix3 s T q)) (b (ix3 s T q))) (fun q => proj (ix3 s T (⟨o + q.val, by omega⟩ : Fin 3200))) (fun q => gn (ix1 q))

/-- The eight heads at a joint row. -/
def featAt (s : Fin 2) (T : Fin 8448) (j : Fin 1024) : EReal :=
  if h : j.val < 512 then halfAt proj f1 b1 512 (by omega) g1 s T ⟨j.val, h⟩ else halfAt proj f2 b2 2560 (by omega) g2 s T ⟨j.val - 512, by omega⟩

/-- A joint row and its segment's gate times the heads' product. -/
def hAt (s : Fin 2) (T : Fin 8448) (k : Fin 1024) : EReal :=
  FloatOps.addf (F := Ideal) (φ := .f32) (rowAt ctx x s T k)
    (FloatOps.mulf (F := Ideal) (φ := .f32) (gate (ix4 s (segAt T) (0 : Fin 1) k)) (∑ c : Fin 1024, featAt f1 b1 f2 b2 proj g1 g2 s T c * w (ix2 c k)))

/-- The first result. -/
def hOut : FVec Ideal ⟨3, ![2, 8448, 1024]⟩ .f32 := fun i => hAt ctx x f1 b1 f2 b2 proj g1 g2 w gate (i 0) (i 1) (i 2)

/-- The second result. -/
def vOut : FVec Ideal ⟨3, ![2, 8448, 1024]⟩ .bf16 := fun i =>
  modRow (hAt ctx x f1 b1 f2 b2 proj g1 g2 w gate (i 0) (i 1)) (fun c => g (ix1 c)) (fun c => scale (ix4 (i 0) (segAt (i 1)) (0 : Fin 1) c))
    (fun c => shift (ix4 (i 0) (segAt (i 1)) (0 : Fin 1) c)) (i 2)

end Spec

section Ref
open Cert.Reference4Ideal Cert.Reference4Ideal.Gen
variable (ctx : FVec Ideal S2x256x1024 .f32) (x : FVec Ideal S2x8192x1024 .f32) (f1 b1 f2 b2 : FVec Ideal S2x8448x512 .bf16)
  (proj : FVec Ideal S2x8448x3200 .f32) (g1 g2 : FVec Ideal S128 .f32) (w : FVec Ideal S1024x1024 .f32)
  (gate : FVec Ideal S2x2x1x1024 .f32) (g : FVec Ideal S1024 .f32) (shift scale : FVec Ideal S2x2x1x1024 .f32)

/-- One attention's heads, as the reference spells them. -/
def refHalf (f b : FVec Ideal S2x8448x512 .bf16) (z : FVec Ideal S2x8448x512 .f32) (gn : FVec Ideal S128 .f32) : FVec Ideal S2x8448x512 .f32 :=
  (shapeCast _ (mulf (mulf (mulf (shapeCast _ (addf (extf .f32 f bitsLt_bf16_f32) (extf .f32 b bitsLt_bf16_f32)) shapeCasts_S2x8448x512_S2x8448x4x128) (broadcastInDim S2x8448x4x128 ![0, 1, 2, 3] bcast_S2x8448x4x1_S2x8448x4x128_0_1_2_3 (Host.rsqrt (addf (Host.divf
      (broadcastInDim S2x8448x4x1 ![0, 1, 2] bcast_S2x8448x4_S2x8448x4x1_0_1_2 (Host.reduceAdd (mulf (shapeCast _ (addf (extf .f32 f bitsLt_bf16_f32) (extf .f32 b bitsLt_bf16_f32)) shapeCasts_S2x8448x512_S2x8448x4x128)
        (shapeCast _ (addf (extf .f32 f bitsLt_bf16_f32) (extf .f32 b bitsLt_bf16_f32)) shapeCasts_S2x8448x512_S2x8448x4x128)) (constant S_ .f32 0x00000000#32) reducesTo_S2x8448x4x128_S2x8448x4_d3 h_S_))
      (broadcastInDim S2x8448x4x1 ![] bcast_S_S2x8448x4x1 (constant S_ .f32 0x43000000#32))) (broadcastInDim S2x8448x4x1 ![] bcast_S_S2x8448x4x1 (constant S_ .f32 0x358637BD#32))))))
    (broadcastInDim S2x8448x4x128 ![0, 1, 2, 3] bcast_S1x1x1x128_S2x8448x4x128_0_1_2_3 (broadcastInDim S1x1x1x128 ![3] bcast_S128_S1x1x1x128_3 gn)))
    (mulf (shapeCast _ z shapeCasts_S2x8448x512_S2x8448x4x128) (Host.divf (broadcastInDim S2x8448x4x128 ![] bcast_S_S2x8448x4x128 (constant S_ .f32 0x3F800000#32))
      (addf (broadcastInDim S2x8448x4x128 ![] bcast_S_S2x8448x4x128 (constant S_ .f32 0x3F800000#32)) (Host.exp (Host.negf (shapeCast _ z shapeCasts_S2x8448x512_S2x8448x4x128))))))) shapeCasts_S2x8448x4x128_S2x8448x512)

/-- A row's coordinate `k` is coordinate `k mod 128` of head `k div 128`. -/
theorem into_heads {α : Type} (z : S2x8448x512.Idx → α) (s : Fin 2) (T : Fin 8448) (a : Fin 4) (q : Fin 128) :
    shapeCast S2x8448x4x128 z shapeCasts_S2x8448x512_S2x8448x4x128 (ix4 s T a q) = z (ix3 s T (⟨a.val * 128 + q.val, by omega⟩ : Fin 512)) :=
  shapeCast_apply _ _ _ (ix3 s T (⟨a.val * 128 + q.val, by omega⟩ : Fin 512)) (by
    rw [Shape.rowMajor_val_four, Shape.rowMajor_val_three]
    show (s.val * 8448 + T.val) * 512 + (a.val * 128 + q.val) = ((s.val * 8448 + T.val) * 4 + a.val) * 128 + q.val
    omega)

theorem out_of_heads {α : Type} (z : S2x8448x4x128.Idx → α) (s : Fin 2) (T : Fin 8448) (k : Fin 512) :
    shapeCast S2x8448x512 z shapeCasts_S2x8448x4x128_S2x8448x512 (ix3 s T k)
      = z (ix4 s T (⟨k.val / 128, by omega⟩ : Fin 4) (⟨k.val % 128, Nat.mod_lt _ (by omega)⟩ : Fin 128)) :=
  shapeCast_apply _ _ _ (ix4 s T (⟨k.val / 128, by omega⟩ : Fin 4) (⟨k.val % 128, Nat.mod_lt _ (by omega)⟩ : Fin 128)) (by
    rw [Shape.rowMajor_val_four, Shape.rowMajor_val_three]
    show ((s.val * 8448 + T.val) * 4 + k.val / 128) * 128 + k.val % 128 = (s.val * 8448 + T.val) * 512 + k.val
    omega)

theorem refHalf_apply (f b : FVec Ideal S2x8448x512 .bf16) (z : FVec Ideal S2x8448x512 .f32) (gn : FVec Ideal S128 .f32) (s : Fin 2) (T : Fin 8448) (k : Fin 512) :
    refHalf f b z gn (ix3 s T k) = headRow (fun q => FloatOps.addf (F := Ideal) (φ := .f32) (f (ix3 s T q)) (b (ix3 s T q))) (fun q => z (ix3 s T q)) (fun q => gn (ix1 q)) k := by
  have hred : S2x8448x4x128.Reduces [3] S2x8448x4 := by decide
  unfold refHalf
  rw [out_of_heads]
  generalize hx : shapeCast S2x8448x4x128 (addf (extf .f32 f bitsLt_bf16_f32) (extf .f32 b bitsLt_bf16_f32)) shapeCasts_S2x8448x512_S2x8448x4x128 = X
  generalize hz : shapeCast S2x8448x4x128 z shapeCasts_S2x8448x512_S2x8448x4x128 = Z
  have atX : ∀ (a : Fin 4) (q : Fin 128), X (ix4 s T a q) = FloatOps.addf (F := Ideal) (φ := .f32) (f (ix3 s T (⟨a.val * 128 + q.val, by omega⟩ : Fin 512))) (b (ix3 s T (⟨a.val * 128 + q.val, by omega⟩ : Fin 512))) := fun a q => by
    rw [← hx, into_heads]
    rfl
  have atZ : ∀ (a : Fin 4) (q : Fin 128), Z (ix4 s T a q) = z (ix3 s T (⟨a.val * 128 + q.val, by omega⟩ : Fin 512)) := fun a q => by
    rw [← hz, into_heads]
  generalize ha : (⟨k.val / 128, by omega⟩ : Fin 4) = a
  generalize hq : (⟨k.val % 128, Nat.mod_lt _ (by omega)⟩ : Fin 128) = q
  have av : k.val / 128 = a.val := congrArg Fin.val ha
  have qv : k.val % 128 = q.val := congrArg Fin.val hq
  have back : (⟨a.val * 128 + q.val, by omega⟩ : Fin 512) = k := Fin.ext (by show a.val * 128 + q.val = k.val; omega)
  have gain : broadcastInDim S2x8448x4x128 ![0, 1, 2, 3] bcast_S1x1x1x128_S2x8448x4x128_0_1_2_3 (broadcastInDim S1x1x1x128 ![3] bcast_S128_S1x1x1x128_3 gn) (ix4 s T a q) = gn (ix1 q) := by
    have wide : ∀ y : FVec Ideal S1x1x1x128 .f32, broadcastInDim S2x8448x4x128 ![0, 1, 2, 3] bcast_S1x1x1x128_S2x8448x4x128_0_1_2_3 y (ix4 s T a q) = y (ix4 (0 : Fin 1) (0 : Fin 1) (0 : Fin 1) q) := fun y =>
      broadcastInDim_apply ![0, 1, 2, 3] _ y (ix4 s T a q) (ix4 (0 : Fin 1) (0 : Fin 1) (0 : Fin 1) q) fun d => match d with
        | ⟨0, _⟩ => rfl
        | ⟨1, _⟩ => rfl
        | ⟨2, _⟩ => rfl
        | ⟨3, _⟩ => rfl
    rw [wide]
    exact broadcastInDim_apply ![3] _ gn (ix4 (0 : Fin 1) (0 : Fin 1) (0 : Fin 1) q) (ix1 q) fun d => match d with
      | ⟨0, _⟩ => rfl
  have col : ∀ y : FVec Ideal S2x8448x4x1 .f32, broadcastInDim S2x8448x4x128 ![0, 1, 2, 3] bcast_S2x8448x4x1_S2x8448x4x128_0_1_2_3 y (ix4 s T a q) = y (ix4 s T a (0 : Fin 1)) := fun y =>
    broadcastInDim_apply ![0, 1, 2, 3] _ y (ix4 s T a q) (ix4 s T a (0 : Fin 1)) fun d => match d with
      | ⟨0, _⟩ => rfl
      | ⟨1, _⟩ => rfl
      | ⟨2, _⟩ => rfl
      | ⟨3, _⟩ => rfl
  have sum : broadcastInDim S2x8448x4x1 ![0, 1, 2] bcast_S2x8448x4_S2x8448x4x1_0_1_2 (Host.reduceAdd (F := Ideal) (mulf X X) (constant S_ .f32 0x00000000#32) reducesTo_S2x8448x4x128_S2x8448x4_d3 h_S_) (ix4 s T a (0 : Fin 1))
      = ∑ p : Fin 128, X (ix4 s T a p) * X (ix4 s T a p) := by
    have col1 : ∀ y : FVec Ideal S2x8448x4 .f32, broadcastInDim S2x8448x4x1 ![0, 1, 2] bcast_S2x8448x4_S2x8448x4x1_0_1_2 y (ix4 s T a (0 : Fin 1)) = y (ix3 s T a) := fun y =>
      broadcastInDim_apply ![0, 1, 2] _ y (ix4 s T a (0 : Fin 1)) (ix3 s T a) fun d => match d with
        | ⟨0, _⟩ => rfl
        | ⟨1, _⟩ => rfl
        | ⟨2, _⟩ => rfl
    rw [col1]
    show Ideal.hostReduceAdd _ _ _ _ = _
    rw [Ideal.hostReduceAdd_single _ hred, show (constant (F := Ideal) S_ .f32 0x00000000#32 (Shape.Idx.first h_S_) : EReal) = 0 from Ideal.ofBits_zero_f32, zero_add]
    refine Finset.sum_congr rfl fun p _ => ?_
    have e : hred.lift (ix3 s T a) p = ix4 s T a p := by
      funext d
      match d with
      | ⟨0, _⟩ => rfl
      | ⟨1, _⟩ => rfl
      | ⟨2, _⟩ => rfl
      | ⟨3, _⟩ => rfl
    rw [e]
    rfl
  have cell : ∀ A G C : FVec Ideal S2x8448x4x128 .f32, mulf (mulf (mulf X A) G) C (ix4 s T a q)
      = FloatOps.mulf (FloatOps.mulf (FloatOps.mulf (X (ix4 s T a q)) (A (ix4 s T a q))) (G (ix4 s T a q))) (C (ix4 s T a q)) := fun _ _ _ => rfl
  have actv : mulf Z (Host.divf (broadcastInDim S2x8448x4x128 ![] bcast_S_S2x8448x4x128 (constant S_ .f32 0x3F800000#32))
      (addf (broadcastInDim S2x8448x4x128 ![] bcast_S_S2x8448x4x128 (constant S_ .f32 0x3F800000#32)) (Host.exp (Host.negf Z)))) (ix4 s T a q) = act (Z (ix4 s T a q)) := rfl
  have same : ∀ p : Fin 128, (⟨a.val * 128 + p.val, by omega⟩ : Fin 512) = sameHead k p := fun p =>
    Fin.ext (by show a.val * 128 + p.val = k.val / 128 * 128 + p.val; rw [av])
  rw [cell, gain, col, actv, atZ, atX, back]
  unfold headRow
  simp only [← same, ← atX]
  rw [← sum, hq]
  rfl

/-- The eight heads, as the reference spells them. -/
def refFeat : FVec Ideal S2x8448x1024 .f32 :=
  concatenate S2x8448x1024 2 [⟨S2x8448x512, refHalf f1 b1 (extractStridedSlice S2x8448x512 ![0, 0, 512] proj slices_S2x8448x3200_S2x8448x512_0_0_512) g1⟩,
    ⟨S2x8448x512, refHalf f2 b2 (extractStridedSlice S2x8448x512 ![0, 0, 2560] proj slices_S2x8448x3200_S2x8448x512_0_0_2560) g2⟩] concatenates_S2x8448x512_S2x8448x512_S2x8448x1024_d2

theorem refFeat_apply (s : Fin 2) (T : Fin 8448) (j : Fin 1024) : refFeat f1 b1 f2 b2 proj g1 g2 (ix3 s T j) = featAt f1 b1 f2 b2 proj g1 g2 s T j := by
  have z1 : (fun q => extractStridedSlice S2x8448x512 ![0, 0, 512] proj slices_S2x8448x3200_S2x8448x512_0_0_512 (ix3 s T q)) = fun q : Fin 512 => proj (ix3 s T (⟨512 + q.val, by omega⟩ : Fin 3200)) :=
    funext fun q => cols_three 512 proj _ s T q _ rfl
  have z2 : (fun q => extractStridedSlice S2x8448x512 ![0, 0, 2560] proj slices_S2x8448x3200_S2x8448x512_0_0_2560 (ix3 s T q)) = fun q : Fin 512 => proj (ix3 s T (⟨2560 + q.val, by omega⟩ : Fin 3200)) :=
    funext fun q => cols_three 2560 proj _ s T q _ rfl
  unfold refFeat featAt halfAt
  by_cases h : j.val < 512
  · rw [dif_pos h, ← z1]
    exact (cat_three _ _ s T j 0 (by simp) _ rfl 0 rfl ⟨j.val, h⟩ (Nat.zero_add _)).trans (refHalf_apply f1 b1 _ g1 s T _)
  · rw [dif_neg h, ← z2]
    exact (cat_three _ _ s T j 1 (by simp) _ rfl 512 rfl ⟨j.val - 512, by omega⟩ (by show 512 + (j.val - 512) = j.val; omega)).trans (refHalf_apply f2 b2 _ g2 s T _)

/-- Rows `o` on, of the samples' matrices. -/
theorem rows_from {α : Type} {a m n p : ℕ} (o : ℕ) (y : (⟨3, ![a, m, n]⟩ : Shape).Idx → α) (h : (⟨3, ![a, m, n]⟩ : Shape).Slices ![0, o, 0] ⟨3, ![a, p, n]⟩)
    (b : Fin a) (r : Fin p) (q : Fin n) (R : Fin m) (hR : R.val = o + r.val) : extractStridedSlice ⟨3, ![a, p, n]⟩ ![0, o, 0] y h (ix3 b r q) = y (ix3 b R q) :=
  extractStridedSlice_apply _ y h (ix3 b r q) (ix3 b R q) fun d => match d with
    | ⟨0, _⟩ => (Nat.zero_add _).symm
    | ⟨1, _⟩ => hR
    | ⟨2, _⟩ => (Nat.zero_add _).symm

/-- The context's new rows, as the reference spells them. -/
def refCtx : FVec Ideal S2x256x1024 .f32 :=
  addf ctx (mulf (broadcastInDim S2x256x1024 ![0, 1, 2] bcast_S2x1x1024_S2x256x1024_0_1_2 (shapeCast _ (extractStridedSlice S2x1x1x1024 ![0, 0, 0, 0] gate slices_S2x2x1x1024_S2x1x1x1024_0_0_0_0) shapeCasts_S2x1x1x1024_S2x1x1024))
    (Host.dotGeneral dot_S2x256x1024_S1024x1024_S2x256x1024_2_0_01_1_n_n none (extractStridedSlice S2x256x1024 ![0, 0, 0] (refFeat f1 b1 f2 b2 proj g1 g2) slices_S2x8448x1024_S2x256x1024_0_0_0) w))

/-- The sequence's new rows, as the reference spells them. -/
def refSeq : FVec Ideal S2x8192x1024 .f32 :=
  addf x (mulf (broadcastInDim S2x8192x1024 ![0, 1, 2] bcast_S2x1x1024_S2x8192x1024_0_1_2 (shapeCast _ (extractStridedSlice S2x1x1x1024 ![0, 1, 0, 0] gate slices_S2x2x1x1024_S2x1x1x1024_0_1_0_0) shapeCasts_S2x1x1x1024_S2x1x1024))
    (Host.dotGeneral dot_S2x8192x1024_S1024x1024_S2x8192x1024_2_0_01_1_n_n none (extractStridedSlice S2x8192x1024 ![0, 256, 0] (refFeat f1 b1 f2 b2 proj g1 g2) slices_S2x8448x1024_S2x8192x1024_0_256_0) w))

/-- A new row of either segment. -/
theorem new_row {n : ℕ} (y : FVec Ideal ⟨3, ![2, n, 1024]⟩ .f32) (hm : (⟨3, ![2, 1, 1024]⟩ : Shape).BroadcastsInDim ⟨3, ![2, n, 1024]⟩ ![0, 1, 2]) (v : FVec Ideal ⟨3, ![2, 1, 1024]⟩ .f32)
    (wf : DotDims.WF ⟨3, ![2, n, 1024]⟩ ⟨2, ![1024, 1024]⟩ ⟨3, ![2, n, 1024]⟩ [2] [0] [0, 1] [1] [] []) (A : FVec Ideal ⟨3, ![2, n, 1024]⟩ .f32) (s : Fin 2) (r : Fin n) (k : Fin 1024) :
    addf y (mulf (broadcastInDim ⟨3, ![2, n, 1024]⟩ ![0, 1, 2] hm v) (Host.dotGeneral (⟨[2], [0], [0, 1], [1], [], [], wf⟩ : DotDims _ _ _) none A w)) (ix3 s r k)
      = FloatOps.addf (F := Ideal) (φ := .f32) (y (ix3 s r k)) (FloatOps.mulf (F := Ideal) (φ := .f32) (v (ix3 s (0 : Fin 1) k)) (∑ c : Fin 1024, A (ix3 s r c) * w (ix2 c k))) := by
  have row : broadcastInDim ⟨3, ![2, n, 1024]⟩ ![0, 1, 2] hm v (ix3 s r k) = v (ix3 s (0 : Fin 1) k) :=
    broadcastInDim_apply ![0, 1, 2] hm v (ix3 s r k) (ix3 s (0 : Fin 1) k) fun d => match d with
      | ⟨0, _⟩ => rfl
      | ⟨1, _⟩ => rfl
      | ⟨2, _⟩ => rfl
  rw [← row, ← rows_product wf A w s r k]
  rfl

theorem refCtx_apply (s : Fin 2) (r : Fin 256) (k : Fin 1024) :
    refCtx ctx f1 b1 f2 b2 proj g1 g2 w gate (ix3 s r k) = hAt ctx x f1 b1 f2 b2 proj g1 g2 w gate s ⟨r.val, by omega⟩ k := by
  refine (new_row w ctx _ _ _ _ s r k).trans ?_
  unfold hAt rowAt segAt
  rw [dif_pos r.isLt, if_pos r.isLt, seg_apply 0 gate slices_S2x2x1x1024_S2x1x1x1024_0_0_0_0 shapeCasts_S2x1x1x1024_S2x1x1024 s 0 rfl]
  refine congrArg (FloatOps.addf _) (congrArg (FloatOps.mulf _) (Finset.sum_congr rfl fun c _ => congrArg (· * w (ix2 c k)) ?_))
  exact (rows_from 0 (refFeat f1 b1 f2 b2 proj g1 g2) _ s r c ⟨r.val, by omega⟩ (Nat.zero_add _).symm).trans (refFeat_apply f1 b1 f2 b2 proj g1 g2 s _ c)

theorem refSeq_apply (s : Fin 2) (r : Fin 8192) (k : Fin 1024) :
    refSeq x f1 b1 f2 b2 proj g1 g2 w gate (ix3 s r k) = hAt ctx x f1 b1 f2 b2 proj g1 g2 w gate s ⟨256 + r.val, by omega⟩ k := by
  have past : ¬ 256 + r.val < 256 := by omega
  have back : (⟨256 + r.val - 256, by omega⟩ : Fin 8192) = r := Fin.ext (Nat.add_sub_cancel_left _ _)
  refine (new_row w x _ _ _ _ s r k).trans ?_
  unfold hAt rowAt segAt
  rw [dif_neg past, if_neg past, seg_apply 1 gate slices_S2x2x1x1024_S2x1x1x1024_0_1_0_0 shapeCasts_S2x1x1x1024_S2x1x1024 s 1 rfl]
  dsimp only
  rw [back]
  refine congrArg (FloatOps.addf _) (congrArg (FloatOps.mulf _) (Finset.sum_congr rfl fun c _ => congrArg (· * w (ix2 c k)) ?_))
  exact (rows_from 256 (refFeat f1 b1 f2 b2 proj g1 g2) _ s r c ⟨256 + r.val, by omega⟩ rfl).trans (refFeat_apply f1 b1 f2 b2 proj g1 g2 s _ c)

/-- The two segments' rows, one after the other. -/
theorem joined_rows (A : FVec Ideal S2x256x1024 .f32) (B : FVec Ideal S2x8192x1024 .f32) (z : Fin 2 → Fin 8448 → Fin 1024 → EReal)
    (hA : ∀ s r k, A (ix3 s r k) = z s ⟨r.val, by omega⟩ k) (hB : ∀ s r k, B (ix3 s r k) = z s ⟨256 + r.val, by omega⟩ k) (s : Fin 2) (T : Fin 8448) (k : Fin 1024) :
    concatenate S2x8448x1024 1 [⟨S2x256x1024, A⟩, ⟨S2x8192x1024, B⟩] concatenates_S2x256x1024_S2x8192x1024_S2x8448x1024_d1 (ix3 s T k) = z s T k := by
  by_cases h : T.val < 256
  · exact (concatenate_pair_apply_left (t := S2x8448x1024) (s₁ := S2x256x1024) (s₂ := S2x8192x1024) 1 _ _ _ (ix3 s T k) rfl (ix3 s (⟨T.val, h⟩ : Fin 256) k : S2x256x1024.Idx) (fun d => match d with
      | ⟨0, _⟩ => rfl
      | ⟨1, _⟩ => rfl
      | ⟨2, _⟩ => rfl)).trans (hA s _ k)
  · refine (concatenate_pair_apply_right (t := S2x8448x1024) (s₁ := S2x256x1024) (s₂ := S2x8192x1024) 1 _ _ _ (ix3 s T k) rfl rfl (ix3 s (⟨T.val - 256, by omega⟩ : Fin 8192) k : S2x8192x1024.Idx) (fun d hd => match d, hd with
      | ⟨0, _⟩, _ => rfl
      | ⟨1, _⟩, hd => absurd rfl hd
      | ⟨2, _⟩, _ => rfl) (by show T.val - 256 + 256 = T.val; omega)).trans ((hB s _ k).trans (congrArg (fun t => z s t k) (Fin.ext ?_)))
    show 256 + (T.val - 256) = T.val
    omega

theorem ref_h : concatenate S2x8448x1024 1 [⟨S2x256x1024, refCtx ctx f1 b1 f2 b2 proj g1 g2 w gate⟩, ⟨S2x8192x1024, refSeq x f1 b1 f2 b2 proj g1 g2 w gate⟩] concatenates_S2x256x1024_S2x8192x1024_S2x8448x1024_d1
    = hOut ctx x f1 b1 f2 b2 proj g1 g2 w gate := by
  funext i
  obtain ⟨s, T, k, rfl⟩ : ∃ (s : Fin 2) (T : Fin 8448) (k : Fin 1024), i = ix3 s T k := ⟨_, _, _, eq_ix3 i⟩
  exact joined_rows _ _ (hAt ctx x f1 b1 f2 b2 proj g1 g2 w gate) (refCtx_apply ctx x f1 b1 f2 b2 proj g1 g2 w gate) (refSeq_apply ctx x f1 b1 f2 b2 proj g1 g2 w gate) s T k

/-- The context's rows modulated, as the reference spells them. -/
def modCtx (v : FVec Ideal S2x256x1024 .f32) : FVec Ideal S2x256x1024 .f32 :=
  (addf (mulf (mulf (mulf v
      (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf v v) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32))))))
      (broadcastInDim S2x256x1024 ![0, 1, 2] bcast_S1x1x1024_S2x256x1024_0_1_2 (broadcastInDim S1x1x1024 ![2] bcast_S1024_S1x1x1024_2 g)))
      (broadcastInDim S2x256x1024 ![0, 1, 2] bcast_S2x1x1024_S2x256x1024_0_1_2 (addf (broadcastInDim S2x1x1024 ![] bcast_S_S2x1x1024 (constant S_ .f32 0x3F800000#32)) (shapeCast _ (extractStridedSlice S2x1x1x1024 ![0, 0, 0, 0] scale slices_S2x2x1x1024_S2x1x1x1024_0_0_0_0) shapeCasts_S2x1x1x1024_S2x1x1024))))
      (broadcastInDim S2x256x1024 ![0, 1, 2] bcast_S2x1x1024_S2x256x1024_0_1_2 (shapeCast _ (extractStridedSlice S2x1x1x1024 ![0, 0, 0, 0] shift slices_S2x2x1x1024_S2x1x1x1024_0_0_0_0) shapeCasts_S2x1x1x1024_S2x1x1024)))

/-- The sequence's rows modulated, as the reference spells them. -/
def modSeq (v : FVec Ideal S2x8192x1024 .f32) : FVec Ideal S2x8192x1024 .f32 :=
  (addf (mulf (mulf (mulf v
      (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v v) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
      (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1024 ![0, 1, 0, 0] scale slices_S2x2x1x1024_S2x1x1x1024_0_1_0_0) shapeCasts_S2x1x1x1024_S2x1x1024))))
      (broadcastInDim S2x8192x1024 ![0, 1, 2] bcast_S2x1x1024_S2x8192x1024_0_1_2 (shapeCast _ (extractStridedSlice S2x1x1x1024 ![0, 1, 0, 0] shift slices_S2x2x1x1024_S2x1x1x1024_0_1_0_0) shapeCasts_S2x1x1x1024_S2x1x1024)))

theorem ref_v : truncf .bf16 (concatenate S2x8448x1024 1 [⟨S2x256x1024, modCtx g shift scale (refCtx ctx f1 b1 f2 b2 proj g1 g2 w gate)⟩,
      ⟨S2x8192x1024, modSeq g shift scale (refSeq x f1 b1 f2 b2 proj g1 g2 w gate)⟩] concatenates_S2x256x1024_S2x8192x1024_S2x8448x1024_d1) bitsLt_bf16_f32
    = vOut ctx x f1 b1 f2 b2 proj g1 g2 w gate g shift scale := by
  funext i
  obtain ⟨s, T, k, rfl⟩ : ∃ (s : Fin 2) (T : Fin 8448) (k : Fin 1024), i = ix3 s T k := ⟨_, _, _, eq_ix3 i⟩
  refine joined_rows _ _ (fun s T k => modRow (hAt ctx x f1 b1 f2 b2 proj g1 g2 w gate s T) (fun c => g (ix1 c)) (fun c => scale (ix4 s (segAt T) (0 : Fin 1) c))
    (fun c => shift (ix4 s (segAt T) (0 : Fin 1) c)) k) (fun s r k => ?_) (fun s r k => ?_) s T k
  · refine (host_modulate _ g _ _ (by decide) _ _ _ _ _ _ _ _ _ s r k).trans ?_
    simp only [refCtx_apply ctx x f1 b1 f2 b2 proj g1 g2 w gate, segAt, r.isLt, if_true,
      seg_apply 0 scale slices_S2x2x1x1024_S2x1x1x1024_0_0_0_0 shapeCasts_S2x1x1x1024_S2x1x1024 s 0 rfl,
      seg_apply 0 shift slices_S2x2x1x1024_S2x1x1x1024_0_0_0_0 shapeCasts_S2x1x1x1024_S2x1x1024 s 0 rfl]
  · have past : ¬ 256 + r.val < 256 := by omega
    refine (host_modulate _ g _ _ (by decide) _ _ _ _ _ _ _ _ _ s r k).trans ?_
    simp only [refSeq_apply ctx x f1 b1 f2 b2 proj g1 g2 w gate, segAt, past, if_false,
      seg_apply 1 scale slices_S2x2x1x1024_S2x1x1x1024_0_1_0_0 shapeCasts_S2x1x1x1024_S2x1x1024 s 1 rfl,
      seg_apply 1 shift slices_S2x2x1x1024_S2x1x1x1024_0_1_0_0 shapeCasts_S2x1x1x1024_S2x1x1024 s 1 rfl]

end Ref

end Cert.Mix

end
-- ==== Proof.MixBody.lean ====
/- The even layer's output projection, its body: what one grid point computes from its blocks. -/
module

public import proofs.«01_k».proof.Proof.MixRef
public import proofs.«01_k».proof.Proof.ProjBody
public import proofs.«01_k».proof.Proof.Gen.Kernel4Ideal.Value

@[expose] public section

noncomputable section

namespace Cert.Mix

open Cert.Kernel4Ideal Cert.Kernel4Ideal.Gen
open Idealize.ShloMosaic Idealize.ShloMosaic.ValueIdx Idealize.ShloMosaic.StackMember
open Idealize.ShloMosaic.TcCoe
open Idealize.SL.Sem
open Idealize.ShloMosaic.Pipeline (Dat Cfg Window)
open Cert.Proj (modRow block_modulate block_product first_iff cat_two cols_two)
open Cert.Experts (act)

/-- A head's columns of a block, normalised and gated, as the body spells them. -/
def headBlock (o : ℕ) (X Z : FVec Ideal S256x512 .f32) (g : FVec Ideal S1x128 .f32) (hs : S256x512.Slices ![0, o] S256x128) : FVec Ideal S256x128 .f32 :=
  mulf (mulf (mulf (extractStridedSlice S256x128 ![0, o] X hs) (broadcastTo S256x128 (rsqrt (addf (divf (shapeCast S256x1
      (multiReduction (F := Ideal) .add [1] S256 (mulf (extractStridedSlice S256x128 ![0, o] X hs) (extractStridedSlice S256x128 ![0, o] X hs)) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128)) (broadcastTo S256x128 g broadcasts_S1x128_S256x128))
    (mulf (extractStridedSlice S256x128 ![0, o] Z hs) (divf (broadcast S256x128 (Scalar.ofBits .f32 0x3F800000#32)) (addf (broadcast S256x128 (Scalar.ofBits .f32 0x3F800000#32))
      (exp (subf (broadcast S256x128 (Scalar.ofBits .f32 0x00000000#32)) (extractStridedSlice S256x128 ![0, o] Z hs))))))

theorem headBlock_apply (o : ℕ) (X Z : FVec Ideal S256x512 .f32) (g : FVec Ideal S1x128 .f32) (hs : S256x512.Slices ![0, o] S256x128) (a : ℕ) (ha : o = a * 128) (r : Fin 256) (q : Fin 128)
    (k : Fin 512) (hk : k.val = o + q.val) :
    headBlock o X Z g hs (ix2 r q) = headRow (fun j => X (ix2 r j)) (fun j => Z (ix2 r j)) (fun j => g (ix2 (0 : Fin 1) j)) k := by
  have hq := q.isLt
  have cut : ∀ (y : FVec Ideal S256x512 .f32) (p : Fin 128), extractStridedSlice S256x128 ![0, o] y hs (ix2 r p) = y (ix2 r (sameHead k p)) := fun y p =>
    cols_two o y hs r p (sameHead k p) (by show k.val / 128 * 128 + p.val = o + p.val; omega)
  have self : sameHead k q = k := Fin.ext (by show k.val / 128 * 128 + q.val = k.val; omega)
  have inner : (⟨k.val % 128, Nat.mod_lt _ (by omega)⟩ : Fin 128) = q := Fin.ext (by show k.val % 128 = q.val; omega)
  unfold headBlock headRow
  generalize hx : extractStridedSlice S256x128 ![0, o] X hs = x
  generalize hz : extractStridedSlice S256x128 ![0, o] Z hs = z
  have atx : ∀ p, x (ix2 r p) = X (ix2 r (sameHead k p)) := fun p => by rw [← hx]; exact cut X p
  have atz : z (ix2 r q) = Z (ix2 r k) := by rw [← hz, cut Z q, self]
  have sum : shapeCast S256x1 (multiReduction (F := Ideal) .add [1] S256 (mulf x x) 0x00000000#32 reduces_S256x128_S256 (.inl rfl) rfl) shapeCasts_S256_S256x1 (ix2 r (0 : Fin 1))
      = ∑ p : Fin 128, x (ix2 r p) * x (ix2 r p) := by
    refine (shapeCast_apply _ _ _ (ix1 r) ?_).trans ((Ideal.multiReduction_add_single _ _ reduces_S256x128_S256 _ _ (ix1 r)).trans (Finset.sum_congr rfl fun p _ => ?_))
    · rw [Shape.rowMajor_val_one, Shape.rowMajor_val_two]
      show r.val = r.val * 1 + 0
      omega
    · have e : reduces_S256x128_S256.lift (ix1 r) p = ix2 r p := by
        funext d
        match d with
        | ⟨0, _⟩ => rfl
        | ⟨1, _⟩ => rfl
      rw [e]
      rfl
  have col : ∀ y : FVec Ideal S256x1 .f32, broadcastTo S256x128 y broadcasts_S256x1_S256x128 (ix2 r q) = y (ix2 r (0 : Fin 1)) := fun y =>
    broadcastTo_apply y _ (ix2 r q) (ix2 r (0 : Fin 1)) fun d => match d with
      | ⟨0, _⟩ => rfl
      | ⟨1, _⟩ => rfl
  have row : broadcastTo S256x128 g broadcasts_S1x128_S256x128 (ix2 r q) = g (ix2 (0 : Fin 1) q) :=
    broadcastTo_apply g _ (ix2 r q) (ix2 (0 : Fin 1) q) fun d => match d with
      | ⟨0, _⟩ => rfl
      | ⟨1, _⟩ => rfl
  have cell : ∀ A G C : FVec Ideal S256x128 .f32, mulf (mulf (mulf x A) G) C (ix2 r q)
      = FloatOps.mulf (FloatOps.mulf (FloatOps.mulf (x (ix2 r q)) (A (ix2 r q))) (G (ix2 r q))) (C (ix2 r q)) := fun _ _ _ => rfl
  have actv : mulf z (divf (broadcast S256x128 (Scalar.ofBits .f32 0x3F800000#32)) (addf (broadcast S256x128 (Scalar.ofBits .f32 0x3F800000#32))
      (exp (subf (broadcast S256x128 (Scalar.ofBits .f32 0x00000000#32)) z)))) (ix2 r q) = act (z (ix2 r q)) := by
    unfold act
    rw [← Ideal.subf_zero_eq_hostNegf]
    rfl
  rw [cell, col, row, actv, atz, inner]
  simp only [← atx]
  rw [← sum, show X (ix2 r k) = x (ix2 r q) by rw [atx, self]]
  rfl

/-- The eight heads of a block, as the body computes them. -/
abbrev headsOf (f1 b1 f2 b2 : FVec Ideal S1x256x512 .bf16) (z1 z2 : FVec Ideal S1x256x512 .f32) (g1 g2 : FVec Ideal S1x128 .f32) : FVec Ideal S256x1024 .bf16 :=
  k0_pay22 (F := Ideal) (k0_pay6 f2 b2) (k0_pay7 z2) (k0_pay8 g2) (k0_pay10 (k0_pay4 z1) (k0_pay5 g1) (k0_pay9 f1 b1)) (k0_pay11 (k0_pay3 f1 b1) (k0_pay4 z1) (k0_pay5 g1))
    (k0_pay13 (k0_pay4 z1) (k0_pay12 (k0_pay3 f1 b1) (k0_pay5 g1))) (k0_pay14 (k0_pay3 f1 b1) (k0_pay4 z1) (k0_pay5 g1))
    (k0_pay17 (k0_pay15 (k0_pay6 f2 b2) (k0_pay8 g2)) (k0_pay16 (k0_pay7 z2)) (Scalar.ofBits .f32 0x00000000#32)) (k0_pay18 (k0_pay6 f2 b2) (k0_pay7 z2) (k0_pay8 g2))
    (k0_pay19 (k0_pay6 f2 b2) (k0_pay8 g2)) (k0_pay20 (k0_pay7 z2)) (k0_pay21 (k0_pay7 z2))

/-- One attention's heads of a block's row. -/
def rowHeads (f b : FVec Ideal S1x256x512 .bf16) (z : FVec Ideal S1x256x512 .f32) (g : FVec Ideal S1x128 .f32) (r : Fin 256) : Fin 512 → EReal :=
  headRow (fun j => FloatOps.addf (F := Ideal) (φ := .f32) (f (ix3 (0 : Fin 1) r j)) (b (ix3 (0 : Fin 1) r j))) (fun j => z (ix3 (0 : Fin 1) r j)) (fun j => g (ix2 (0 : Fin 1) j))

section Blocks
variable (f1 b1 f2 b2 : FVec Ideal S1x256x512 .bf16) (z1 z2 : FVec Ideal S1x256x512 .f32) (g1 g2 : FVec Ideal S1x128 .f32)

theorem flat_rows {α : Type} (z : S1x256x512.Idx → α) (r : Fin 256) (j : Fin 512) : shapeCast S256x512 z shapeCasts_S1x256x512_S256x512 (ix2 r j) = z (ix3 (0 : Fin 1) r j) :=
  shapeCast_apply _ _ _ (ix3 (0 : Fin 1) r j) (by
    rw [Shape.rowMajor_val_three, Shape.rowMajor_val_two]
    show (0 * 256 + r.val) * 512 + j.val = r.val * 512 + j.val
    omega)

theorem headBlock_rows (o : ℕ) (f b : FVec Ideal S1x256x512 .bf16) (z : FVec Ideal S1x256x512 .f32) (g : FVec Ideal S1x128 .f32) (hs : S256x512.Slices ![0, o] S256x128) (a : ℕ) (ha : o = a * 128)
    (r : Fin 256) (q : Fin 128) (k : Fin 512) (hk : k.val = o + q.val) :
    headBlock o (k0_pay3 (F := Ideal) f b) (k0_pay4 (F := Ideal) z) (k0_pay5 (F := Ideal) g) hs (ix2 r q) = rowHeads f b z g r k := by
  have e1 : (fun j => k0_pay3 (F := Ideal) f b (ix2 r j)) = fun j => FloatOps.addf (F := Ideal) (φ := .f32) (f (ix3 (0 : Fin 1) r j)) (b (ix3 (0 : Fin 1) r j)) := funext fun j => by
    rw [← flat_rows f r j, ← flat_rows b r j]
    rfl
  have e2 : (fun j => k0_pay4 (F := Ideal) z (ix2 r j)) = fun j => z (ix3 (0 : Fin 1) r j) := funext fun j => flat_rows z r j
  have e3 : (fun j => k0_pay5 (F := Ideal) g (ix2 (0 : Fin 1) j)) = fun j => g (ix2 (0 : Fin 1) j) := funext fun j => shapeCast_apply g shapeCasts_S1x128_S1x128 _ _ rfl
  refine (headBlock_apply o _ _ _ hs a ha r q k hk).trans ?_
  rw [e1, e2, e3]
  rfl

/-- The body's eight pieces are the heads. -/
theorem heads_eq : headsOf f1 b1 f2 b2 z1 z2 g1 g2 = truncf .bf16 (concatenate S256x1024 1
    [⟨S256x128, headBlock 0 (k0_pay3 (F := Ideal) f1 b1) (k0_pay4 (F := Ideal) z1) (k0_pay5 (F := Ideal) g1) slices_S256x512_o0_0_S256x128⟩,
     ⟨S256x128, headBlock 128 (k0_pay3 (F := Ideal) f1 b1) (k0_pay4 (F := Ideal) z1) (k0_pay5 (F := Ideal) g1) slices_S256x512_o0_128_S256x128⟩,
     ⟨S256x128, headBlock 256 (k0_pay3 (F := Ideal) f1 b1) (k0_pay4 (F := Ideal) z1) (k0_pay5 (F := Ideal) g1) slices_S256x512_o0_256_S256x128⟩,
     ⟨S256x128, headBlock 384 (k0_pay3 (F := Ideal) f1 b1) (k0_pay4 (F := Ideal) z1) (k0_pay5 (F := Ideal) g1) slices_S256x512_o0_384_S256x128⟩,
     ⟨S256x128, headBlock 0 (k0_pay3 (F := Ideal) f2 b2) (k0_pay4 (F := Ideal) z2) (k0_pay5 (F := Ideal) g2) slices_S256x512_o0_0_S256x128⟩,
     ⟨S256x128, headBlock 128 (k0_pay3 (F := Ideal) f2 b2) (k0_pay4 (F := Ideal) z2) (k0_pay5 (F := Ideal) g2) slices_S256x512_o0_128_S256x128⟩,
     ⟨S256x128, headBlock 256 (k0_pay3 (F := Ideal) f2 b2) (k0_pay4 (F := Ideal) z2) (k0_pay5 (F := Ideal) g2) slices_S256x512_o0_256_S256x128⟩,
     ⟨S256x128, headBlock 384 (k0_pay3 (F := Ideal) f2 b2) (k0_pay4 (F := Ideal) z2) (k0_pay5 (F := Ideal) g2) slices_S256x512_o0_384_S256x128⟩]
    concatenates_S256x128_S256x128_S256x128_S256x128_S256x128_S256x128_S256x128_S256x128_S256x1024_d1) bitsLt_bf16_f32 := rfl

theorem headsOf_apply (r : Fin 256) (j : Fin 1024) : headsOf f1 b1 f2 b2 z1 z2 g1 g2 (ix2 r j)
    = if h : j.val < 512 then rowHeads f1 b1 z1 g1 r ⟨j.val, h⟩ else rowHeads f2 b2 z2 g2 r ⟨j.val - 512, by omega⟩ := by
  have tr : ∀ z : FVec Ideal S256x1024 .f32, truncf .bf16 z bitsLt_bf16_f32 (ix2 r j) = z (ix2 r j) := fun _ => rfl
  rw [heads_eq]
  refine (tr _).trans ?_
  by_cases h : j.val < 512
  · rw [dif_pos h]
    by_cases a1 : j.val < 128
    · exact (cat_two _ _ r j 0 (by simp) _ rfl 0 rfl ⟨j.val, a1⟩ (Nat.zero_add _)).trans (headBlock_rows 0 f1 b1 z1 g1 _ 0 rfl r _ _ (Nat.zero_add _).symm)
    by_cases a2 : j.val < 256
    · exact (cat_two _ _ r j 1 (by simp) _ rfl 128 rfl ⟨j.val - 128, by omega⟩ (by show 128 + (j.val - 128) = j.val; omega)).trans
        (headBlock_rows 128 f1 b1 z1 g1 _ 1 rfl r _ _ (by show j.val = 128 + (j.val - 128); omega))
    by_cases a3 : j.val < 384
    · exact (cat_two _ _ r j 2 (by simp) _ rfl 256 rfl ⟨j.val - 256, by omega⟩ (by show 256 + (j.val - 256) = j.val; omega)).trans
        (headBlock_rows 256 f1 b1 z1 g1 _ 2 rfl r _ _ (by show j.val = 256 + (j.val - 256); omega))
    exact (cat_two _ _ r j 3 (by simp) _ rfl 384 rfl ⟨j.val - 384, by omega⟩ (by show 384 + (j.val - 384) = j.val; omega)).trans
      (headBlock_rows 384 f1 b1 z1 g1 _ 3 rfl r _ _ (by show j.val = 384 + (j.val - 384); omega))
  · rw [dif_neg h]
    by_cases a1 : j.val < 640
    · exact (cat_two _ _ r j 4 (by simp) _ rfl 512 rfl ⟨j.val - 512, by omega⟩ (by show 512 + (j.val - 512) = j.val; omega)).trans
        (headBlock_rows 0 f2 b2 z2 g2 _ 0 rfl r _ _ (by show j.val - 512 = 0 + (j.val - 512); omega))
    by_cases a2 : j.val < 768
    · exact (cat_two _ _ r j 5 (by simp) _ rfl 640 rfl ⟨j.val - 640, by omega⟩ (by show 640 + (j.val - 640) = j.val; omega)).trans
        (headBlock_rows 128 f2 b2 z2 g2 _ 1 rfl r _ _ (by show j.val - 512 = 128 + (j.val - 640); omega))
    by_cases a3 : j.val < 896
    · exact (cat_two _ _ r j 6 (by simp) _ rfl 768 rfl ⟨j.val - 768, by omega⟩ (by show 768 + (j.val - 768) = j.val; omega)).trans
        (headBlock_rows 256 f2 b2 z2 g2 _ 2 rfl r _ _ (by show j.val - 512 = 256 + (j.val - 768); omega))
    exact (cat_two _ _ r j 7 (by simp) _ rfl 896 rfl ⟨j.val - 896, by omega⟩ (by show 896 + (j.val - 896) = j.val; omega)).trans
      (headBlock_rows 384 f2 b2 z2 g2 _ 3 rfl r _ _ (by show j.val - 512 = 384 + (j.val - 896); omega))

end Blocks

section Rows
variable (U : FVec Ideal S256x1024 .bf16) (n : ℕ) (hn : n < 33) (x0 x1 : FVec Ideal S1x256x1024 .f32) (gate : FVec Ideal S1x1x1x1024 .f32) (w : FVec Ideal S1024x1024 .bf16)
  (g : FVec Ideal S1x1024 .f32) (scale shift : FVec Ideal S1x1x1x1024 .f32)

theorem flat_vec (z : FVec Ideal S1x1x1x1024 .f32) (k : Fin 1024) : shapeCast S1x1024 z shapeCasts_S1x1x1x1024_S1x1024 (ix2 (0 : Fin 1) k) = z (ix4 (0 : Fin 1) (0 : Fin 1) (0 : Fin 1) k) :=
  shapeCast_apply _ _ _ (ix4 (0 : Fin 1) (0 : Fin 1) (0 : Fin 1) k) (by
    rw [Shape.rowMajor_val_four, Shape.rowMajor_val_two]
    show ((0 * 1 + 0) * 1 + 0) * 1024 + k.val = 0 * 1024 + k.val
    omega)

/-- A new row of a block: the old one and the gate times the heads' product. -/
def newRow (r : Fin 256) (k : Fin 1024) : EReal :=
  FloatOps.addf (F := Ideal) (φ := .f32) (if n = 0 then x0 (ix3 (0 : Fin 1) r k) else x1 (ix3 (0 : Fin 1) r k))
    (FloatOps.mulf (F := Ideal) (φ := .f32) (gate (ix4 (0 : Fin 1) (0 : Fin 1) (0 : Fin 1) k)) (∑ c : Fin 1024, U (ix2 r c) * w (ix2 c k)))

include hn in
theorem new_block (r : Fin 256) (k : Fin 1024) : k0_pay25 (F := Ideal) U (k0_pay23 (BitVec.ofNat 32 n) x0 x1) (k0_pay24 gate) w (ix2 r k) = newRow U n x0 x1 gate w r k := by
  have flat : ∀ z : FVec Ideal S1x256x1024 .f32, shapeCast S256x1024 z shapeCasts_S1x256x1024_S256x1024 (ix2 r k) = z (ix3 (0 : Fin 1) r k) := fun z =>
    shapeCast_apply _ _ _ (ix3 (0 : Fin 1) r k) (by
      rw [Shape.rowMajor_val_three, Shape.rowMajor_val_two]
      show (0 * 256 + r.val) * 1024 + k.val = r.val * 1024 + k.val
      omega)
  have sel : (Scalar.select (Scalar.cmpi .slt (BitVec.ofNat 32 n) 1#32) (shapeCast S256x1024 x0 shapeCasts_S1x256x1024_S256x1024)
      (shapeCast S256x1024 x1 shapeCasts_S1x256x1024_S256x1024) : FVec Ideal S256x1024 .f32) (ix2 r k)
      = if n = 0 then x0 (ix3 (0 : Fin 1) r k) else x1 (ix3 (0 : Fin 1) r k) := by
    unfold Scalar.select
    have e := first_iff n hn
    by_cases h : n = 0
    · rw [if_pos (e.2 h), if_pos h, flat]
    · rw [if_neg (fun k => h (e.1 k)), if_neg h, flat]
  have row : ∀ y : FVec Ideal S1x1024 .f32, broadcastTo S256x1024 y broadcasts_S1x1024_S256x1024 (ix2 r k) = y (ix2 (0 : Fin 1) k) := fun y =>
    broadcastTo_apply y _ (ix2 r k) (ix2 (0 : Fin 1) k) fun d => match d with
      | ⟨0, _⟩ => rfl
      | ⟨1, _⟩ => rfl
  unfold newRow
  rw [← sel, ← flat_vec gate k, ← row (shapeCast S1x1024 gate shapeCasts_S1x1x1x1024_S1x1024), ← block_product _ U w shapeCasts_S1024x1024_S1024x1024 r k]
  rfl

include hn in
/-- The first result's block. -/
theorem h_block (r : Fin 256) (k : Fin 1024) : k0_pay26 (F := Ideal) U (k0_pay23 (BitVec.ofNat 32 n) x0 x1) (k0_pay24 gate) w (ix3 (0 : Fin 1) r k) = newRow U n x0 x1 gate w r k := by
  unfold k0_pay26
  refine (shapeCast_apply _ _ _ (ix2 r k) (by
    rw [Shape.rowMajor_val_three, Shape.rowMajor_val_two]
    show r.val * 1024 + k.val = (0 * 256 + r.val) * 1024 + k.val
    omega)).trans (new_block U n hn x0 x1 gate w r k)

include hn in
/-- The second result's block: the new rows, normalised and modulated. -/
theorem v_block (r : Fin 256) (k : Fin 1024) :
    k0_pay31 (F := Ideal) (k0_pay28 U (k0_pay23 (BitVec.ofNat 32 n) x0 x1) (k0_pay24 gate) w g scale) (k0_pay29 shift) (ix3 (0 : Fin 1) r k)
      = modRow (newRow U n x0 x1 gate w r) (fun c => g (ix2 (0 : Fin 1) c)) (fun c => scale (ix4 (0 : Fin 1) (0 : Fin 1) (0 : Fin 1) c)) (fun c => shift (ix4 (0 : Fin 1) (0 : Fin 1) (0 : Fin 1) c)) k := by
  have tr : ∀ (z : FVec Ideal S256x1024 .f32) (j : S256x1024.Idx), truncf .bf16 z bitsLt_bf16_f32 j = z j := fun _ _ => rfl
  unfold k0_pay31
  refine (shapeCast_apply _ _ _ (ix2 r k) (by
    rw [Shape.rowMajor_val_three, Shape.rowMajor_val_two]
    show r.val * 1024 + k.val = (0 * 256 + r.val) * 1024 + k.val
    omega)).trans ((tr _ _).trans ((block_modulate _ _ _ _ reduces_S256x1024_S256 _ _ _ r k).trans ?_))
  simp only [new_block U n hn x0 x1 gate w, k0_pay29, flat_vec, shapeCast_apply g shapeCasts_S1x1024_S1x1024 _ _ rfl]

end Rows

end Cert.Mix

end
-- ==== Proof.MixPoint.lean ====
/- The even layer's output projection, its grid points: what one of them writes, whichever of the body's two cases it runs. -/
module

public import proofs.«01_k».proof.Proof.MixBody
public import Idealize.ShloMosaic.Lib.WritesUnit

@[expose] public section

noncomputable section

namespace Cert.Mix

open Cert.Kernel4Ideal Cert.Kernel4Ideal.Gen
open Idealize.ShloMosaic Idealize.ShloMosaic.ValueIdx Idealize.ShloMosaic.StackMember
open Idealize.ShloMosaic.TcCoe
open Idealize.SL.Sem
open Idealize.ShloMosaic.Pipeline (Dat Cfg Window)

theorem zeros_two : (![0, 0] : Fin 2 → ℕ) = fun _ => 0 := by decide
theorem zeros_three : (![0, 0, 0] : Fin 3 → ℕ) = fun _ => 0 := by decide
theorem zeros_four : (![0, 0, 0, 0] : Fin 4 → ℕ) = fun _ => 0 := by decide

/-- A load of a whole block reads it as it stands. -/
theorem whole_load {S : Shape} {e : EltTy} (M : Memref sig .tc .vmem S e) (h : M.IsWhole) (x : Vec Ideal S e) {off : Fin S.rank → ℕ} (ho : off = fun _ => 0)
    (inb : ∀ a, off a + S.size a ≤ S.size a) : View.readAt (Elt Ideal) M.view (Rect.unit off S.size inb).toLoadRect (h.unread x) = x := by
  rw [View.readAt_eq_ld, Memref.IsWhole.read_unread]
  exact View.ld_unit_zero ho inb x

section Loads
variable {e : EltTy}

theorem load_rows (M : Memref sig .tc .vmem S1x256x1024 e) (h : M.IsWhole) (x : Vec Ideal S1x256x1024 e) :
    View.readAt (Elt Ideal) M.view (Rect.unit ![0, 0, 0] ![1, 256, 1024] inb_S1x256x1024_S1x256x1024_0_0_0).toLoadRect (h.unread x) = x := whole_load M h x zeros_three _
theorem load_heads (M : Memref sig .tc .vmem S1x256x512 e) (h : M.IsWhole) (x : Vec Ideal S1x256x512 e) :
    View.readAt (Elt Ideal) M.view (Rect.unit ![0, 0, 0] ![1, 256, 512] inb_S1x256x512_S1x256x512_0_0_0).toLoadRect (h.unread x) = x := whole_load M h x zeros_three _
theorem load_head_gain (M : Memref sig .tc .vmem S1x128 e) (h : M.IsWhole) (x : Vec Ideal S1x128 e) :
    View.readAt (Elt Ideal) M.view (Rect.unit ![0, 0] ![1, 128] inb_S1x128_S1x128_0_0).toLoadRect (h.unread x) = x := whole_load M h x zeros_two _
theorem load_weights (M : Memref sig .tc .vmem S1024x1024 e) (h : M.IsWhole) (x : Vec Ideal S1024x1024 e) :
    View.readAt (Elt Ideal) M.view (Rect.unit ![0, 0] ![1024, 1024] inb_S1024x1024_S1024x1024_0_0).toLoadRect (h.unread x) = x := whole_load M h x zeros_two _
theorem load_segment (M : Memref sig .tc .vmem S1x1x1x1024 e) (h : M.IsWhole) (x : Vec Ideal S1x1x1x1024 e) :
    View.readAt (Elt Ideal) M.view (Rect.unit ![0, 0, 0, 0] ![1, 1, 1, 1024] inb_S1x1x1x1024_S1x1x1x1024_0_0_0_0).toLoadRect (h.unread x) = x := whole_load M h x zeros_four _
theorem load_gain (M : Memref sig .tc .vmem S1x1024 e) (h : M.IsWhole) (x : Vec Ideal S1x1024 e) :
    View.readAt (Elt Ideal) M.view (Rect.unit ![0, 0] ![1, 1024] inb_S1x1024_S1x1024_0_0).toLoadRect (h.unread x) = x := whole_load M h x zeros_two _

end Loads

/-- One store over a whole block leaves its payload. -/
theorem whole_store {e : EltTy} (v : View sig .tc .vmem S1x256x1024 e) (f : v.ref.ty.Contents (Elt Ideal)) (w : Vec Ideal S1x256x1024 e) :
    v.read (Elt Ideal) (v.writes (Elt Ideal) f [⟨Rect.unit ![0, 0, 0] ![1, 256, 1024] inb_S1x256x1024_S1x256x1024_0_0_0, w⟩]) = w :=
  funext fun y => View.read_writes_cons_unit_of_mem v f inb_S1x256x1024_S1x256x1024_0_0_0 w [] y y zeros_three fun _ => (Nat.zero_add _).symm

section Points
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .f32) (harg8 : arg8.IsWhole) (arg9 : Memref sig .tc .vmem S1x256x512 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S1x1x1x1024 .f32) (harg13 : arg13.IsWhole) (arg14 : Memref sig .tc .vmem S1x1024 .f32) (harg14 : arg14.IsWhole) (arg15 : Memref sig .tc .vmem S1x1x1x1024 .f32) (harg15 : arg15.IsWhole) (arg16 : Memref sig .tc .vmem S1x1x1x1024 .f32) (harg16 : arg16.IsWhole) (arg17 : Memref sig .tc .vmem S1024x128 .f32) (harg17 : arg17.IsWhole) (arg18 : Memref sig .tc .vmem S16x1 .f32) (harg18 : arg18.IsWhole) (arg19 : Memref sig .tc .vmem S256x256 .bf16) (harg19 : arg19.IsWhole) (arg20 : Memref sig .tc .vmem S1x256x1024 .f32) (harg20 : arg20.IsWhole) (arg21 : Memref sig .tc .vmem S1x256x1024 .bf16) (harg21 : arg21.IsWhole) (arg22 : Memref sig .tc .vmem S1x8x256 .i32) (harg22 : arg22.IsWhole) (arg23 : Memref sig .tc .vmem S1x256x128 .f32) (harg23 : arg23.IsWhole) (arg24 : Memref sig .tc .vmem S16x128 .f32) (harg24 : arg24.IsWhole) (arg25 : Memref sig .tc .vmem S16x128 .f32) (harg25 : arg25.IsWhole)
  (x0 : Vec Ideal S1x256x1024 .f32) (x1 : Vec Ideal S1x256x1024 .f32) (x2 : Vec Ideal S1x256x512 .bf16) (x3 : Vec Ideal S1x256x512 .bf16) (x4 : Vec Ideal S1x256x512 .bf16) (x5 : Vec Ideal S1x256x512 .bf16) (x6 : Vec Ideal S1x256x512 .f32) (x7 : Vec Ideal S1x256x512 .f32) (x8 : Vec Ideal S1x128 .f32) (x9 : Vec Ideal S1x128 .f32) (x10 : Vec Ideal S1024x1024 .bf16) (x11 : Vec Ideal S1x1x1x1024 .f32) (x12 : Vec Ideal S1x1024 .f32) (x13 : Vec Ideal S1x1x1x1024 .f32) (x14 : Vec Ideal S1x1x1x1024 .f32) (x15 : Vec Ideal S1024x128 .f32) (x16 : Vec Ideal S16x1 .f32) (x17 : Vec Ideal S256x256 .bf16) (xs0 : Vec Ideal S16x128 .f32)

/-- The first result's block, from the blocks a point reads. -/
abbrev hBlock (x0 x1 : Vec Ideal S1x256x1024 .f32) (x2 x3 x4 x5 : Vec Ideal S1x256x512 .bf16) (x6 x7 : Vec Ideal S1x256x512 .f32) (x8 x9 : Vec Ideal S1x128 .f32) (x10 : Vec Ideal S1024x1024 .bf16)
    (x11 : Vec Ideal S1x1x1x1024 .f32) : Vec Ideal S1x256x1024 .f32 :=
  k0_pay26 (F := Ideal) (headsOf x2 x3 x4 x5 x6 x7 x8 x9) (k0_pay23 (BitVec.ofNat 32 (i 1).val) x0 x1) (k0_pay24 x11) x10

/-- The second result's block, likewise. -/
abbrev vBlock (x0 x1 : Vec Ideal S1x256x1024 .f32) (x2 x3 x4 x5 : Vec Ideal S1x256x512 .bf16) (x6 x7 : Vec Ideal S1x256x512 .f32) (x8 x9 : Vec Ideal S1x128 .f32) (x10 : Vec Ideal S1024x1024 .bf16)
    (x11 : Vec Ideal S1x1x1x1024 .f32) (x12 : Vec Ideal S1x1024 .f32) (x13 x14 : Vec Ideal S1x1x1x1024 .f32) : Vec Ideal S1x256x1024 .bf16 :=
  k0_pay31 (F := Ideal) (k0_pay28 (headsOf x2 x3 x4 x5 x6 x7 x8 x9) (k0_pay23 (BitVec.ofNat 32 (i 1).val) x0 x1) (k0_pay24 x11) x10 x12 x14) (k0_pay29 x13)

theorem written_A_18 (hc0 : cond0_0 i) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17
    = hBlock i x0 x1 x2 x3 x4 x5 x6 x7 x8 x9 x10 x11 := by
  unfold out0_A_18 kernelRun0_A
  dsimp only
  refine (whole_store _ _ _).trans ?_
  simp only [kernelRun0_A.sl.cst_47, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r,
    load_rows, load_heads, load_head_gain, load_weights, load_segment, load_gain]

theorem written_A_19 (hc0 : cond0_0 i) : out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17
    = vBlock i x0 x1 x2 x3 x4 x5 x6 x7 x8 x9 x10 x11 x12 x13 x14 := by
  unfold out0_A_19 kernelRun0_A
  dsimp only
  refine (whole_store _ _ _).trans ?_
  simp only [kernelRun0_A.sl.cst_47, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r,
    load_rows, load_heads, load_head_gain, load_weights, load_segment, load_gain]

theorem written_B_18 (hc0 : ¬cond0_0 i) : out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0
    = hBlock i x0 x1 x2 x3 x4 x5 x6 x7 x8 x9 x10 x11 := by
  unfold out0_B_18 kernelRun0_B
  dsimp only
  refine (whole_store _ _ _).trans ?_
  simp only [kernelRun0_B.sl.cst_47, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r,
    load_rows, load_heads, load_head_gain, load_weights, load_segment, load_gain]

theorem written_B_19 (hc0 : ¬cond0_0 i) : out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 xs0
    = vBlock i x0 x1 x2 x3 x4 x5 x6 x7 x8 x9 x10 x11 x12 x13 x14 := by
  unfold out0_B_19 kernelRun0_B
  dsimp only
  refine (whole_store _ _ _).trans ?_
  simp only [kernelRun0_B.sl.cst_47, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r,
    load_rows, load_heads, load_head_gain, load_weights, load_segment, load_gain]

end Points

end Cert.Mix

end
-- ==== Proof.MixValue.lean ====
/- The even layer's output projection: the two arrays the kernel leaves are the reference's. -/
module

public import proofs.«01_k».proof.Proof.MixPoint
public import proofs.«01_k».proof.Proof.ConvValue

@[expose] public section

noncomputable section

namespace Cert.Mix

open Cert.Kernel4Ideal Cert.Kernel4Ideal.Gen
open Idealize.ShloMosaic Idealize.ShloMosaic.ValueIdx Idealize.ShloMosaic.StackMember
open Idealize.ShloMosaic.TcCoe
open Idealize.SL.Sem
open Idealize.ShloMosaic.Pipeline (Dat Cfg Window)
open Cert.Proj (modRow rowAt segAt out_cover)
open Cert.Conv (as_row)

variable (m : (ℓ : Loc nD τ sig) → Buf (Elt Ideal) ℓ) (c : Dev nD)

/-! ## The arguments -/

abbrev ctxArg : FVec Ideal S2x256x1024 .f32 := m ((c : Thread nD τ).loc main_arg0)
abbrev xArg : FVec Ideal S2x8192x1024 .f32 := m ((c : Thread nD τ).loc main_arg1)
abbrev f1Arg : FVec Ideal S2x8448x512 .bf16 := m ((c : Thread nD τ).loc main_arg2)
abbrev b1Arg : FVec Ideal S2x8448x512 .bf16 := m ((c : Thread nD τ).loc main_arg3)
abbrev f2Arg : FVec Ideal S2x8448x512 .bf16 := m ((c : Thread nD τ).loc main_arg4)
abbrev b2Arg : FVec Ideal S2x8448x512 .bf16 := m ((c : Thread nD τ).loc main_arg5)
abbrev projArg : FVec Ideal S2x8448x3200 .f32 := m ((c : Thread nD τ).loc main_arg6)
abbrev g1Arg : FVec Ideal S128 .f32 := m ((c : Thread nD τ).loc main_arg7)
abbrev g2Arg : FVec Ideal S128 .f32 := m ((c : Thread nD τ).loc main_arg8)
abbrev wArg : FVec Ideal S1024x1024 .f32 := m ((c : Thread nD τ).loc main_arg9)
abbrev gateArg : FVec Ideal S2x2x1x1024 .f32 := m ((c : Thread nD τ).loc main_arg10)
abbrev gArg : FVec Ideal S1024 .f32 := m ((c : Thread nD τ).loc main_arg11)
abbrev shiftArg : FVec Ideal S2x2x1x1024 .f32 := m ((c : Thread nD τ).loc main_arg12)
abbrev scaleArg : FVec Ideal S2x2x1x1024 .f32 := m ((c : Thread nD τ).loc main_arg13)

/-! ## The arrays the host prepares -/

/-- The weights narrowed, and the three gains each as one row. -/
theorem prepared : (V m c main_v3 : FVec Ideal S1024x1024 .bf16) = truncf .bf16 (wArg m c) bitsLt_bf16_f32
    ∧ (V m c main_v4 : FVec Ideal S1x1024 .f32) = shapeCast S1x1024 (gArg m c) shapeCasts_S1024_S1x1024
    ∧ (V m c main_v6 : FVec Ideal S1x128 .f32) = shapeCast S1x128 (g1Arg m c) shapeCasts_S128_S1x128
    ∧ (V m c main_v7 : FVec Ideal S1x128 .f32) = shapeCast S1x128 (g2Arg m c) shapeCasts_S128_S1x128 := by
  refine ⟨?_, ?_, ?_, ?_⟩ <;>
  · show StableHlo.after (List.flatten [hostOps0]) _ _ = _
    simp only [hostOps0, List.flatten_cons, List.flatten_nil, List.append_nil]
    after_results_simp
    try rfl

/-! ## The blocks a grid point reads -/

theorem seq_index : ∀ t : Fin grid0.N, cc0_transform_0 (grid0.coords t) = ![t.val / 33, 0, 0] ∧ cc0_transform_1 (grid0.coords t) = ![t.val / 33, t.val % 33 - 1, 0]
    ∧ (grid0.coords t 1).val = t.val % 33 := by decide +kernel

theorem seg_index : ∀ t : Fin grid0.N, cc0_transform_11 (grid0.coords t) = ![t.val / 33, if t.val % 33 = 0 then 0 else 1, 0, 0]
    ∧ cc0_transform_13 (grid0.coords t) = ![t.val / 33, if t.val % 33 = 0 then 0 else 1, 0, 0]
    ∧ cc0_transform_14 (grid0.coords t) = ![t.val / 33, if t.val % 33 = 0 then 0 else 1, 0, 0] := by decide +kernel

theorem heads_index : ∀ t : Fin grid0.N, cc0_transform_2 (grid0.coords t) = ![t.val / 33, t.val % 33, 0] ∧ cc0_transform_3 (grid0.coords t) = ![t.val / 33, t.val % 33, 0]
    ∧ cc0_transform_4 (grid0.coords t) = ![t.val / 33, t.val % 33, 0] ∧ cc0_transform_5 (grid0.coords t) = ![t.val / 33, t.val % 33, 0]
    ∧ cc0_transform_6 (grid0.coords t) = ![t.val / 33, t.val % 33, 1] ∧ cc0_transform_7 (grid0.coords t) = ![t.val / 33, t.val % 33, 5] := by decide +kernel

theorem out_index : ∀ t : Fin grid0.N, cc0_transform_18 (grid0.coords t) = ![t.val / 33, t.val % 33, 0] ∧ cc0_transform_19 (grid0.coords t) = ![t.val / 33, t.val % 33, 0] := by
  decide +kernel

theorem flushes : (∀ t : Fin grid0.N, (cfg0.win 18).flush t = true) ∧ ∀ t : Fin grid0.N, (cfg0.win 19).flush t = true := by decide +kernel

theorem point_lt (t : Fin cfg0.N) : t.val < 66 := lt_of_lt_of_eq t.isLt N_0

/-- A point's sample. -/
def bAt (t : Fin cfg0.N) : Fin 2 := ⟨t.val / 33, by have := point_lt t; omega⟩

/-- The joint row at a point's row `r`. -/
def tAt (t : Fin cfg0.N) (r : Fin 256) : Fin 8448 := ⟨t.val % 33 * 256 + r.val, by have := point_lt t; omega⟩

variable (t : Fin cfg0.N)

theorem ctx_block (r : Fin 256) (k : Fin 1024) : (iblk m c 0 t : FVec Ideal S1x256x1024 .f32) (ix3 (0 : Fin 1) r k) = ctxArg m c (ix3 (bAt t) r k) := by
  refine Eq.trans (congrArg (V m c main_arg0) (funext fun d => Fin.ext ?_)) (congrFun (V_main_arg0 m c) (ix3 (bAt t) r k))
  refine (Window.rect_emb_val (cfg0.win 0) t (ix3 (0 : Fin 1) r k) d).trans ?_
  rw [show (cfg0.win 0).index t = ![t.val / 33, 0, 0] from (seq_index t).1]
  match d with
  | ⟨0, _⟩ => exact Nat.mul_one _
  | ⟨1, _⟩ => exact Nat.zero_add _
  | ⟨2, _⟩ => exact Nat.zero_add _

theorem x_block (h : t.val % 33 ≠ 0) (r : Fin 256) (k : Fin 1024) : (iblk m c 1 t : FVec Ideal S1x256x1024 .f32) (ix3 (0 : Fin 1) r k)
    = xArg m c (ix3 (bAt t) (⟨(tAt t r).val - 256, by have := (tAt t r).isLt; omega⟩ : Fin 8192) k) := by
  refine Eq.trans (congrArg (V m c main_arg1) (funext fun d => Fin.ext ?_)) (congrFun (V_main_arg1 m c) _)
  refine (Window.rect_emb_val (cfg0.win 1) t (ix3 (0 : Fin 1) r k) d).trans ?_
  rw [show (cfg0.win 1).index t = ![t.val / 33, t.val % 33 - 1, 0] from (seq_index t).2.1]
  match d with
  | ⟨0, _⟩ => exact Nat.mul_one _
  | ⟨1, _⟩ =>
    show (t.val % 33 - 1) * 256 + r.val = t.val % 33 * 256 + r.val - 256
    omega
  | ⟨2, _⟩ => exact Nat.zero_add _

/-- Where an element of a point's block of rows lies in the whole array: block `o` of the columns, `n` to a block, `N` in all. -/
theorem row_coord {n N : ℕ} (o : ℕ) (r : Fin 256) (j : Fin n) (J : Fin N) (hJ : J.val = o * n + j.val) (d : Fin 3) :
    (![t.val / 33, t.val % 33, o] : Fin 3 → ℕ) d * (![1, 256, n] : Fin 3 → ℕ) d + (ix3 (0 : Fin 1) r j d).val = (ix3 (bAt t) (tAt t r) J d).val := by
  match d with
  | ⟨0, _⟩ => exact Nat.mul_one _
  | ⟨1, _⟩ => rfl
  | ⟨2, _⟩ => exact hJ.symm

theorem f1_block (r : Fin 256) (q : Fin 512) : (iblk m c 2 t : FVec Ideal S1x256x512 .bf16) (ix3 (0 : Fin 1) r q) = f1Arg m c (ix3 (bAt t) (tAt t r) q) := by
  refine Eq.trans (congrArg (V m c main_arg2) (funext fun d => Fin.ext ?_)) (congrFun (V_main_arg2 m c) _)
  refine (Window.rect_emb_val (cfg0.win 2) t (ix3 (0 : Fin 1) r q) d).trans ?_
  rw [show (cfg0.win 2).index t = _ from (heads_index t).1]
  exact row_coord t 0 r q q (by omega) d

theorem b1_block (r : Fin 256) (q : Fin 512) : (iblk m c 3 t : FVec Ideal S1x256x512 .bf16) (ix3 (0 : Fin 1) r q) = b1Arg m c (ix3 (bAt t) (tAt t r) q) := by
  refine Eq.trans (congrArg (V m c main_arg3) (funext fun d => Fin.ext ?_)) (congrFun (V_main_arg3 m c) _)
  refine (Window.rect_emb_val (cfg0.win 3) t (ix3 (0 : Fin 1) r q) d).trans ?_
  rw [show (cfg0.win 3).index t = _ from (heads_index t).2.1]
  exact row_coord t 0 r q q (by omega) d

theorem f2_block (r : Fin 256) (q : Fin 512) : (iblk m c 4 t : FVec Ideal S1x256x512 .bf16) (ix3 (0 : Fin 1) r q) = f2Arg m c (ix3 (bAt t) (tAt t r) q) := by
  refine Eq.trans (congrArg (V m c main_arg4) (funext fun d => Fin.ext ?_)) (congrFun (V_main_arg4 m c) _)
  refine (Window.rect_emb_val (cfg0.win 4) t (ix3 (0 : Fin 1) r q) d).trans ?_
  rw [show (cfg0.win 4).index t = _ from (heads_index t).2.2.1]
  exact row_coord t 0 r q q (by omega) d

theorem b2_block (r : Fin 256) (q : Fin 512) : (iblk m c 5 t : FVec Ideal S1x256x512 .bf16) (ix3 (0 : Fin 1) r q) = b2Arg m c (ix3 (bAt t) (tAt t r) q) := by
  refine Eq.trans (congrArg (V m c main_arg5) (funext fun d => Fin.ext ?_)) (congrFun (V_main_arg5 m c) _)
  refine (Window.rect_emb_val (cfg0.win 5) t (ix3 (0 : Fin 1) r q) d).trans ?_
  rw [show (cfg0.win 5).index t = _ from (heads_index t).2.2.2.1]
  exact row_coord t 0 r q q (by omega) d

theorem gates1_block (r : Fin 256) (q : Fin 512) : (X0_6 m c t : FVec Ideal S1x256x512 .f32) (ix3 (0 : Fin 1) r q)
    = projArg m c (ix3 (bAt t) (tAt t r) (⟨512 + q.val, by omega⟩ : Fin 3200)) := by
  unfold X0_6 Pipeline.Window.fill
  rw [dif_pos (moved0_6 t _)]
  refine Eq.trans (congrArg (V m c main_arg6) (funext fun d => Fin.ext ?_)) (congrFun (V_main_arg6 m c) _)
  refine (Window.rect_emb_val (cfg0.win 6) t _ d).trans ?_
  rw [show (cfg0.win 6).index t = _ from (heads_index t).2.2.2.2.1]
  exact row_coord t 1 r q _ (by show 512 + q.val = 1 * 512 + q.val; omega) d

theorem gates2_block (r : Fin 256) (q : Fin 512) : (X0_7 m c t : FVec Ideal S1x256x512 .f32) (ix3 (0 : Fin 1) r q)
    = projArg m c (ix3 (bAt t) (tAt t r) (⟨2560 + q.val, by omega⟩ : Fin 3200)) := by
  unfold X0_7 Pipeline.Window.fill
  rw [dif_pos (moved0_7 t _)]
  refine Eq.trans (congrArg (V m c main_arg6) (funext fun d => Fin.ext ?_)) (congrFun (V_main_arg6 m c) _)
  refine (Window.rect_emb_val (cfg0.win 7) t _ d).trans ?_
  rw [show (cfg0.win 7).index t = _ from (heads_index t).2.2.2.2.2]
  exact row_coord t 5 r q _ (by show 2560 + q.val = 5 * 512 + q.val; omega) d

theorem seg_val (r : Fin 256) : (segAt (tAt t r)).val = if t.val % 33 = 0 then 0 else 1 := by
  unfold segAt
  show (if t.val % 33 * 256 + r.val < 256 then (0 : Fin 2) else 1).val = _
  have := r.isLt
  by_cases h : t.val % 33 = 0
  · rw [if_pos (by omega), if_pos h]; rfl
  · rw [if_neg (by omega), if_neg h]; rfl

/-- Where an element of a segment's block lies in the whole array of vectors. -/
theorem seg_coord (r : Fin 256) (k : Fin 1024) (d : Fin 4) :
    (![t.val / 33, if t.val % 33 = 0 then 0 else 1, 0, 0] : Fin 4 → ℕ) d * S1x1x1x1024.size d + (ix4 (0 : Fin 1) (0 : Fin 1) (0 : Fin 1) k d).val
      = (ix4 (bAt t) (segAt (tAt t r)) (0 : Fin 1) k d).val := by
  match d with
  | ⟨0, _⟩ => exact Nat.mul_one _
  | ⟨1, _⟩ => exact (Nat.mul_one _).trans (seg_val t r).symm
  | ⟨2, _⟩ => rfl
  | ⟨3, _⟩ => exact Nat.zero_add _

theorem gate_block (r : Fin 256) (k : Fin 1024) : (iblk m c 11 t : FVec Ideal S1x1x1x1024 .f32) (ix4 (0 : Fin 1) (0 : Fin 1) (0 : Fin 1) k)
    = gateArg m c (ix4 (bAt t) (segAt (tAt t r)) (0 : Fin 1) k) := by
  refine Eq.trans (congrArg (V m c main_arg10) (funext fun d => Fin.ext ?_)) (congrFun (V_main_arg10 m c) _)
  refine (Window.rect_emb_val (cfg0.win 11) t (ix4 (0 : Fin 1) (0 : Fin 1) (0 : Fin 1) k) d).trans ?_
  rw [show (cfg0.win 11).index t = _ from (seg_index t).1]
  exact seg_coord t r k d

theorem shift_block (r : Fin 256) (k : Fin 1024) : (iblk m c 13 t : FVec Ideal S1x1x1x1024 .f32) (ix4 (0 : Fin 1) (0 : Fin 1) (0 : Fin 1) k)
    = shiftArg m c (ix4 (bAt t) (segAt (tAt t r)) (0 : Fin 1) k) := by
  refine Eq.trans (congrArg (V m c main_arg12) (funext fun d => Fin.ext ?_)) (congrFun (V_main_arg12 m c) _)
  refine (Window.rect_emb_val (cfg0.win 13) t (ix4 (0 : Fin 1) (0 : Fin 1) (0 : Fin 1) k) d).trans ?_
  rw [show (cfg0.win 13).index t = _ from (seg_index t).2.1]
  exact seg_coord t r k d

theorem scale_block (r : Fin 256) (k : Fin 1024) : (iblk m c 14 t : FVec Ideal S1x1x1x1024 .f32) (ix4 (0 : Fin 1) (0 : Fin 1) (0 : Fin 1) k)
    = scaleArg m c (ix4 (bAt t) (segAt (tAt t r)) (0 : Fin 1) k) := by
  refine Eq.trans (congrArg (V m c main_arg13) (funext fun d => Fin.ext ?_)) (congrFun (V_main_arg13 m c) _)
  refine (Window.rect_emb_val (cfg0.win 14) t (ix4 (0 : Fin 1) (0 : Fin 1) (0 : Fin 1) k) d).trans ?_
  rw [show (cfg0.win 14).index t = _ from (seg_index t).2.2]
  exact seg_coord t r k d

/-- The windows whose one block is their whole array read it as it stands. -/
theorem whole_blocks : (iblk m c 8 t : FVec Ideal S1x128 .f32) = V m c main_v6 ∧ (iblk m c 9 t : FVec Ideal S1x128 .f32) = V m c main_v7
    ∧ (iblk m c 10 t : FVec Ideal S1024x1024 .bf16) = V m c main_v3 ∧ (iblk m c 12 t : FVec Ideal S1x1024 .f32) = V m c main_v4 := by
  have at_zero : ∀ (n0 n1 : ℕ) (d : Fin 2) (k : ℕ), (![0, 0] : Fin 2 → ℕ) d * (![n0, n1] : Fin 2 → ℕ) d + k = k := fun n0 n1 d k => match d with
    | ⟨0, _⟩ => by show 0 * n0 + k = k; omega
    | ⟨1, _⟩ => by show 0 * n1 + k = k; omega
  exact ⟨funext fun y => congrArg (V m c main_v6) (funext fun d => Fin.ext ((Window.rect_emb_val (cfg0.win 8) t y d).trans (at_zero _ _ d _))),
    funext fun y => congrArg (V m c main_v7) (funext fun d => Fin.ext ((Window.rect_emb_val (cfg0.win 9) t y d).trans (at_zero _ _ d _))),
    funext fun y => congrArg (V m c main_v3) (funext fun d => Fin.ext ((Window.rect_emb_val (cfg0.win 10) t y d).trans (at_zero _ _ d _))),
    funext fun y => congrArg (V m c main_v4) (funext fun d => Fin.ext ((Window.rect_emb_val (cfg0.win 12) t y d).trans (at_zero _ _ d _)))⟩

/-! ## What a grid point writes -/

/-- The heads of a point's block. -/
abbrev headsAt : FVec Ideal S256x1024 .bf16 :=
  headsOf (iblk m c 2 t) (iblk m c 3 t) (iblk m c 4 t) (iblk m c 5 t) (X0_6 m c t) (X0_7 m c t) (iblk m c 8 t) (iblk m c 9 t)

theorem headsAt_apply (r : Fin 256) (j : Fin 1024) :
    headsAt m c t (ix2 r j) = featAt (f1Arg m c) (b1Arg m c) (f2Arg m c) (b2Arg m c) (projArg m c) (g1Arg m c) (g2Arg m c) (bAt t) (tAt t r) j := by
  have e1 : ∀ q, (iblk m c 8 t : FVec Ideal S1x128 .f32) (ix2 (0 : Fin 1) q) = g1Arg m c (ix1 q) := fun q => by
    rw [(whole_blocks m c t).1, (prepared m c).2.2.1]
    exact as_row _ _ q
  have e2 : ∀ q, (iblk m c 9 t : FVec Ideal S1x128 .f32) (ix2 (0 : Fin 1) q) = g2Arg m c (ix1 q) := fun q => by
    rw [(whole_blocks m c t).2.1, (prepared m c).2.2.2]
    exact as_row _ _ q
  refine (headsOf_apply _ _ _ _ _ _ _ _ r j).trans ?_
  unfold featAt halfAt rowHeads
  simp only [e1, e2, f1_block, b1_block, f2_block, b2_block, gates1_block, gates2_block]

/-- A point's new rows. -/
theorem new_rows (r : Fin 256) : newRow (headsAt m c t) (grid0.coords t 1).val (iblk m c 0 t) (iblk m c 1 t) (iblk m c 11 t) (iblk m c 10 t) r
    = hAt (ctxArg m c) (xArg m c) (f1Arg m c) (b1Arg m c) (f2Arg m c) (b2Arg m c) (projArg m c) (g1Arg m c) (g2Arg m c) (wArg m c) (gateArg m c) (bAt t) (tAt t r) := by
  funext k
  have hrow : (if (grid0.coords t 1).val = 0 then (iblk m c 0 t : FVec Ideal S1x256x1024 .f32) (ix3 (0 : Fin 1) r k) else (iblk m c 1 t : FVec Ideal S1x256x1024 .f32) (ix3 (0 : Fin 1) r k))
      = rowAt (ctxArg m c) (xArg m c) (bAt t) (tAt t r) k := by
    unfold rowAt
    have hr := r.isLt
    rw [(seq_index t).2.2]
    by_cases h : t.val % 33 = 0
    · have hT : (tAt t r).val < 256 := by show t.val % 33 * 256 + r.val < 256; omega
      rw [if_pos h, dif_pos hT, ctx_block]
      refine congrArg (fun q => ctxArg m c (ix3 (bAt t) q k)) (Fin.ext ?_)
      show r.val = t.val % 33 * 256 + r.val
      omega
    · have hT : ¬ (tAt t r).val < 256 := by show ¬ t.val % 33 * 256 + r.val < 256; omega
      rw [if_neg h, dif_neg hT, x_block m c t h]
  have hw : ∀ a : Fin 1024, (iblk m c 10 t : FVec Ideal S1024x1024 .bf16) (ix2 a k) = wArg m c (ix2 a k) := fun a => by
    rw [(whole_blocks m c t).2.2.1, (prepared m c).1]
    rfl
  unfold newRow hAt
  rw [hrow, gate_block m c t r]
  simp only [headsAt_apply, hw]

theorem h_written (r : Fin 256) (k : Fin 1024) :
    hBlock (grid0.coords t) (iblk m c 0 t) (iblk m c 1 t) (iblk m c 2 t) (iblk m c 3 t) (iblk m c 4 t) (iblk m c 5 t) (X0_6 m c t) (X0_7 m c t) (iblk m c 8 t) (iblk m c 9 t) (iblk m c 10 t)
      (iblk m c 11 t) (ix3 (0 : Fin 1) r k)
      = hOut (ctxArg m c) (xArg m c) (f1Arg m c) (b1Arg m c) (f2Arg m c) (b2Arg m c) (projArg m c) (g1Arg m c) (g2Arg m c) (wArg m c) (gateArg m c) (ix3 (bAt t) (tAt t r) k) :=
  (h_block (headsAt m c t) _ (lt_of_lt_of_le (grid0.coords t 1).isLt (by decide)) _ _ _ _ r k).trans (congrFun (new_rows m c t r) k)

theorem v_written (r : Fin 256) (k : Fin 1024) :
    vBlock (grid0.coords t) (iblk m c 0 t) (iblk m c 1 t) (iblk m c 2 t) (iblk m c 3 t) (iblk m c 4 t) (iblk m c 5 t) (X0_6 m c t) (X0_7 m c t) (iblk m c 8 t) (iblk m c 9 t) (iblk m c 10 t)
      (iblk m c 11 t) (iblk m c 12 t) (iblk m c 13 t) (iblk m c 14 t) (ix3 (0 : Fin 1) r k)
      = vOut (ctxArg m c) (xArg m c) (f1Arg m c) (b1Arg m c) (f2Arg m c) (b2Arg m c) (projArg m c) (g1Arg m c) (g2Arg m c) (wArg m c) (gateArg m c) (gArg m c) (shiftArg m c) (scaleArg m c)
        (ix3 (bAt t) (tAt t r) k) := by
  have hg : (fun a => (iblk m c 12 t : FVec Ideal S1x1024 .f32) (ix2 (0 : Fin 1) a)) = fun a => gArg m c (ix1 a) := funext fun a => by
    rw [(whole_blocks m c t).2.2.2, (prepared m c).2.1]
    exact as_row _ _ a
  have hsc : (fun a => (iblk m c 14 t : FVec Ideal S1x1x1x1024 .f32) (ix4 (0 : Fin 1) (0 : Fin 1) (0 : Fin 1) a)) = fun a => scaleArg m c (ix4 (bAt t) (segAt (tAt t r)) (0 : Fin 1) a) :=
    funext fun a => scale_block m c t r a
  have hsh : (fun a => (iblk m c 13 t : FVec Ideal S1x1x1x1024 .f32) (ix4 (0 : Fin 1) (0 : Fin 1) (0 : Fin 1) a)) = fun a => shiftArg m c (ix4 (bAt t) (segAt (tAt t r)) (0 : Fin 1) a) :=
    funext fun a => shift_block m c t r a
  refine (v_block (headsAt m c t) _ (lt_of_lt_of_le (grid0.coords t 1).isLt (by decide)) _ _ _ _ _ _ _ r k).trans ?_
  rw [new_rows m c t r, hg, hsc, hsh]
  rfl

/-- A point's write-back of the first result, whichever case runs. -/
theorem h_flushed (r : Fin 256) (k : Fin 1024) : (dats m 0 c).flushed 18 t (ix3 (0 : Fin 1) r k)
    = hOut (ctxArg m c) (xArg m c) (f1Arg m c) (b1Arg m c) (f2Arg m c) (b2Arg m c) (projArg m c) (g1Arg m c) (g2Arg m c) (wArg m c) (gateArg m c) (ix3 (bAt t) (tAt t r) k) := by
  by_cases h0 : t.val % 66 = 0
  · refine (congrFun (Cert.Kernel4Ideal.Value.flushed18_A m c t h0) (ix3 (0 : Fin 1) r k)).trans ?_
    rw [written_A_18]
    exact h_written m c t r k
  · refine (congrFun (Cert.Kernel4Ideal.Value.flushed18_B m c t h0) (ix3 (0 : Fin 1) r k)).trans ?_
    rw [written_B_18]
    exact h_written m c t r k

/-- A point's write-back of the second result, whichever case runs. -/
theorem v_flushed (r : Fin 256) (k : Fin 1024) : (dats m 0 c).flushed 19 t (ix3 (0 : Fin 1) r k)
    = vOut (ctxArg m c) (xArg m c) (f1Arg m c) (b1Arg m c) (f2Arg m c) (b2Arg m c) (projArg m c) (g1Arg m c) (g2Arg m c) (wArg m c) (gateArg m c) (gArg m c) (shiftArg m c) (scaleArg m c)
        (ix3 (bAt t) (tAt t r) k) := by
  by_cases h0 : t.val % 66 = 0
  · refine (congrFun (Cert.Kernel4Ideal.Value.flushed19_A m c t h0) (ix3 (0 : Fin 1) r k)).trans ?_
    rw [written_A_19]
    exact v_written m c t r k
  · refine (congrFun (Cert.Kernel4Ideal.Value.flushed19_B m c t h0) (ix3 (0 : Fin 1) r k)).trans ?_
    rw [written_B_19]
    exact v_written m c t r k

/-! ## The arrays after the run -/

theorem point_of (b : Fin 2) (T : Fin 8448) : b.val * 33 + T.val / 256 < cfg0.N :=
  lt_of_lt_of_eq (by omega : b.val * 33 + T.val / 256 < 66) N_0.symm

theorem final_h : (dats m 0 c).arrAt 18 cfg0.N = hOut (ctxArg m c) (xArg m c) (f1Arg m c) (b1Arg m c) (f2Arg m c) (b2Arg m c) (projArg m c) (g1Arg m c) (g2Arg m c) (wArg m c) (gateArg m c) := by
  refine (dats m 0 c).arrAt_eq_of_emb 18 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (h_flushed m c t r j).trans (congrArg (hOut (ctxArg m c) (xArg m c) (f1Arg m c) (b1Arg m c) (f2Arg m c) (b2Arg m c) (projArg m c) (g1Arg m c) (g2Arg m c) (wArg m c) (gateArg m c)) (funext fun d => Fin.ext ?_))
    refine Eq.trans ?_ (Window.rect_emb_val (cfg0.win 18) t (ix3 (0 : Fin 1) r j) d).symm
    rw [show (cfg0.win 18).index t = _ from (out_index t).1]
    exact (row_coord t 0 r j j (by omega) d).symm
  · obtain ⟨b, T, j, rfl⟩ : ∃ (b : Fin 2) (T : Fin 8448) (j : Fin 1024), i = ix3 b T j := ⟨_, _, _, eq_ix3 i⟩
    refine ⟨⟨_, point_of b T⟩, flushes.1 _, ((cfg0.win 18).emb_mem_blk_iff ⟨_, point_of b T⟩ (ix3 b T j)).2 fun d => ?_⟩
    rw [show (cfg0.win 18).index ⟨_, point_of b T⟩ = _ from (out_index ⟨_, point_of b T⟩).1]
    exact out_cover 1024 b T j d

theorem final_v : (dats m 0 c).arrAt 19 cfg0.N = vOut (ctxArg m c) (xArg m c) (f1Arg m c) (b1Arg m c) (f2Arg m c) (b2Arg m c) (projArg m c) (g1Arg m c) (g2Arg m c) (wArg m c) (gateArg m c) (gArg m c) (shiftArg m c) (scaleArg m c) := by
  refine (dats m 0 c).arrAt_eq_of_emb 19 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (v_flushed m c t r j).trans (congrArg (vOut (ctxArg m c) (xArg m c) (f1Arg m c) (b1Arg m c) (f2Arg m c) (b2Arg m c) (projArg m c) (g1Arg m c) (g2Arg m c) (wArg m c) (gateArg m c) (gArg m c) (shiftArg m c) (scaleArg m c)) (funext fun d => Fin.ext ?_))
    refine Eq.trans ?_ (Window.rect_emb_val (cfg0.win 19) t (ix3 (0 : Fin 1) r j) d).symm
    rw [show (cfg0.win 19).index t = _ from (out_index t).2]
    exact (row_coord t 0 r j j (by omega) d).symm
  · obtain ⟨b, T, j, rfl⟩ : ∃ (b : Fin 2) (T : Fin 8448) (j : Fin 1024), i = ix3 b T j := ⟨_, _, _, eq_ix3 i⟩
    refine ⟨⟨_, point_of b T⟩, flushes.2 _, ((cfg0.win 19).emb_mem_blk_iff ⟨_, point_of b T⟩ (ix3 b T j)).2 fun d => ?_⟩
    rw [show (cfg0.win 19).index ⟨_, point_of b T⟩ = _ from (out_index ⟨_, point_of b T⟩).2]
    exact out_cover 1024 b T j d

/-! ## The claims -/

/-- The reference runs and ends clean: it has no counters. -/
theorem reference4Ideal_frame : quiescent_Reference4Ideal := by
  intro m g _
  exact (θ_run Cert.Reference4Ideal.defs _ _).mono (fun r k => ⟨fun c => (k c).2.2, sem_eq_zero_of_no_sems (by decide) r.2⟩)
    (Cert.Reference4Ideal.Value.run (F := Ideal) m g)

/-- Both programs end with the same two arrays. -/
theorem algebraic : algebraic_Kernel4Ideal_Reference4Ideal := by
  intro m g m' g' _ hm
  refine ⟨fun c => hOut (ctxArg m c) (xArg m c) (f1Arg m c) (b1Arg m c) (f2Arg m c) (b2Arg m c) (projArg m c) (g1Arg m c) (g2Arg m c) (wArg m c) (gateArg m c),
    fun c => vOut (ctxArg m c) (xArg m c) (f1Arg m c) (b1Arg m c) (f2Arg m c) (b2Arg m c) (projArg m c) (g1Arg m c) (g2Arg m c) (wArg m c) (gateArg m c) (gArg m c) (shiftArg m c) (scaleArg m c), ?_, ?_⟩
  · exact (θ_run defs _ _).mono (fun _ k c => ⟨(k c).1.trans (final_h m c), (k c).2.1.trans (final_v m c), (k c).2.2.2.2.2⟩)
      (Cert.Kernel4Ideal.Value.run_blocks (F := Ideal) m g)
  · refine (θ_run Cert.Reference4Ideal.defs _ _).mono (fun _ k c => ⟨(k c).1.trans ?_, (k c).2.1.trans ?_, (k c).2.2⟩) (Cert.Reference4Ideal.Value.run (F := Ideal) m' g')
    · obtain ⟨e0, e1, e2, e3, e4, e5, e6, e7, e8, e9, e10, _⟩ := hm c
      unfold Cert.Reference4Ideal.Value.res_main_v106
      rw [e0, e1, e2, e3, e4, e5, e6, e7, e8, e9, e10]
      exact ref_h (ctxArg m c) (xArg m c) (f1Arg m c) (b1Arg m c) (f2Arg m c) (b2Arg m c) (projArg m c) (g1Arg m c) (g2Arg m c) (wArg m c) (gateArg m c)
    · obtain ⟨e0, e1, e2, e3, e4, e5, e6, e7, e8, e9, e10, e11, e12, e13, _⟩ := hm c
      unfold Cert.Reference4Ideal.Value.res_main_v107
      rw [e0, e1, e2, e3, e4, e5, e6, e7, e8, e9, e10, e11, e12, e13]
      exact ref_v (ctxArg m c) (xArg m c) (f1Arg m c) (b1Arg m c) (f2Arg m c) (b2Arg m c) (projArg m c) (g1Arg m c) (g2Arg m c) (wArg m c) (gateArg m c) (gArg m c) (shiftArg m c) (scaleArg m c)

end Cert.Mix

end
-- ==== Proof.OddRef.lean ====
/- The odd layer's output projection, its reference: the first two results, element by element. -/
module

public import proofs.«01_k».proof.Proof.MixRef
public import proofs.«01_k».proof.Proof.Gen.Reference5Ideal.Run

@[expose] public section

noncomputable section

namespace Cert.Odd

open Idealize.ShloMosaic Idealize.ShloMosaic.ValueIdx Idealize.ShloMosaic.StackMember
open Cert.Proj (modRow seg_apply host_modulate cat_three cols_three)
open Cert.Experts (act)
open Cert.Mix (new_row rows_from)

/-- An element before its group is normalised: both directions' sum and the skipped input times its gain, times the activated gate. -/
def midCell (f b d x z : Ideal .f32) : Ideal .f32 :=
  FloatOps.mulf (FloatOps.addf (FloatOps.addf f b) (FloatOps.mulf d x)) (act z)

/-- An element of a group from the sum of the group's squares: the element over the root of the mean square, times its gain. -/
def groupCell (s o g : Ideal .f32) : Ideal .f32 :=
  FloatOps.mulf (FloatOps.mulf o (FloatOps.hostUnary .rsqrt (FloatOps.addf
    (FloatOps.hostDivf s (Scalar.ofBits .f32 0x43800000#32)) (Scalar.ofBits .f32 0x358637BD#32)))) g

/-- Coordinate `q` of the group that coordinate `k` belongs to. -/
def sameGroup (k : Fin 512) (q : Fin 256) : Fin 512 := ⟨k.val / 256 * 256 + q.val, by omega⟩

/-- A row of two groups `o`, each normalised. -/
def groupRow (o g : Fin 512 → EReal) (k : Fin 512) : EReal :=
  groupCell (∑ q : Fin 256, o (sameGroup k q) * o (sameGroup k q)) (o k) (g k)

/-- The sum's order does not matter. -/
theorem sum_order (p f b : Ideal .f32) : FloatOps.addf (FloatOps.addf p f) b = FloatOps.addf (FloatOps.addf f b) p := by
  show (p + f + b : EReal) = f + b + p
  rw [add_assoc, add_comm]

/-- The sequence's row `r` among the joint rows: after the context's. -/
def later (r : Fin 8192) : Fin 8448 := ⟨256 + r.val, by omega⟩

section Spec
variable (h : FVec Ideal ⟨3, ![2, 8448, 1024]⟩ .f32) (hy : FVec Ideal ⟨3, ![2, 8192, 512]⟩ .f32) (yf yb : FVec Ideal ⟨3, ![2, 8448, 512]⟩ .bf16)
  (xbc : FVec Ideal ⟨3, ![2, 8448, 1024]⟩ .f32) (zdt : FVec Ideal ⟨3, ![2, 8448, 768]⟩ .f32) (d : FVec Ideal ⟨1, ![8]⟩ .f32) (gn : FVec Ideal ⟨1, ![512]⟩ .f32)
  (w : FVec Ideal ⟨2, ![1024, 1024]⟩ .f32) (gate : FVec Ideal ⟨4, ![2, 2, 1, 1024]⟩ .f32) (g : FVec Ideal ⟨1, ![1024]⟩ .f32) (shift scale : FVec Ideal ⟨4, ![2, 2, 1, 1024]⟩ .f32)

/-- A row before its groups are normalised. -/
def midAt (s : Fin 2) (r : Fin 8192) (k : Fin 512) : EReal :=
  midCell (yf (ix3 s (later r) k)) (yb (ix3 s (later r) k)) (d (ix1 (⟨k.val / 64, by omega⟩ : Fin 8))) (xbc (ix3 s (later r) (⟨k.val, by omega⟩ : Fin 1024)))
    (zdt (ix3 s (later r) (⟨k.val, by omega⟩ : Fin 768)))

/-- What the projection takes of a row: the long filter's half and the two groups. -/
def featAt (s : Fin 2) (r : Fin 8192) (j : Fin 1024) : EReal :=
  if e : j.val < 512 then hy (ix3 s r (⟨j.val, e⟩ : Fin 512)) else groupRow (midAt yf yb xbc zdt d s r) (fun q => gn (ix1 q)) ⟨j.val - 512, by omega⟩

/-- A row and the sequence's gate times the projection. -/
def hAt (s : Fin 2) (r : Fin 8192) (k : Fin 1024) : EReal :=
  FloatOps.addf (F := Ideal) (φ := .f32) (h (ix3 s (later r) k))
    (FloatOps.mulf (F := Ideal) (φ := .f32) (gate (ix4 s (1 : Fin 2) (0 : Fin 1) k)) (∑ c : Fin 1024, featAt hy yf yb xbc zdt d gn s r c * w (ix2 c k)))

/-- The first result. -/
def hOut : FVec Ideal ⟨3, ![2, 8192, 1024]⟩ .f32 := fun i => hAt h hy yf yb xbc zdt d gn w gate (i 0) (i 1) (i 2)

/-- The second result. -/
def vOut : FVec Ideal ⟨3, ![2, 8192, 1024]⟩ .bf16 := fun i =>
  modRow (hAt h hy yf yb xbc zdt d gn w gate (i 0) (i 1)) (fun c => g (ix1 c)) (fun c => scale (ix4 (i 0) (1 : Fin 2) (0 : Fin 1) c))
    (fun c => shift (ix4 (i 0) (1 : Fin 2) (0 : Fin 1) c)) (i 2)

end Spec

/-- A row's coordinate `k`, cut into parts of `Q`, is coordinate `q` of part `a`. -/
theorem out_parts {α : Type} {A Q N : ℕ} (z : (⟨4, ![2, 8192, A, Q]⟩ : Shape).Idx → α) (hc : (⟨4, ![2, 8192, A, Q]⟩ : Shape).ShapeCasts ⟨3, ![2, 8192, N]⟩) (hN : N = A * Q)
    (s : Fin 2) (r : Fin 8192) (k : Fin N) (a : Fin A) (q : Fin Q) (hk : k.val = a.val * Q + q.val) : shapeCast ⟨3, ![2, 8192, N]⟩ z hc (ix3 s r k) = z (ix4 s r a q) :=
  shapeCast_apply _ _ _ (ix4 s r a q) (by
    rw [Shape.rowMajor_val_four, Shape.rowMajor_val_three]
    show ((s.val * 8192 + r.val) * A + a.val) * Q + q.val = (s.val * 8192 + r.val) * N + k.val
    rw [hk, hN, Nat.add_mul ((s.val * 8192 + r.val) * A), Nat.mul_assoc, Nat.add_assoc])

theorem into_parts {α : Type} {A Q N : ℕ} (z : (⟨3, ![2, 8192, N]⟩ : Shape).Idx → α) (hc : (⟨3, ![2, 8192, N]⟩ : Shape).ShapeCasts ⟨4, ![2, 8192, A, Q]⟩) (hN : N = A * Q)
    (s : Fin 2) (r : Fin 8192) (k : Fin N) (a : Fin A) (q : Fin Q) (hk : k.val = a.val * Q + q.val) : shapeCast ⟨4, ![2, 8192, A, Q]⟩ z hc (ix4 s r a q) = z (ix3 s r k) :=
  shapeCast_apply _ _ _ (ix3 s r k) (by
    rw [Shape.rowMajor_val_four, Shape.rowMajor_val_three]
    show (s.val * 8192 + r.val) * N + k.val = ((s.val * 8192 + r.val) * A + a.val) * Q + q.val
    rw [hk, hN, Nat.add_mul ((s.val * 8192 + r.val) * A), Nat.mul_assoc, Nat.add_assoc])

section Ref
open Cert.Reference5Ideal Cert.Reference5Ideal.Gen
variable (h : FVec Ideal S2x8448x1024 .f32) (hy : FVec Ideal S2x8192x512 .f32) (yf yb : FVec Ideal S2x8448x512 .bf16)
  (xbc : FVec Ideal S2x8448x1024 .f32) (zdt : FVec Ideal S2x8448x768 .f32) (d : FVec Ideal S8 .f32) (gn : FVec Ideal S512 .f32)
  (w : FVec Ideal S1024x1024 .f32) (gate : FVec Ideal S2x2x1x1024 .f32) (g : FVec Ideal S1024 .f32) (shift scale : FVec Ideal S2x2x1x1024 .f32)

/-- The rows before their groups are normalised, as the reference spells them. -/
def refMid : FVec Ideal S2x8192x512 .f32 :=
  (mulf (shapeCast _ (addf (addf (mulf (broadcastInDim S2x8192x8x64 ![0, 1, 2, 3] bcast_S1x1x8x1_S2x8192x8x64_0_1_2_3 (broadcastInDim S1x1x8x1 ![2, 3] bcast_S8x1_S1x1x8x1_2_3 (broadcastInDim S8x1 ![0] bcast_S8_S8x1_0 d)))
      (shapeCast _ (extractStridedSlice S2x8192x512 ![0, 256, 0] (extractStridedSlice S2x8448x512 ![0, 0, 0] xbc slices_S2x8448x1024_S2x8448x512_0_0_0) slices_S2x8448x512_S2x8192x512_0_256_0) shapeCasts_S2x8192x512_S2x8192x8x64))
      (shapeCast _ (extractStridedSlice S2x8192x512 ![0, 256, 0] (extf .f32 yf bitsLt_bf16_f32) slices_S2x8448x512_S2x8192x512_0_256_0) shapeCasts_S2x8192x512_S2x8192x8x64))
      (shapeCast _ (extractStridedSlice S2x8192x512 ![0, 256, 0] (extf .f32 yb bitsLt_bf16_f32) slices_S2x8448x512_S2x8192x512_0_256_0) shapeCasts_S2x8192x512_S2x8192x8x64)) shapeCasts_S2x8192x8x64_S2x8192x512)
    (mulf (extractStridedSlice S2x8192x512 ![0, 256, 0] zdt slices_S2x8448x768_S2x8192x512_0_256_0) (Host.divf (broadcastInDim S2x8192x512 ![] bcast_S_S2x8192x512 (constant S_ .f32 0x3F800000#32))
      (addf (broadcastInDim S2x8192x512 ![] bcast_S_S2x8192x512 (constant S_ .f32 0x3F800000#32)) (Host.exp (Host.negf (extractStridedSlice S2x8192x512 ![0, 256, 0] zdt slices_S2x8448x768_S2x8192x512_0_256_0)))))))

theorem refMid_apply (s : Fin 2) (r : Fin 8192) (k : Fin 512) : refMid yf yb xbc zdt d (ix3 s r k) = midAt yf yb xbc zdt d s r k := by
  have split : k.val = k.val / 64 * 64 + k.val % 64 := by omega
  unfold refMid
  generalize hz : extractStridedSlice S2x8192x512 ![0, 256, 0] zdt slices_S2x8448x768_S2x8192x512_0_256_0 = Z
  have atZ : Z (ix3 s r k) = zdt (ix3 s (later r) (⟨k.val, by omega⟩ : Fin 768)) := by
    rw [← hz]
    exact extractStridedSlice_apply _ zdt _ (ix3 s r k) _ fun e => match e with
      | ⟨0, _⟩ => (Nat.zero_add _).symm
      | ⟨1, _⟩ => rfl
      | ⟨2, _⟩ => (Nat.zero_add _).symm
  have gates : mulf Z (Host.divf (broadcastInDim S2x8192x512 ![] bcast_S_S2x8192x512 (constant S_ .f32 0x3F800000#32))
      (addf (broadcastInDim S2x8192x512 ![] bcast_S_S2x8192x512 (constant S_ .f32 0x3F800000#32)) (Host.exp (Host.negf Z)))) (ix3 s r k) = act (Z (ix3 s r k)) := rfl
  have cell : ∀ A C : FVec Ideal S2x8192x512 .f32, mulf A C (ix3 s r k) = FloatOps.mulf (A (ix3 s r k)) (C (ix3 s r k)) := fun _ _ => rfl
  rw [cell, gates, atZ]
  generalize ha : (⟨k.val / 64, by omega⟩ : Fin 8) = a
  generalize hq : (⟨k.val % 64, Nat.mod_lt _ (by omega)⟩ : Fin 64) = q
  have hk : k.val = a.val * 64 + q.val := by rw [← ha, ← hq]; exact split
  have parts : ∀ P X F B : FVec Ideal S2x8192x8x64 .f32, addf (addf (mulf P X) F) B (ix4 s r a q)
      = FloatOps.addf (FloatOps.addf (FloatOps.mulf (P (ix4 s r a q)) (X (ix4 s r a q))) (F (ix4 s r a q))) (B (ix4 s r a q)) := fun _ _ _ _ => rfl
  have gain : broadcastInDim S2x8192x8x64 ![0, 1, 2, 3] bcast_S1x1x8x1_S2x8192x8x64_0_1_2_3 (broadcastInDim S1x1x8x1 ![2, 3] bcast_S8x1_S1x1x8x1_2_3 (broadcastInDim S8x1 ![0] bcast_S8_S8x1_0 d)) (ix4 s r a q)
      = d (ix1 a) := by
    have wide : ∀ y : FVec Ideal S1x1x8x1 .f32, broadcastInDim S2x8192x8x64 ![0, 1, 2, 3] bcast_S1x1x8x1_S2x8192x8x64_0_1_2_3 y (ix4 s r a q) = y (ix4 (0 : Fin 1) (0 : Fin 1) a (0 : Fin 1)) := fun y =>
      broadcastInDim_apply ![0, 1, 2, 3] _ y (ix4 s r a q) (ix4 (0 : Fin 1) (0 : Fin 1) a (0 : Fin 1)) fun e => match e with
        | ⟨0, _⟩ => rfl
        | ⟨1, _⟩ => rfl
        | ⟨2, _⟩ => rfl
        | ⟨3, _⟩ => rfl
    have tall : ∀ y : FVec Ideal S8x1 .f32, broadcastInDim S1x1x8x1 ![2, 3] bcast_S8x1_S1x1x8x1_2_3 y (ix4 (0 : Fin 1) (0 : Fin 1) a (0 : Fin 1)) = y (ix2 a (0 : Fin 1)) := fun y =>
      broadcastInDim_apply ![2, 3] _ y (ix4 (0 : Fin 1) (0 : Fin 1) a (0 : Fin 1)) (ix2 a (0 : Fin 1)) fun e => match e with
        | ⟨0, _⟩ => rfl
        | ⟨1, _⟩ => rfl
    rw [wide, tall]
    exact broadcastInDim_apply ![0] _ d (ix2 a (0 : Fin 1)) (ix1 a) fun e => match e with
      | ⟨0, _⟩ => rfl
  have cut : ∀ y : FVec Ideal S2x8448x512 .f32, shapeCast S2x8192x8x64 (extractStridedSlice S2x8192x512 ![0, 256, 0] y slices_S2x8448x512_S2x8192x512_0_256_0) shapeCasts_S2x8192x512_S2x8192x8x64 (ix4 s r a q)
      = y (ix3 s (later r) k) := fun y =>
    (into_parts (A := 8) (Q := 64) (N := 512) _ _ (by norm_num) s r k a q hk).trans (rows_from 256 y _ s r k (later r) rfl)
  have skip : extractStridedSlice S2x8448x512 ![0, 0, 0] xbc slices_S2x8448x1024_S2x8448x512_0_0_0 (ix3 s (later r) k) = xbc (ix3 s (later r) (⟨k.val, by omega⟩ : Fin 1024)) :=
    cols_three 0 xbc _ s (later r) k _ (Nat.zero_add _).symm
  unfold midAt midCell
  rw [ha]
  refine congrArg (fun y : Ideal .f32 => FloatOps.mulf y _) ((out_parts (A := 8) (Q := 64) (N := 512) _ _ (by norm_num) s r k a q hk).trans ((parts _ _ _ _).trans ?_))
  rw [gain, cut, cut, cut, skip]
  exact sum_order _ _ _

/-- The groups normalised, as the reference spells them. -/
def refGroups (M : FVec Ideal S2x8192x512 .f32) : FVec Ideal S2x8192x512 .f32 :=
  (shapeCast _ (mulf (mulf (shapeCast _ M shapeCasts_S2x8192x512_S2x8192x2x256) (broadcastInDim S2x8192x2x256 ![0, 1, 2, 3] bcast_S2x8192x2x1_S2x8192x2x256_0_1_2_3 (Host.rsqrt (addf (Host.divf
      (broadcastInDim S2x8192x2x1 ![0, 1, 2] bcast_S2x8192x2_S2x8192x2x1_0_1_2 (Host.reduceAdd (mulf (shapeCast _ M shapeCasts_S2x8192x512_S2x8192x2x256) (shapeCast _ M shapeCasts_S2x8192x512_S2x8192x2x256))
        (constant S_ .f32 0x00000000#32) reducesTo_S2x8192x2x256_S2x8192x2_d3 h_S_))
      (broadcastInDim S2x8192x2x1 ![] bcast_S_S2x8192x2x1 (constant S_ .f32 0x43800000#32))) (broadcastInDim S2x8192x2x1 ![] bcast_S_S2x8192x2x1 (constant S_ .f32 0x358637BD#32))))))
    (broadcastInDim S2x8192x2x256 ![0, 1, 2, 3] bcast_S1x1x2x256_S2x8192x2x256_0_1_2_3 (broadcastInDim S1x1x2x256 ![2, 3] bcast_S2x256_S1x1x2x256_2_3 (shapeCast _ gn shapeCasts_S512_S2x256))))
    shapeCasts_S2x8192x2x256_S2x8192x512)

theorem refGroups_apply (M : FVec Ideal S2x8192x512 .f32) (s : Fin 2) (r : Fin 8192) (k : Fin 512) :
    refGroups gn M (ix3 s r k) = groupRow (fun q => M (ix3 s r q)) (fun q => gn (ix1 q)) k := by
  have hred : S2x8192x2x256.Reduces [3] S2x8192x2 := by decide
  have split : k.val = k.val / 256 * 256 + k.val % 256 := by omega
  generalize ha : (⟨k.val / 256, by omega⟩ : Fin 2) = a
  generalize hq : (⟨k.val % 256, Nat.mod_lt _ (by omega)⟩ : Fin 256) = q
  have hk : k.val = a.val * 256 + q.val := by rw [← ha, ← hq]; exact split
  unfold refGroups
  refine (out_parts (A := 2) (Q := 256) (N := 512) _ _ (by norm_num) s r k a q hk).trans ?_
  generalize hx : shapeCast S2x8192x2x256 M shapeCasts_S2x8192x512_S2x8192x2x256 = X
  have atX : ∀ p : Fin 256, X (ix4 s r a p) = M (ix3 s r (sameGroup k p)) := fun p => by
    rw [← hx]
    exact into_parts (A := 2) (Q := 256) (N := 512) _ _ (by norm_num) s r _ a p (by show k.val / 256 * 256 + p.val = a.val * 256 + p.val; rw [← ha])
  have self : sameGroup k q = k := Fin.ext (by show k.val / 256 * 256 + q.val = k.val; rw [← hq]; exact split.symm)
  have gain : broadcastInDim S2x8192x2x256 ![0, 1, 2, 3] bcast_S1x1x2x256_S2x8192x2x256_0_1_2_3 (broadcastInDim S1x1x2x256 ![2, 3] bcast_S2x256_S1x1x2x256_2_3 (shapeCast _ gn shapeCasts_S512_S2x256)) (ix4 s r a q)
      = gn (ix1 k) := by
    have wide : ∀ y : FVec Ideal S1x1x2x256 .f32, broadcastInDim S2x8192x2x256 ![0, 1, 2, 3] bcast_S1x1x2x256_S2x8192x2x256_0_1_2_3 y (ix4 s r a q) = y (ix4 (0 : Fin 1) (0 : Fin 1) a q) := fun y =>
      broadcastInDim_apply ![0, 1, 2, 3] _ y (ix4 s r a q) (ix4 (0 : Fin 1) (0 : Fin 1) a q) fun e => match e with
        | ⟨0, _⟩ => rfl
        | ⟨1, _⟩ => rfl
        | ⟨2, _⟩ => rfl
        | ⟨3, _⟩ => rfl
    have tall : ∀ y : FVec Ideal S2x256 .f32, broadcastInDim S1x1x2x256 ![2, 3] bcast_S2x256_S1x1x2x256_2_3 y (ix4 (0 : Fin 1) (0 : Fin 1) a q) = y (ix2 a q) := fun y =>
      broadcastInDim_apply ![2, 3] _ y (ix4 (0 : Fin 1) (0 : Fin 1) a q) (ix2 a q) fun e => match e with
        | ⟨0, _⟩ => rfl
        | ⟨1, _⟩ => rfl
    rw [wide, tall]
    exact shapeCast_apply _ _ _ (ix1 k) (by
      rw [Shape.rowMajor_val_one, Shape.rowMajor_val_two]
      exact hk)
  have col : ∀ y : FVec Ideal S2x8192x2x1 .f32, broadcastInDim S2x8192x2x256 ![0, 1, 2, 3] bcast_S2x8192x2x1_S2x8192x2x256_0_1_2_3 y (ix4 s r a q) = y (ix4 s r a (0 : Fin 1)) := fun y =>
    broadcastInDim_apply ![0, 1, 2, 3] _ y (ix4 s r a q) (ix4 s r a (0 : Fin 1)) fun e => match e with
      | ⟨0, _⟩ => rfl
      | ⟨1, _⟩ => rfl
      | ⟨2, _⟩ => rfl
      | ⟨3, _⟩ => rfl
  have sum : broadcastInDim S2x8192x2x1 ![0, 1, 2] bcast_S2x8192x2_S2x8192x2x1_0_1_2 (Host.reduceAdd (F := Ideal) (mulf X X) (constant S_ .f32 0x00000000#32) reducesTo_S2x8192x2x256_S2x8192x2_d3 h_S_) (ix4 s r a (0 : Fin 1))
      = ∑ p : Fin 256, X (ix4 s r a p) * X (ix4 s r a p) := by
    have col1 : ∀ y : FVec Ideal S2x8192x2 .f32, broadcastInDim S2x8192x2x1 ![0, 1, 2] bcast_S2x8192x2_S2x8192x2x1_0_1_2 y (ix4 s r a (0 : Fin 1)) = y (ix3 s r a) := fun y =>
      broadcastInDim_apply ![0, 1, 2] _ y (ix4 s r a (0 : Fin 1)) (ix3 s r a) fun e => match e with
        | ⟨0, _⟩ => rfl
        | ⟨1, _⟩ => rfl
        | ⟨2, _⟩ => rfl
    rw [col1]
    show Ideal.hostReduceAdd _ _ _ _ = _
    rw [Ideal.hostReduceAdd_single _ hred, show (constant (F := Ideal) S_ .f32 0x00000000#32 (Shape.Idx.first h_S_) : EReal) = 0 from Ideal.ofBits_zero_f32, zero_add]
    refine Finset.sum_congr rfl fun p _ => ?_
    have e : hred.lift (ix3 s r a) p = ix4 s r a p := by
      funext d
      match d with
      | ⟨0, _⟩ => rfl
      | ⟨1, _⟩ => rfl
      | ⟨2, _⟩ => rfl
      | ⟨3, _⟩ => rfl
    rw [e]
    rfl
  have cell : ∀ A G : FVec Ideal S2x8192x2x256 .f32, mulf (mulf X A) G (ix4 s r a q)
      = FloatOps.mulf (FloatOps.mulf (X (ix4 s r a q)) (A (ix4 s r a q))) (G (ix4 s r a q)) := fun _ _ => rfl
  unfold groupRow
  rw [cell, gain, col]
  simp only [← atX]
  rw [← sum, show M (ix3 s r k) = X (ix4 s r a q) by rw [atX, self]]
  rfl

/-- What the projection takes, as the reference spells it. -/
def refFeat : FVec Ideal S2x8192x1024 .f32 :=
  concatenate S2x8192x1024 2 [⟨S2x8192x512, hy⟩, ⟨S2x8192x512, refGroups gn (refMid yf yb xbc zdt d)⟩] concatenates_S2x8192x512_S2x8192x512_S2x8192x1024_d2

theorem refFeat_apply (s : Fin 2) (r : Fin 8192) (j : Fin 1024) : refFeat hy yf yb xbc zdt d gn (ix3 s r j) = featAt hy yf yb xbc zdt d gn s r j := by
  unfold refFeat featAt
  by_cases e : j.val < 512
  · rw [dif_pos e]
    exact cat_three _ _ s r j 0 (by simp) _ rfl 0 rfl ⟨j.val, e⟩ (Nat.zero_add _)
  · rw [dif_neg e]
    refine (cat_three _ _ s r j 1 (by simp) _ rfl 512 rfl ⟨j.val - 512, by omega⟩ (by show 512 + (j.val - 512) = j.val; omega)).trans ((refGroups_apply gn _ s r _).trans ?_)
    exact congrArg (fun o => groupRow o _ _) (funext fun q => refMid_apply yf yb xbc zdt d s r q)

/-- The new rows, as the reference spells them. -/
def refSeq : FVec Ideal S2x8192x1024 .f32 :=
  addf (extractStridedSlice S2x8192x1024 ![0, 256, 0] h slices_S2x8448x1024_S2x8192x1024_0_256_0) (mulf (broadcastInDim S2x8192x1024 ![0, 1, 2] bcast_S2x1x1024_S2x8192x1024_0_1_2
      (shapeCast _ (extractStridedSlice S2x1x1x1024 ![0, 1, 0, 0] gate slices_S2x2x1x1024_S2x1x1x1024_0_1_0_0) shapeCasts_S2x1x1x1024_S2x1x1024))
    (Host.dotGeneral dot_S2x8192x1024_S1024x1024_S2x8192x1024_2_0_01_1_n_n none (refFeat hy yf yb xbc zdt d gn) w))

theorem refSeq_apply (s : Fin 2) (r : Fin 8192) (k : Fin 1024) : refSeq h hy yf yb xbc zdt d gn w gate (ix3 s r k) = hAt h hy yf yb xbc zdt d gn w gate s r k := by
  refine (new_row w _ _ _ _ _ s r k).trans ?_
  unfold hAt
  rw [seg_apply 1 gate slices_S2x2x1x1024_S2x1x1x1024_0_1_0_0 shapeCasts_S2x1x1x1024_S2x1x1024 s 1 rfl, rows_from 256 h _ s r k (later r) rfl]
  simp only [refFeat_apply]

theorem ref_h : refSeq h hy yf yb xbc zdt d gn w gate = hOut h hy yf yb xbc zdt d gn w gate := by
  funext i
  obtain ⟨s, r, k, rfl⟩ : ∃ (s : Fin 2) (r : Fin 8192) (k : Fin 1024), i = ix3 s r k := ⟨_, _, _, eq_ix3 i⟩
  exact refSeq_apply h hy yf yb xbc zdt d gn w gate s r k

/-- The rows modulated, as the reference spells them. -/
def modSeq (v : FVec Ideal S2x8192x1024 .f32) : FVec Ideal S2x8192x1024 .f32 :=
  (addf (mulf (mulf (mulf v
      (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v v) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g)))
      (broadcastInDim S2x8192x1024 ![0, 1, 2] bcast_S2x1x1024_S2x8192x1024_0_1_2 (addf (broadcastInDim S2x1x1024 ![] bcast_S_S2x1x1024 (constant S_ .f32 0x3F800000#32)) (shapeCast _ (extractStridedSlice S2x1x1x1024 ![0, 1, 0, 0] scale slices_S2x2x1x1024_S2x1x1x1024_0_1_0_0) shapeCasts_S2x1x1x1024_S2x1x1024))))
      (broadcastInDim S2x8192x1024 ![0, 1, 2] bcast_S2x1x1024_S2x8192x1024_0_1_2 (shapeCast _ (extractStridedSlice S2x1x1x1024 ![0, 1, 0, 0] shift slices_S2x2x1x1024_S2x1x1x1024_0_1_0_0) shapeCasts_S2x1x1x1024_S2x1x1024)))

theorem ref_v : truncf .bf16 (modSeq g shift scale (refSeq h hy yf yb xbc zdt d gn w gate)) bitsLt_bf16_f32 = vOut h hy yf yb xbc zdt d gn w gate g shift scale := by
  funext i
  obtain ⟨s, r, k, rfl⟩ : ∃ (s : Fin 2) (r : Fin 8192) (k : Fin 1024), i = ix3 s r k := ⟨_, _, _, eq_ix3 i⟩
  refine (host_modulate _ g _ _ (by decide) _ _ _ _ _ _ _ _ _ s r k).trans ?_
  simp only [refSeq_apply h hy yf yb xbc zdt d gn w gate, seg_apply 1 scale slices_S2x2x1x1024_S2x1x1x1024_0_1_0_0 shapeCasts_S2x1x1x1024_S2x1x1024 s 1 rfl,
    seg_apply 1 shift slices_S2x2x1x1024_S2x1x1x1024_0_1_0_0 shapeCasts_S2x1x1x1024_S2x1x1024 s 1 rfl]
  rfl

end Ref

end Cert.Odd

end
-- ==== Proof.OddBody.lean ====
/- The odd layer's output projection, its body: what one grid point computes from its blocks. -/
module

public import proofs.«01_k».proof.Proof.OddRef
public import proofs.«01_k».proof.Proof.ProjBody
public import proofs.«01_k».proof.Proof.Gen.Kernel5Ideal.Skeleton

@[expose] public section

noncomputable section

namespace Cert.Odd

open Cert.Kernel5Ideal Cert.Kernel5Ideal.Gen
open Idealize.ShloMosaic Idealize.ShloMosaic.ValueIdx Idealize.ShloMosaic.StackMember
open Cert.Proj (modRow block_modulate block_product cat_two cols_two)
open Cert.Experts (act)

/-- A group's columns of a block, normalised, as the body spells them. -/
def groupBlock (o : ℕ) (X : FVec Ideal S256x512 .f32) (g : FVec Ideal S1x256 .f32) (hs : S256x512.Slices ![0, o] S256x256) : FVec Ideal S256x256 .f32 :=
  mulf (mulf (extractStridedSlice S256x256 ![0, o] X hs) (broadcastTo S256x256 (rsqrt (addf (divf (shapeCast S256x1
      (multiReduction (F := Ideal) .add [1] S256 (mulf (extractStridedSlice S256x256 ![0, o] X hs) (extractStridedSlice S256x256 ![0, o] X hs)) 0x00000000#32 reduces_S256x256_S256 (.inl rfl) rfl) shapeCasts_S256_S256x1)
      (broadcast S256x1 (Scalar.ofBits .f32 0x43800000#32))) (broadcast S256x1 (Scalar.ofBits .f32 0x358637BD#32)))) broadcasts_S256x1_S256x256)) (broadcastTo S256x256 g broadcasts_S1x256_S256x256)

theorem groupBlock_apply (o : ℕ) (X : FVec Ideal S256x512 .f32) (g : FVec Ideal S1x256 .f32) (hs : S256x512.Slices ![0, o] S256x256) (a : ℕ) (ha : o = a * 256) (r q : Fin 256)
    (k : Fin 512) (hk : k.val = o + q.val) (gn : Fin 512 → EReal) (hg : g (ix2 (0 : Fin 1) q) = gn k) :
    groupBlock o X g hs (ix2 r q) = groupRow (fun j => X (ix2 r j)) gn k := by
  have hq := q.isLt
  have cut : ∀ p : Fin 256, extractStridedSlice S256x256 ![0, o] X hs (ix2 r p) = X (ix2 r (sameGroup k p)) := fun p =>
    cols_two o X hs r p (sameGroup k p) (by show k.val / 256 * 256 + p.val = o + p.val; omega)
  have self : sameGroup k q = k := Fin.ext (by show k.val / 256 * 256 + q.val = k.val; omega)
  unfold groupBlock groupRow
  generalize hx : extractStridedSlice S256x256 ![0, o] X hs = x
  have atx : ∀ p, x (ix2 r p) = X (ix2 r (sameGroup k p)) := fun p => by rw [← hx]; exact cut p
  have sum : shapeCast S256x1 (multiReduction (F := Ideal) .add [1] S256 (mulf x x) 0x00000000#32 reduces_S256x256_S256 (.inl rfl) rfl) shapeCasts_S256_S256x1 (ix2 r (0 : Fin 1))
      = ∑ p : Fin 256, x (ix2 r p) * x (ix2 r p) := by
    refine (shapeCast_apply _ _ _ (ix1 r) ?_).trans ((Ideal.multiReduction_add_single _ _ reduces_S256x256_S256 _ _ (ix1 r)).trans (Finset.sum_congr rfl fun p _ => ?_))
    · rw [Shape.rowMajor_val_one, Shape.rowMajor_val_two]
      show r.val = r.val * 1 + 0
      omega
    · have e : reduces_S256x256_S256.lift (ix1 r) p = ix2 r p := by
        funext d
        match d with
        | ⟨0, _⟩ => rfl
        | ⟨1, _⟩ => rfl
      rw [e]
      rfl
  have col : ∀ y : FVec Ideal S256x1 .f32, broadcastTo S256x256 y broadcasts_S256x1_S256x256 (ix2 r q) = y (ix2 r (0 : Fin 1)) := fun y =>
    broadcastTo_apply y _ (ix2 r q) (ix2 r (0 : Fin 1)) fun d => match d with
      | ⟨0, _⟩ => rfl
      | ⟨1, _⟩ => rfl
  have row : broadcastTo S256x256 g broadcasts_S1x256_S256x256 (ix2 r q) = g (ix2 (0 : Fin 1) q) :=
    broadcastTo_apply g _ (ix2 r q) (ix2 (0 : Fin 1) q) fun d => match d with
      | ⟨0, _⟩ => rfl
      | ⟨1, _⟩ => rfl
  have cell : ∀ A G : FVec Ideal S256x256 .f32, mulf (mulf x A) G (ix2 r q)
      = FloatOps.mulf (FloatOps.mulf (x (ix2 r q)) (A (ix2 r q))) (G (ix2 r q)) := fun _ _ => rfl
  rw [cell, col, row, hg]
  simp only [← atx]
  rw [← sum, show X (ix2 r k) = x (ix2 r q) by rw [atx, self]]
  rfl

section Blocks
variable (h : FVec Ideal S1x256x1024 .f32) (hy : FVec Ideal S1x256x512 .f32) (yf yb : FVec Ideal S1x256x512 .bf16) (xs z : FVec Ideal S1x256x512 .f32)
  (d gn : FVec Ideal S1x512 .f32) (w : FVec Ideal S1024x1024 .bf16) (gate : FVec Ideal S1x1x1x1024 .f32) (g : FVec Ideal S1x1024 .f32) (shift scale : FVec Ideal S1x1x1x1024 .f32)

theorem flat_rows {α : Type} (y : S1x256x512.Idx → α) (r : Fin 256) (j : Fin 512) : shapeCast S256x512 y shapeCasts_S1x256x512_S256x512 (ix2 r j) = y (ix3 (0 : Fin 1) r j) :=
  shapeCast_apply _ _ _ (ix3 (0 : Fin 1) r j) (by
    rw [Shape.rowMajor_val_three, Shape.rowMajor_val_two]
    show (0 * 256 + r.val) * 512 + j.val = r.val * 512 + j.val
    omega)

theorem flat_vec (y : FVec Ideal S1x1x1x1024 .f32) (k : Fin 1024) : shapeCast S1x1024 y shapeCasts_S1x1x1x1024_S1x1024 (ix2 (0 : Fin 1) k) = y (ix4 (0 : Fin 1) (0 : Fin 1) (0 : Fin 1) k) :=
  shapeCast_apply _ _ _ (ix4 (0 : Fin 1) (0 : Fin 1) (0 : Fin 1) k) (by
    rw [Shape.rowMajor_val_four, Shape.rowMajor_val_two]
    show ((0 * 1 + 0) * 1 + 0) * 1024 + k.val = 0 * 1024 + k.val
    omega)

/-- A block's rows before their groups are normalised. -/
def midRow (r : Fin 256) (k : Fin 512) : EReal :=
  midCell (yf (ix3 (0 : Fin 1) r k)) (yb (ix3 (0 : Fin 1) r k)) (d (ix2 (0 : Fin 1) k)) (xs (ix3 (0 : Fin 1) r k)) (z (ix3 (0 : Fin 1) r k))

theorem mid_block (r : Fin 256) (k : Fin 512) : k0_pay2 (F := Ideal) yf yb d xs z (ix2 r k) = midRow yf yb xs z d r k := by
  have row : broadcastTo S256x512 (shapeCast S1x512 d shapeCasts_S1x512_S1x512) broadcasts_S1x512_S256x512 (ix2 r k) = d (ix2 (0 : Fin 1) k) :=
    (broadcastTo_apply _ _ (ix2 r k) (ix2 (0 : Fin 1) k) fun e => match e with
      | ⟨0, _⟩ => rfl
      | ⟨1, _⟩ => rfl).trans (shapeCast_apply d shapeCasts_S1x512_S1x512 _ _ rfl)
  unfold midRow midCell act
  rw [← row, ← flat_rows yf, ← flat_rows yb, ← flat_rows xs, ← flat_rows z, ← Ideal.subf_zero_eq_hostNegf]
  rfl

theorem lower_slices : S1x512.Slices ![0, 0] S1x256 := ⟨rfl, inb_S1x512_S1x256_0_0⟩
theorem upper_slices : S1x512.Slices ![0, 256] S1x256 := ⟨rfl, inb_S1x512_S1x256_0_256⟩

/-- The first group's gain, and the second's. -/
abbrev lowerGain : FVec Ideal S1x256 .f32 := extractStridedSlice S1x256 ![0, 0] gn lower_slices
abbrev upperGain : FVec Ideal S1x256 .f32 := extractStridedSlice S1x256 ![0, 256] gn upper_slices

/-- What the projection takes of a block. -/
def featsOf : FVec Ideal S256x1024 .bf16 :=
  truncf .bf16 (concatenate S256x1024 1 [⟨S256x512, shapeCast S256x512 hy shapeCasts_S1x256x512_S256x512⟩,
    ⟨S256x256, groupBlock 0 (k0_pay2 (F := Ideal) yf yb d xs z) (k0_pay4 (F := Ideal) (lowerGain gn)) slices_S256x512_o0_0_S256x256⟩,
    ⟨S256x256, groupBlock 256 (k0_pay2 (F := Ideal) yf yb d xs z) (shapeCast S1x256 (upperGain gn) shapeCasts_S1x256_S1x256) slices_S256x512_o0_256_S256x256⟩]
    concatenates_S256x512_S256x256_S256x256_S256x1024_d1) bitsLt_bf16_f32

theorem featsOf_apply (r : Fin 256) (j : Fin 1024) : featsOf hy yf yb xs z d gn (ix2 r j)
    = if e : j.val < 512 then hy (ix3 (0 : Fin 1) r (⟨j.val, e⟩ : Fin 512)) else groupRow (midRow yf yb xs z d r) (fun q => gn (ix2 (0 : Fin 1) q)) ⟨j.val - 512, by omega⟩ := by
  have tr : ∀ y : FVec Ideal S256x1024 .f32, truncf .bf16 y bitsLt_bf16_f32 (ix2 r j) = y (ix2 r j) := fun _ => rfl
  have mid : (fun k => k0_pay2 (F := Ideal) yf yb d xs z (ix2 r k)) = midRow yf yb xs z d r := funext fun k => mid_block yf yb xs z d r k
  unfold featsOf
  refine (tr _).trans ?_
  by_cases e : j.val < 512
  · rw [dif_pos e]
    exact (cat_two _ _ r j 0 (by simp) _ rfl 0 rfl ⟨j.val, e⟩ (Nat.zero_add _)).trans (flat_rows hy r _)
  · rw [dif_neg e, ← mid]
    by_cases a : j.val < 768
    · refine (cat_two _ _ r j 1 (by simp) _ rfl 512 rfl ⟨j.val - 512, by omega⟩ (by show 512 + (j.val - 512) = j.val; omega)).trans
        (groupBlock_apply 0 _ _ _ 0 rfl r _ _ (by show j.val - 512 = 0 + (j.val - 512); omega) _ ?_)
      exact (shapeCast_apply _ shapeCasts_S1x256_S1x256 _ _ rfl).trans (cols_two 0 gn lower_slices 0 _ _ (by show j.val - 512 = 0 + (j.val - 512); omega))
    · refine (cat_two _ _ r j 2 (by simp) _ rfl 768 rfl ⟨j.val - 768, by omega⟩ (by show 768 + (j.val - 768) = j.val; omega)).trans
        (groupBlock_apply 256 _ _ _ 1 rfl r _ _ (by show j.val - 512 = 256 + (j.val - 768); omega) _ ?_)
      exact (shapeCast_apply _ shapeCasts_S1x256_S1x256 _ _ rfl).trans (cols_two 256 gn upper_slices 0 _ _ (by show j.val - 512 = 256 + (j.val - 768); omega))

/-- A new row of a block: the old one and the gate times the projection. -/
def newRow (U : FVec Ideal S256x1024 .bf16) (r : Fin 256) (k : Fin 1024) : EReal :=
  FloatOps.addf (F := Ideal) (φ := .f32) (h (ix3 (0 : Fin 1) r k))
    (FloatOps.mulf (F := Ideal) (φ := .f32) (gate (ix4 (0 : Fin 1) (0 : Fin 1) (0 : Fin 1) k)) (∑ c : Fin 1024, U (ix2 r c) * w (ix2 c k)))

/-- The new rows of a block, as the body computes them. -/
abbrev rowsOf : FVec Ideal S256x1024 .f32 :=
  k0_pay6 (F := Ideal) (k0_pay2 yf yb d xs z) (k0_pay3 yf yb d xs z) (k0_pay4 (lowerGain gn)) (k0_pay5 yf yb d xs z) (upperGain gn) hy h gate w

theorem rowsOf_apply (r : Fin 256) (k : Fin 1024) : rowsOf h hy yf yb xs z d gn w gate (ix2 r k) = newRow h w gate (featsOf hy yf yb xs z d gn) r k := by
  have flat : shapeCast S256x1024 h shapeCasts_S1x256x1024_S256x1024 (ix2 r k) = h (ix3 (0 : Fin 1) r k) :=
    shapeCast_apply _ _ _ (ix3 (0 : Fin 1) r k) (by
      rw [Shape.rowMajor_val_three, Shape.rowMajor_val_two]
      show (0 * 256 + r.val) * 1024 + k.val = r.val * 1024 + k.val
      omega)
  have row : ∀ y : FVec Ideal S1x1024 .f32, broadcastTo S256x1024 y broadcasts_S1x1024_S256x1024 (ix2 r k) = y (ix2 (0 : Fin 1) k) := fun y =>
    broadcastTo_apply y _ (ix2 r k) (ix2 (0 : Fin 1) k) fun e => match e with
      | ⟨0, _⟩ => rfl
      | ⟨1, _⟩ => rfl
  unfold newRow
  rw [← flat, ← flat_vec gate k, ← row (shapeCast S1x1024 gate shapeCasts_S1x1x1x1024_S1x1024), ← block_product _ _ w shapeCasts_S1024x1024_S1024x1024 r k]
  rfl

/-- The first result's block. -/
abbrev hBlock : FVec Ideal S1x256x1024 .f32 :=
  k0_pay7 (F := Ideal) (k0_pay2 yf yb d xs z) (k0_pay3 yf yb d xs z) (k0_pay4 (lowerGain gn)) (k0_pay5 yf yb d xs z) (upperGain gn) hy h gate w

theorem hBlock_apply (r : Fin 256) (k : Fin 1024) : hBlock h hy yf yb xs z d gn w gate (ix3 (0 : Fin 1) r k) = newRow h w gate (featsOf hy yf yb xs z d gn) r k := by
  unfold hBlock k0_pay7
  exact (shapeCast_apply _ _ _ (ix2 r k) (by
    rw [Shape.rowMajor_val_three, Shape.rowMajor_val_two]
    show r.val * 1024 + k.val = (0 * 256 + r.val) * 1024 + k.val
    omega)).trans (rowsOf_apply h hy yf yb xs z d gn w gate r k)

/-- The second result's block: the new rows, normalised and modulated. -/
abbrev vBlock : FVec Ideal S1x256x1024 .bf16 := k0_pay10 (F := Ideal) (rowsOf h hy yf yb xs z d gn w gate) g scale shift

theorem vBlock_apply (r : Fin 256) (k : Fin 1024) : vBlock h hy yf yb xs z d gn w gate g shift scale (ix3 (0 : Fin 1) r k)
    = modRow (newRow h w gate (featsOf hy yf yb xs z d gn) r) (fun c => g (ix2 (0 : Fin 1) c)) (fun c => scale (ix4 (0 : Fin 1) (0 : Fin 1) (0 : Fin 1) c))
      (fun c => shift (ix4 (0 : Fin 1) (0 : Fin 1) (0 : Fin 1) c)) k := by
  have tr : ∀ (y : FVec Ideal S256x1024 .f32) (j : S256x1024.Idx), truncf .bf16 y bitsLt_bf16_f32 j = y j := fun _ _ => rfl
  unfold vBlock k0_pay10
  refine (shapeCast_apply _ _ _ (ix2 r k) (by
    rw [Shape.rowMajor_val_three, Shape.rowMajor_val_two]
    show r.val * 1024 + k.val = (0 * 256 + r.val) * 1024 + k.val
    omega)).trans ((tr _ _).trans ((block_modulate _ _ _ _ reduces_S256x1024_S256 _ _ _ r k).trans ?_))
  simp only [rowsOf_apply, flat_vec, shapeCast_apply g shapeCasts_S1x1024_S1x1024 _ _ rfl]

end Blocks

end Cert.Odd

end
-- ==== Proof.OddPoint.lean ====
/- The odd layer's output projection, its grid points: what one of them writes, whichever of the body's two cases it runs. -/
module

public import proofs.«01_k».proof.Proof.OddBody
public import proofs.«01_k».proof.Proof.Gen.Kernel5Ideal.Value
public import Idealize.ShloMosaic.Lib.WritesUnit

@[expose] public section

noncomputable section

namespace Cert.Odd

open Cert.Kernel5Ideal Cert.Kernel5Ideal.Gen
open Idealize.ShloMosaic Idealize.ShloMosaic.ValueIdx Idealize.ShloMosaic.StackMember
open Idealize.ShloMosaic.TcCoe
open Idealize.SL.Sem
open Idealize.ShloMosaic.Pipeline (Dat Cfg Window)

theorem zeros_two : (![0, 0] : Fin 2 → ℕ) = fun _ => 0 := by decide
theorem zeros_three : (![0, 0, 0] : Fin 3 → ℕ) = fun _ => 0 := by decide
theorem zeros_four : (![0, 0, 0, 0] : Fin 4 → ℕ) = fun _ => 0 := by decide

/-- A load of a whole block reads it as it stands. -/
theorem whole_load {S : Shape} {e : EltTy} (M : Memref sig .tc .vmem S e) (h : M.IsWhole) (x : Vec Ideal S e) {off : Fin S.rank → ℕ} (ho : off = fun _ => 0)
    (inb : ∀ a, off a + S.size a ≤ S.size a) : View.readAt (Elt Ideal) M.view (Rect.unit off S.size inb).toLoadRect (h.unread x) = x := by
  rw [View.readAt_eq_ld, Memref.IsWhole.read_unread]
  exact View.ld_unit_zero ho inb x

section Loads
variable {e : EltTy}

theorem load_rows (M : Memref sig .tc .vmem S1x256x1024 e) (h : M.IsWhole) (x : Vec Ideal S1x256x1024 e) :
    View.readAt (Elt Ideal) M.view (Rect.unit ![0, 0, 0] ![1, 256, 1024] inb_S1x256x1024_S1x256x1024_0_0_0).toLoadRect (h.unread x) = x := whole_load M h x zeros_three _
theorem load_half (M : Memref sig .tc .vmem S1x256x512 e) (h : M.IsWhole) (x : Vec Ideal S1x256x512 e) :
    View.readAt (Elt Ideal) M.view (Rect.unit ![0, 0, 0] ![1, 256, 512] inb_S1x256x512_S1x256x512_0_0_0).toLoadRect (h.unread x) = x := whole_load M h x zeros_three _
theorem load_skip (M : Memref sig .tc .vmem S1x512 e) (h : M.IsWhole) (x : Vec Ideal S1x512 e) :
    View.readAt (Elt Ideal) M.view (Rect.unit ![0, 0] ![1, 512] inb_S1x512_S1x512_0_0).toLoadRect (h.unread x) = x := whole_load M h x zeros_two _
theorem load_weights (M : Memref sig .tc .vmem S1024x1024 e) (h : M.IsWhole) (x : Vec Ideal S1024x1024 e) :
    View.readAt (Elt Ideal) M.view (Rect.unit ![0, 0] ![1024, 1024] inb_S1024x1024_S1024x1024_0_0).toLoadRect (h.unread x) = x := whole_load M h x zeros_two _
theorem load_segment (M : Memref sig .tc .vmem S1x1x1x1024 e) (h : M.IsWhole) (x : Vec Ideal S1x1x1x1024 e) :
    View.readAt (Elt Ideal) M.view (Rect.unit ![0, 0, 0, 0] ![1, 1, 1, 1024] inb_S1x1x1x1024_S1x1x1x1024_0_0_0_0).toLoadRect (h.unread x) = x := whole_load M h x zeros_four _
theorem load_gain (M : Memref sig .tc .vmem S1x1024 e) (h : M.IsWhole) (x : Vec Ideal S1x1024 e) :
    View.readAt (Elt Ideal) M.view (Rect.unit ![0, 0] ![1, 1024] inb_S1x1024_S1x1024_0_0).toLoadRect (h.unread x) = x := whole_load M h x zeros_two _

/-- A load of the first group's gain, and of the second's. -/
theorem load_lower (M : Memref sig .tc .vmem S1x512 .f32) (h : M.IsWhole) (x : Vec Ideal S1x512 .f32) :
    View.readAt (Elt Ideal) M.view (Rect.unit ![0, 0] ![1, 256] inb_S1x512_S1x256_0_0).toLoadRect (h.unread x) = lowerGain x := by
  rw [View.readAt_eq_ld, Memref.IsWhole.read_unread]
  exact View.ld_unit x _ _ _
theorem load_upper (M : Memref sig .tc .vmem S1x512 .f32) (h : M.IsWhole) (x : Vec Ideal S1x512 .f32) :
    View.readAt (Elt Ideal) M.view (Rect.unit ![0, 256] ![1, 256] inb_S1x512_S1x256_0_256).toLoadRect (h.unread x) = upperGain x := by
  rw [View.readAt_eq_ld, Memref.IsWhole.read_unread]
  exact View.ld_unit x _ _ _

end Loads

/-- One store over a whole block leaves its payload. -/
theorem whole_store {e : EltTy} (v : View sig .tc .vmem S1x256x1024 e) (f : v.ref.ty.Contents (Elt Ideal)) (w : Vec Ideal S1x256x1024 e) :
    v.read (Elt Ideal) (v.writes (Elt Ideal) f [⟨Rect.unit ![0, 0, 0] ![1, 256, 1024] inb_S1x256x1024_S1x256x1024_0_0_0, w⟩]) = w :=
  funext fun y => View.read_writes_cons_unit_of_mem v f inb_S1x256x1024_S1x256x1024_0_0_0 w [] y y zeros_three fun _ => (Nat.zero_add _).symm

section Points
variable (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1x1x1024 .f32) (harg11 : arg11.IsWhole) (arg12 : Memref sig .tc .vmem S1x1024 .f32) (harg12 : arg12.IsWhole) (arg13 : Memref sig .tc .vmem S1x1x1x1024 .f32) (harg13 : arg13.IsWhole) (arg14 : Memref sig .tc .vmem S1x1x1x1024 .f32) (harg14 : arg14.IsWhole) (arg15 : Memref sig .tc .vmem S1024x128 .f32) (harg15 : arg15.IsWhole) (arg16 : Memref sig .tc .vmem S16x1 .f32) (harg16 : arg16.IsWhole) (arg17 : Memref sig .tc .vmem S256x256 .bf16) (harg17 : arg17.IsWhole) (arg18 : Memref sig .tc .vmem S1x256x1024 .f32) (harg18 : arg18.IsWhole) (arg19 : Memref sig .tc .vmem S1x256x1024 .bf16) (harg19 : arg19.IsWhole) (arg20 : Memref sig .tc .vmem S1x8x256 .i32) (harg20 : arg20.IsWhole) (arg21 : Memref sig .tc .vmem S1x256x128 .f32) (harg21 : arg21.IsWhole) (arg22 : Memref sig .tc .vmem S16x128 .f32) (harg22 : arg22.IsWhole) (arg23 : Memref sig .tc .vmem S16x128 .f32) (harg23 : arg23.IsWhole)
  (x0 : Vec Ideal S1x256x1024 .f32) (x1 : Vec Ideal S1x256x512 .f32) (x2 : Vec Ideal S1x256x512 .bf16) (x3 : Vec Ideal S1x256x512 .bf16) (x4 : Vec Ideal S1x256x512 .f32) (x5 : Vec Ideal S1x256x512 .f32) (x6 : Vec Ideal S1x512 .f32) (x7 : Vec Ideal S1x512 .f32) (x8 : Vec Ideal S1024x1024 .bf16) (x9 : Vec Ideal S1x1x1x1024 .f32) (x10 : Vec Ideal S1x1024 .f32) (x11 : Vec Ideal S1x1x1x1024 .f32) (x12 : Vec Ideal S1x1x1x1024 .f32) (x13 : Vec Ideal S1024x128 .f32) (x14 : Vec Ideal S16x1 .f32) (x15 : Vec Ideal S256x256 .bf16) (xs0 : Vec Ideal S16x128 .f32)

theorem written_A_16 (hc0 : cond0_0 i) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15
    = hBlock x0 x1 x2 x3 x4 x5 x6 x7 x8 x9 := by
  unfold out0_A_16 kernelRun0_A
  dsimp only
  refine (whole_store _ _ _).trans ?_
  simp only [kernelRun0_A.sl.r_6, kernelRun0_A.sl.r_5, kernelRun0_A.sl.r_4, kernelRun0_A.sl.r_3, kernelRun0_A.sl.r_2, kernelRun0_A.sl.r_1, kernelRun0_A.sl.r,
    load_rows, load_half, load_skip, load_weights, load_segment, load_gain, load_lower, load_upper]

theorem written_A_17 (hc0 : cond0_0 i) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15
    = vBlock x0 x1 x2 x3 x4 x5 x6 x7 x8 x9 x10 x11 x12 := by
  unfold out0_A_17 kernelRun0_A
  dsimp only
  refine (whole_store _ _ _).trans ?_
  simp only [kernelRun0_A.sl.r_6, kernelRun0_A.sl.r_5, kernelRun0_A.sl.r_4, kernelRun0_A.sl.r_3, kernelRun0_A.sl.r_2, kernelRun0_A.sl.r_1, kernelRun0_A.sl.r,
    load_rows, load_half, load_skip, load_weights, load_segment, load_gain, load_lower, load_upper]

theorem written_B_16 (hc0 : ¬cond0_0 i) : out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0
    = hBlock x0 x1 x2 x3 x4 x5 x6 x7 x8 x9 := by
  unfold out0_B_16 kernelRun0_B
  dsimp only
  refine (whole_store _ _ _).trans ?_
  simp only [kernelRun0_B.sl.r_6, kernelRun0_B.sl.r_5, kernelRun0_B.sl.r_4, kernelRun0_B.sl.r_3, kernelRun0_B.sl.r_2, kernelRun0_B.sl.r_1, kernelRun0_B.sl.r,
    load_rows, load_half, load_skip, load_weights, load_segment, load_gain, load_lower, load_upper]

theorem written_B_17 (hc0 : ¬cond0_0 i) : out0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 xs0
    = vBlock x0 x1 x2 x3 x4 x5 x6 x7 x8 x9 x10 x11 x12 := by
  unfold out0_B_17 kernelRun0_B
  dsimp only
  refine (whole_store _ _ _).trans ?_
  simp only [kernelRun0_B.sl.r_6, kernelRun0_B.sl.r_5, kernelRun0_B.sl.r_4, kernelRun0_B.sl.r_3, kernelRun0_B.sl.r_2, kernelRun0_B.sl.r_1, kernelRun0_B.sl.r,
    load_rows, load_half, load_skip, load_weights, load_segment, load_gain, load_lower, load_upper]

end Points

end Cert.Odd

end
-- ==== Proof.OddValue.lean ====
/- The odd layer's output projection: the first two arrays the kernel leaves are the reference's. -/
module

public import proofs.«01_k».proof.Proof.OddPoint
public import proofs.«01_k».proof.Proof.ConvValue

@[expose] public section

noncomputable section

namespace Cert.Odd

open Cert.Kernel5Ideal Cert.Kernel5Ideal.Gen
open Idealize.ShloMosaic Idealize.ShloMosaic.ValueIdx Idealize.ShloMosaic.StackMember
open Idealize.ShloMosaic.TcCoe
open Idealize.SL.Sem
open Idealize.ShloMosaic.Pipeline (Dat Cfg Window)
open Cert.Conv (as_row covers)

variable (m : (ℓ : Loc nD τ sig) → Buf (Elt Ideal) ℓ) (c : Dev nD)

/-! ## The arguments -/

abbrev hArg : FVec Ideal S2x8448x1024 .f32 := m ((c : Thread nD τ).loc main_arg0)
abbrev hyArg : FVec Ideal S2x8192x512 .f32 := m ((c : Thread nD τ).loc main_arg1)
abbrev yfArg : FVec Ideal S2x8448x512 .bf16 := m ((c : Thread nD τ).loc main_arg2)
abbrev ybArg : FVec Ideal S2x8448x512 .bf16 := m ((c : Thread nD τ).loc main_arg3)
abbrev xbcArg : FVec Ideal S2x8448x1024 .f32 := m ((c : Thread nD τ).loc main_arg4)
abbrev zdtArg : FVec Ideal S2x8448x768 .f32 := m ((c : Thread nD τ).loc main_arg5)
abbrev dArg : FVec Ideal S8 .f32 := m ((c : Thread nD τ).loc main_arg6)
abbrev gnArg : FVec Ideal S512 .f32 := m ((c : Thread nD τ).loc main_arg7)
abbrev wArg : FVec Ideal S1024x1024 .f32 := m ((c : Thread nD τ).loc main_arg8)
abbrev gateArg : FVec Ideal S2x2x1x1024 .f32 := m ((c : Thread nD τ).loc main_arg9)
abbrev gArg : FVec Ideal S1024 .f32 := m ((c : Thread nD τ).loc main_arg10)
abbrev shiftArg : FVec Ideal S2x2x1x1024 .f32 := m ((c : Thread nD τ).loc main_arg11)
abbrev scaleArg : FVec Ideal S2x2x1x1024 .f32 := m ((c : Thread nD τ).loc main_arg12)

/-- What the kernel leaves as its first result, and as its second. -/
abbrev hEnd : FVec Ideal S2x8192x1024 .f32 :=
  hOut (hArg m c) (hyArg m c) (yfArg m c) (ybArg m c) (xbcArg m c) (zdtArg m c) (dArg m c) (gnArg m c) (wArg m c) (gateArg m c)
abbrev vEnd : FVec Ideal S2x8192x1024 .bf16 :=
  vOut (hArg m c) (hyArg m c) (yfArg m c) (ybArg m c) (xbcArg m c) (zdtArg m c) (dArg m c) (gnArg m c) (wArg m c) (gateArg m c) (gArg m c) (shiftArg m c) (scaleArg m c)

/-! ## The arrays the host prepares -/

/-- The skip gains repeated over their heads as one row, the weights narrowed, and the two gains each as one row. -/
theorem prepared : (V m c main_v5 : FVec Ideal S1x512 .f32) = shapeCast S1x512 (shapeCast S512 (broadcastInDim S8x64 ![0] bcast_S8_S8x64_0 (dArg m c)) shapeCasts_S8x64_S512) shapeCasts_S512_S1x512
    ∧ (V m c main_v6 : FVec Ideal S1024x1024 .bf16) = truncf .bf16 (wArg m c) bitsLt_bf16_f32
    ∧ (V m c main_v7 : FVec Ideal S1x1024 .f32) = shapeCast S1x1024 (gArg m c) shapeCasts_S1024_S1x1024
    ∧ (V m c main_v9 : FVec Ideal S1x512 .f32) = shapeCast S1x512 (gnArg m c) shapeCasts_S512_S1x512 := by
  refine ⟨?_, ?_, ?_, ?_⟩ <;>
  · show StableHlo.after (List.flatten [hostOps0]) _ _ = _
    simp only [hostOps0, List.flatten_cons, List.flatten_nil, List.append_nil]
    after_results_simp
    try rfl

theorem skip_row (k : Fin 512) : (V m c main_v5 : FVec Ideal S1x512 .f32) (ix2 (0 : Fin 1) k) = dArg m c (ix1 (⟨k.val / 64, by omega⟩ : Fin 8)) := by
  rw [(prepared m c).1]
  refine (as_row _ _ k).trans ((shapeCast_apply _ _ _ (ix2 (⟨k.val / 64, by omega⟩ : Fin 8) (⟨k.val % 64, Nat.mod_lt _ (by omega)⟩ : Fin 64)) ?_).trans
    (broadcastInDim_apply ![0] _ _ _ (ix1 (⟨k.val / 64, by omega⟩ : Fin 8)) fun e => match e with
      | ⟨0, _⟩ => rfl))
  rw [Shape.rowMajor_val_two, Shape.rowMajor_val_one]
  show k.val / 64 * 64 + k.val % 64 = k.val
  omega

/-! ## The blocks a grid point reads -/

theorem joint_index : ∀ t : Fin grid0.N, cc0_transform_0 (grid0.coords t) = ![t.val / 32, t.val % 32 + 1, 0] ∧ cc0_transform_2 (grid0.coords t) = ![t.val / 32, t.val % 32 + 1, 0]
    ∧ cc0_transform_3 (grid0.coords t) = ![t.val / 32, t.val % 32 + 1, 0] ∧ cc0_transform_4 (grid0.coords t) = ![t.val / 32, t.val % 32 + 1, 0]
    ∧ cc0_transform_5 (grid0.coords t) = ![t.val / 32, t.val % 32 + 1, 0] := by decide +kernel

theorem seq_index : ∀ t : Fin grid0.N, cc0_transform_1 (grid0.coords t) = ![t.val / 32, t.val % 32, 0] ∧ cc0_transform_16 (grid0.coords t) = ![t.val / 32, t.val % 32, 0]
    ∧ cc0_transform_17 (grid0.coords t) = ![t.val / 32, t.val % 32, 0] := by decide +kernel

theorem seg_index : ∀ t : Fin grid0.N, cc0_transform_9 (grid0.coords t) = ![t.val / 32, 1, 0, 0] ∧ cc0_transform_11 (grid0.coords t) = ![t.val / 32, 1, 0, 0]
    ∧ cc0_transform_12 (grid0.coords t) = ![t.val / 32, 1, 0, 0] := by decide +kernel

theorem flushes : (∀ t : Fin grid0.N, (cfg0.win 16).flush t = true) ∧ ∀ t : Fin grid0.N, (cfg0.win 17).flush t = true := by decide +kernel

theorem point_lt (t : Fin cfg0.N) : t.val < 64 := lt_of_lt_of_eq t.isLt N_0

/-- A point's sample. -/
def bAt (t : Fin cfg0.N) : Fin 2 := ⟨t.val / 32, by have := point_lt t; omega⟩

/-- The sequence's row at a point's row `r`. -/
def rAt (t : Fin cfg0.N) (r : Fin 256) : Fin 8192 := ⟨t.val % 32 * 256 + r.val, by omega⟩

variable (t : Fin cfg0.N)

/-- Where an element of a point's block of joint rows lies in the whole array. -/
theorem joint_coord {n N : ℕ} (r : Fin 256) (j : Fin n) (J : Fin N) (hJ : J.val = j.val) (e : Fin 3) :
    (![t.val / 32, t.val % 32 + 1, 0] : Fin 3 → ℕ) e * (![1, 256, n] : Fin 3 → ℕ) e + (ix3 (0 : Fin 1) r j e).val = (ix3 (bAt t) (later (rAt t r)) J e).val := by
  match e with
  | ⟨0, _⟩ => exact Nat.mul_one _
  | ⟨1, _⟩ =>
    show (t.val % 32 + 1) * 256 + r.val = 256 + (t.val % 32 * 256 + r.val)
    omega
  | ⟨2, _⟩ =>
    show 0 * n + j.val = J.val
    rw [hJ, Nat.zero_mul, Nat.zero_add]

/-- Where an element of a point's block of the sequence's rows lies in the whole array. -/
theorem seq_coord {n : ℕ} (r : Fin 256) (j : Fin n) (e : Fin 3) :
    (![t.val / 32, t.val % 32, 0] : Fin 3 → ℕ) e * (![1, 256, n] : Fin 3 → ℕ) e + (ix3 (0 : Fin 1) r j e).val = (ix3 (bAt t) (rAt t r) j e).val := by
  match e with
  | ⟨0, _⟩ => exact Nat.mul_one _
  | ⟨1, _⟩ => rfl
  | ⟨2, _⟩ =>
    show 0 * n + j.val = j.val
    rw [Nat.zero_mul, Nat.zero_add]

/-- Where an element of the sequence's segment lies in the whole array of vectors. -/
theorem seg_coord (k : Fin 1024) (e : Fin 4) :
    (![t.val / 32, 1, 0, 0] : Fin 4 → ℕ) e * S1x1x1x1024.size e + (ix4 (0 : Fin 1) (0 : Fin 1) (0 : Fin 1) k e).val = (ix4 (bAt t) (1 : Fin 2) (0 : Fin 1) k e).val := by
  match e with
  | ⟨0, _⟩ => exact Nat.mul_one _
  | ⟨1, _⟩ => rfl
  | ⟨2, _⟩ => rfl
  | ⟨3, _⟩ => exact Nat.zero_add _

theorem h_block (r : Fin 256) (k : Fin 1024) : (iblk m c 0 t : FVec Ideal S1x256x1024 .f32) (ix3 (0 : Fin 1) r k) = hArg m c (ix3 (bAt t) (later (rAt t r)) k) := by
  refine Eq.trans (congrArg (V m c main_arg0) (funext fun e => Fin.ext ?_)) (congrFun (V_main_arg0 m c) _)
  refine (Window.rect_emb_val (cfg0.win 0) t (ix3 (0 : Fin 1) r k) e).trans ?_
  rw [show (cfg0.win 0).index t = _ from (joint_index t).1]
  exact joint_coord t r k k rfl e

theorem hy_block (r : Fin 256) (k : Fin 512) : (iblk m c 1 t : FVec Ideal S1x256x512 .f32) (ix3 (0 : Fin 1) r k) = hyArg m c (ix3 (bAt t) (rAt t r) k) := by
  refine Eq.trans (congrArg (V m c main_arg1) (funext fun e => Fin.ext ?_)) (congrFun (V_main_arg1 m c) _)
  refine (Window.rect_emb_val (cfg0.win 1) t (ix3 (0 : Fin 1) r k) e).trans ?_
  rw [show (cfg0.win 1).index t = _ from (seq_index t).1]
  exact seq_coord t r k e

theorem yf_block (r : Fin 256) (k : Fin 512) : (iblk m c 2 t : FVec Ideal S1x256x512 .bf16) (ix3 (0 : Fin 1) r k) = yfArg m c (ix3 (bAt t) (later (rAt t r)) k) := by
  refine Eq.trans (congrArg (V m c main_arg2) (funext fun e => Fin.ext ?_)) (congrFun (V_main_arg2 m c) _)
  refine (Window.rect_emb_val (cfg0.win 2) t (ix3 (0 : Fin 1) r k) e).trans ?_
  rw [show (cfg0.win 2).index t = _ from (joint_index t).2.1]
  exact joint_coord t r k k rfl e

theorem yb_block (r : Fin 256) (k : Fin 512) : (iblk m c 3 t : FVec Ideal S1x256x512 .bf16) (ix3 (0 : Fin 1) r k) = ybArg m c (ix3 (bAt t) (later (rAt t r)) k) := by
  refine Eq.trans (congrArg (V m c main_arg3) (funext fun e => Fin.ext ?_)) (congrFun (V_main_arg3 m c) _)
  refine (Window.rect_emb_val (cfg0.win 3) t (ix3 (0 : Fin 1) r k) e).trans ?_
  rw [show (cfg0.win 3).index t = _ from (joint_index t).2.2.1]
  exact joint_coord t r k k rfl e

theorem xs_block (r : Fin 256) (k : Fin 512) : (iblk m c 4 t : FVec Ideal S1x256x512 .f32) (ix3 (0 : Fin 1) r k)
    = xbcArg m c (ix3 (bAt t) (later (rAt t r)) (⟨k.val, by omega⟩ : Fin 1024)) := by
  refine Eq.trans (congrArg (V m c main_arg4) (funext fun e => Fin.ext ?_)) (congrFun (V_main_arg4 m c) _)
  refine (Window.rect_emb_val (cfg0.win 4) t (ix3 (0 : Fin 1) r k) e).trans ?_
  rw [show (cfg0.win 4).index t = _ from (joint_index t).2.2.2.1]
  exact joint_coord t r k (⟨k.val, by omega⟩ : Fin 1024) rfl e

theorem z_block (r : Fin 256) (k : Fin 512) : (X0_5 m c t : FVec Ideal S1x256x512 .f32) (ix3 (0 : Fin 1) r k)
    = zdtArg m c (ix3 (bAt t) (later (rAt t r)) (⟨k.val, by omega⟩ : Fin 768)) := by
  unfold X0_5 Pipeline.Window.fill
  rw [dif_pos (moved0_5 t _)]
  refine Eq.trans (congrArg (V m c main_arg5) (funext fun e => Fin.ext ?_)) (congrFun (V_main_arg5 m c) _)
  refine (Window.rect_emb_val (cfg0.win 5) t _ e).trans ?_
  rw [show (cfg0.win 5).index t = _ from (joint_index t).2.2.2.2]
  exact joint_coord t r k (⟨k.val, by omega⟩ : Fin 768) rfl e

theorem gate_block (k : Fin 1024) : (iblk m c 9 t : FVec Ideal S1x1x1x1024 .f32) (ix4 (0 : Fin 1) (0 : Fin 1) (0 : Fin 1) k) = gateArg m c (ix4 (bAt t) (1 : Fin 2) (0 : Fin 1) k) := by
  refine Eq.trans (congrArg (V m c main_arg9) (funext fun e => Fin.ext ?_)) (congrFun (V_main_arg9 m c) _)
  refine (Window.rect_emb_val (cfg0.win 9) t (ix4 (0 : Fin 1) (0 : Fin 1) (0 : Fin 1) k) e).trans ?_
  rw [show (cfg0.win 9).index t = _ from (seg_index t).1]
  exact seg_coord t k e

theorem shift_block (k : Fin 1024) : (iblk m c 11 t : FVec Ideal S1x1x1x1024 .f32) (ix4 (0 : Fin 1) (0 : Fin 1) (0 : Fin 1) k) = shiftArg m c (ix4 (bAt t) (1 : Fin 2) (0 : Fin 1) k) := by
  refine Eq.trans (congrArg (V m c main_arg11) (funext fun e => Fin.ext ?_)) (congrFun (V_main_arg11 m c) _)
  refine (Window.rect_emb_val (cfg0.win 11) t (ix4 (0 : Fin 1) (0 : Fin 1) (0 : Fin 1) k) e).trans ?_
  rw [show (cfg0.win 11).index t = _ from (seg_index t).2.1]
  exact seg_coord t k e

theorem scale_block (k : Fin 1024) : (iblk m c 12 t : FVec Ideal S1x1x1x1024 .f32) (ix4 (0 : Fin 1) (0 : Fin 1) (0 : Fin 1) k) = scaleArg m c (ix4 (bAt t) (1 : Fin 2) (0 : Fin 1) k) := by
  refine Eq.trans (congrArg (V m c main_arg12) (funext fun e => Fin.ext ?_)) (congrFun (V_main_arg12 m c) _)
  refine (Window.rect_emb_val (cfg0.win 12) t (ix4 (0 : Fin 1) (0 : Fin 1) (0 : Fin 1) k) e).trans ?_
  rw [show (cfg0.win 12).index t = _ from (seg_index t).2.2]
  exact seg_coord t k e

/-- The windows whose one block is their whole array read it as it stands. -/
theorem whole_blocks : (iblk m c 6 t : FVec Ideal S1x512 .f32) = V m c main_v5 ∧ (iblk m c 7 t : FVec Ideal S1x512 .f32) = V m c main_v9
    ∧ (iblk m c 8 t : FVec Ideal S1024x1024 .bf16) = V m c main_v6 ∧ (iblk m c 10 t : FVec Ideal S1x1024 .f32) = V m c main_v7 := by
  have at_zero : ∀ (n0 n1 : ℕ) (e : Fin 2) (k : ℕ), (![0, 0] : Fin 2 → ℕ) e * (![n0, n1] : Fin 2 → ℕ) e + k = k := fun n0 n1 e k => match e with
    | ⟨0, _⟩ => by show 0 * n0 + k = k; omega
    | ⟨1, _⟩ => by show 0 * n1 + k = k; omega
  exact ⟨funext fun y => congrArg (V m c main_v5) (funext fun e => Fin.ext ((Window.rect_emb_val (cfg0.win 6) t y e).trans (at_zero _ _ e _))),
    funext fun y => congrArg (V m c main_v9) (funext fun e => Fin.ext ((Window.rect_emb_val (cfg0.win 7) t y e).trans (at_zero _ _ e _))),
    funext fun y => congrArg (V m c main_v6) (funext fun e => Fin.ext ((Window.rect_emb_val (cfg0.win 8) t y e).trans (at_zero _ _ e _))),
    funext fun y => congrArg (V m c main_v7) (funext fun e => Fin.ext ((Window.rect_emb_val (cfg0.win 10) t y e).trans (at_zero _ _ e _)))⟩

/-! ## What a grid point writes -/

/-- What the projection takes of a point's block. -/
abbrev featsAt : FVec Ideal S256x1024 .bf16 :=
  featsOf (iblk m c 1 t) (iblk m c 2 t) (iblk m c 3 t) (iblk m c 4 t) (X0_5 m c t) (iblk m c 6 t) (iblk m c 7 t)

theorem featsAt_apply (r : Fin 256) (j : Fin 1024) :
    featsAt m c t (ix2 r j) = featAt (hyArg m c) (yfArg m c) (ybArg m c) (xbcArg m c) (zdtArg m c) (dArg m c) (gnArg m c) (bAt t) (rAt t r) j := by
  have mid : midRow (iblk m c 2 t) (iblk m c 3 t) (iblk m c 4 t) (X0_5 m c t) (iblk m c 6 t) r
      = midAt (yfArg m c) (ybArg m c) (xbcArg m c) (zdtArg m c) (dArg m c) (bAt t) (rAt t r) := funext fun k => by
    unfold midRow midAt
    rw [yf_block, yb_block, xs_block, z_block, (whole_blocks m c t).1, skip_row]
  have gain : (fun q => (iblk m c 7 t : FVec Ideal S1x512 .f32) (ix2 (0 : Fin 1) q)) = fun q => gnArg m c (ix1 q) := funext fun q => by
    rw [(whole_blocks m c t).2.1, (prepared m c).2.2.2]
    exact as_row _ _ q
  refine (featsOf_apply _ _ _ _ _ _ _ r j).trans ?_
  unfold featAt
  rw [mid, gain]
  by_cases e : j.val < 512
  · rw [dif_pos e, dif_pos e]
    exact hy_block m c t r _
  · rw [dif_neg e, dif_neg e]

/-- A point's new rows. -/
theorem new_rows (r : Fin 256) : newRow (iblk m c 0 t) (iblk m c 8 t) (iblk m c 9 t) (featsAt m c t) r
    = hAt (hArg m c) (hyArg m c) (yfArg m c) (ybArg m c) (xbcArg m c) (zdtArg m c) (dArg m c) (gnArg m c) (wArg m c) (gateArg m c) (bAt t) (rAt t r) := by
  funext k
  have hw : ∀ a : Fin 1024, (iblk m c 8 t : FVec Ideal S1024x1024 .bf16) (ix2 a k) = wArg m c (ix2 a k) := fun a => by
    rw [(whole_blocks m c t).2.2.1, (prepared m c).2.1]
    rfl
  unfold newRow hAt
  rw [h_block, gate_block]
  simp only [featsAt_apply, hw]

/-- A point's write-back of the first result, whichever case runs. -/
theorem h_flushed (r : Fin 256) (k : Fin 1024) : (dats m 0 c).flushed 16 t (ix3 (0 : Fin 1) r k) = hEnd m c (ix3 (bAt t) (rAt t r) k) := by
  have written := (hBlock_apply (iblk m c 0 t) (iblk m c 1 t) (iblk m c 2 t) (iblk m c 3 t) (iblk m c 4 t) (X0_5 m c t) (iblk m c 6 t) (iblk m c 7 t) (iblk m c 8 t) (iblk m c 9 t) r k).trans
    (congrFun (new_rows m c t r) k)
  by_cases h0 : t.val % 64 = 0
  · refine (congrFun (Cert.Kernel5Ideal.Value.flushed16_A m c t h0) (ix3 (0 : Fin 1) r k)).trans ?_
    rw [written_A_16]
    exact written
  · refine (congrFun (Cert.Kernel5Ideal.Value.flushed16_B m c t h0) (ix3 (0 : Fin 1) r k)).trans ?_
    rw [written_B_16]
    exact written

/-- A point's write-back of the second result, whichever case runs. -/
theorem v_flushed (r : Fin 256) (k : Fin 1024) : (dats m 0 c).flushed 17 t (ix3 (0 : Fin 1) r k) = vEnd m c (ix3 (bAt t) (rAt t r) k) := by
  have hg : (fun a => (iblk m c 10 t : FVec Ideal S1x1024 .f32) (ix2 (0 : Fin 1) a)) = fun a => gArg m c (ix1 a) := funext fun a => by
    rw [(whole_blocks m c t).2.2.2, (prepared m c).2.2.1]
    exact as_row _ _ a
  have hsc : (fun a => (iblk m c 12 t : FVec Ideal S1x1x1x1024 .f32) (ix4 (0 : Fin 1) (0 : Fin 1) (0 : Fin 1) a)) = fun a => scaleArg m c (ix4 (bAt t) (1 : Fin 2) (0 : Fin 1) a) :=
    funext fun a => scale_block m c t a
  have hsh : (fun a => (iblk m c 11 t : FVec Ideal S1x1x1x1024 .f32) (ix4 (0 : Fin 1) (0 : Fin 1) (0 : Fin 1) a)) = fun a => shiftArg m c (ix4 (bAt t) (1 : Fin 2) (0 : Fin 1) a) :=
    funext fun a => shift_block m c t a
  have written := vBlock_apply (iblk m c 0 t) (iblk m c 1 t) (iblk m c 2 t) (iblk m c 3 t) (iblk m c 4 t) (X0_5 m c t) (iblk m c 6 t) (iblk m c 7 t) (iblk m c 8 t) (iblk m c 9 t) (iblk m c 10 t)
    (iblk m c 11 t) (iblk m c 12 t) r k
  rw [new_rows m c t r, hg, hsc, hsh] at written
  by_cases h0 : t.val % 64 = 0
  · refine (congrFun (Cert.Kernel5Ideal.Value.flushed17_A m c t h0) (ix3 (0 : Fin 1) r k)).trans ?_
    rw [written_A_17]
    exact written
  · refine (congrFun (Cert.Kernel5Ideal.Value.flushed17_B m c t h0) (ix3 (0 : Fin 1) r k)).trans ?_
    rw [written_B_17]
    exact written

/-! ## The arrays after the run -/

theorem point_of (b : Fin 2) (R : Fin 8192) : b.val * 32 + R.val / 256 < cfg0.N :=
  lt_of_lt_of_eq (by omega : b.val * 32 + R.val / 256 < 64) N_0.symm

theorem final_h : (dats m 0 c).arrAt 16 cfg0.N = hEnd m c := by
  refine (dats m 0 c).arrAt_eq_of_emb 16 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (h_flushed m c t r j).trans (congrArg (hEnd m c) (funext fun e => Fin.ext ?_))
    refine Eq.trans ?_ (Window.rect_emb_val (cfg0.win 16) t (ix3 (0 : Fin 1) r j) e).symm
    rw [show (cfg0.win 16).index t = _ from (seq_index t).2.1]
    exact (seq_coord t r j e).symm
  · obtain ⟨b, R, j, rfl⟩ : ∃ (b : Fin 2) (R : Fin 8192) (j : Fin 1024), i = ix3 b R j := ⟨_, _, _, eq_ix3 i⟩
    refine ⟨⟨_, point_of b R⟩, flushes.1 _, ((cfg0.win 16).emb_mem_blk_iff ⟨_, point_of b R⟩ (ix3 b R j)).2 fun e => ?_⟩
    rw [show (cfg0.win 16).index ⟨_, point_of b R⟩ = _ from (seq_index ⟨_, point_of b R⟩).2.1]
    exact covers _ _ b R j (by show (b.val * 32 + R.val / 256) / 32 = b.val; omega) (by show (b.val * 32 + R.val / 256) % 32 = R.val / 256; omega) e

theorem final_v : (dats m 0 c).arrAt 17 cfg0.N = vEnd m c := by
  refine (dats m 0 c).arrAt_eq_of_emb 17 _ (fun t _ y => ?_) (fun i => ?_)
  · obtain ⟨z, r, j, rfl⟩ : ∃ (z : Fin 1) (r : Fin 256) (j : Fin 1024), y = ix3 z r j := ⟨_, _, _, eq_ix3 y⟩
    obtain rfl : z = 0 := Subsingleton.elim _ _
    refine (v_flushed m c t r j).trans (congrArg (vEnd m c) (funext fun e => Fin.ext ?_))
    refine Eq.trans ?_ (Window.rect_emb_val (cfg0.win 17) t (ix3 (0 : Fin 1) r j) e).symm
    rw [show (cfg0.win 17).index t = _ from (seq_index t).2.2]
    exact (seq_coord t r j e).symm
  · obtain ⟨b, R, j, rfl⟩ : ∃ (b : Fin 2) (R : Fin 8192) (j : Fin 1024), i = ix3 b R j := ⟨_, _, _, eq_ix3 i⟩
    refine ⟨⟨_, point_of b R⟩, flushes.2 _, ((cfg0.win 17).emb_mem_blk_iff ⟨_, point_of b R⟩ (ix3 b R j)).2 fun e => ?_⟩
    rw [show (cfg0.win 17).index ⟨_, point_of b R⟩ = _ from (seq_index ⟨_, point_of b R⟩).2.2]
    exact covers _ _ b R j (by show (b.val * 32 + R.val / 256) / 32 = b.val; omega) (by show (b.val * 32 + R.val / 256) % 32 = R.val / 256; omega) e

/-! ## The claims -/

/-- The reference runs and ends clean: it has no counters. -/
theorem reference5Ideal_frame : quiescent_Reference5Ideal := by
  intro m g _
  exact (θ_run Cert.Reference5Ideal.defs _ _).mono (fun r k => ⟨fun c => (k c).2.2, sem_eq_zero_of_no_sems (by decide) r.2⟩)
    (Cert.Reference5Ideal.Value.run (F := Ideal) m g)

/-- Both programs end with the same two arrays. -/
theorem algebraic : algebraic_Kernel5Ideal_Reference5Ideal := by
  intro m g m' g' _ hm
  refine ⟨fun c => hEnd m c, fun c => vEnd m c, ?_, ?_⟩
  · exact (θ_run defs _ _).mono (fun _ k c => ⟨(k c).1.trans (final_h m c), (k c).2.1.trans (final_v m c), (k c).2.2.2.2.2⟩)
      (Cert.Kernel5Ideal.Value.run_blocks (F := Ideal) m g)
  · refine (θ_run Cert.Reference5Ideal.defs _ _).mono (fun _ k c => ⟨(k c).1.trans ?_, (k c).2.1.trans ?_, (k c).2.2⟩) (Cert.Reference5Ideal.Value.run (F := Ideal) m' g')
    · obtain ⟨e0, e1, e2, e3, e4, e5, e6, e7, e8, e9, _⟩ := hm c
      unfold Cert.Reference5Ideal.Value.res_main_v42
      rw [e0, e1, e2, e3, e4, e5, e6, e7, e8, e9]
      exact ref_h (hArg m c) (hyArg m c) (yfArg m c) (ybArg m c) (xbcArg m c) (zdtArg m c) (dArg m c) (gnArg m c) (wArg m c) (gateArg m c)
    · obtain ⟨e0, e1, e2, e3, e4, e5, e6, e7, e8, e9, e10, e11, e12, _⟩ := hm c
      unfold Cert.Reference5Ideal.Value.res_main_v66
      rw [e0, e1, e2, e3, e4, e5, e6, e7, e8, e9, e10, e11, e12]
      exact ref_v (hArg m c) (hyArg m c) (yfArg m c) (ybArg m c) (xbcArg m c) (zdtArg m c) (dArg m c) (gnArg m c) (wArg m c) (gateArg m c) (gArg m c) (shiftArg m c) (scaleArg m c)

end Cert.Odd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.ExpertsRun
public import proofs.«01_k».proof.Proof.ExpertsValue
public import Idealize.ShloMosaic.Adequacy
public import Idealize.ShloMosaic.Init
public import proofs.«01_k».proof.Proof.Gen.Kernel2.Frame
public import proofs.«01_k».proof.Proof.ProjValue
public import proofs.«01_k».proof.Proof.Gen.Kernel3.Frame
public import proofs.«01_k».proof.Proof.ConvValue
public import proofs.«01_k».proof.Proof.Gen.Kernel4.Frame
public import proofs.«01_k».proof.Proof.MixValue
public import proofs.«01_k».proof.Proof.Gen.Kernel5.Frame
public import proofs.«01_k».proof.Proof.OddValue

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_in_range.Gen.facts,
  Cert.Experts.kernel_frame, Cert.Experts.kernelIdeal_frame, Cert.Experts.referenceIdeal_frame,
  fun m g _ => Cert.Kernel2.Gen.frame m g, fun m g _ => Cert.Kernel2Ideal.Gen.frame m g, Cert.Proj.reference2Ideal_frame,
  fun m g _ => Cert.Kernel3.Gen.frame m g, fun m g _ => Cert.Kernel3Ideal.Gen.frame m g, Cert.Conv.reference3Ideal_frame,
  fun m g _ => Cert.Kernel4.Gen.frame m g, fun m g _ => Cert.Kernel4Ideal.Gen.frame m g, Cert.Mix.reference4Ideal_frame,
  fun m g _ => Cert.Kernel5.Gen.frame m g, fun m g _ => Cert.Kernel5Ideal.Gen.frame m g, Cert.Odd.reference5Ideal_frame,
  trivial, Cert.Experts.algebraic, trivial, Cert.Proj.algebraic, trivial, Cert.Conv.algebraic, trivial, Cert.Mix.algebraic,
  trivial, Cert.Odd.algebraic⟩

end Cert.Proof

end
